-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_mix [hPre_finite_mix : Cert.Pre_finite_mix.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))).1 = (fun _ => 1#1)
    ∧ (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))).2.1 = (fun _ => 1#1)
    ∧ (Cert.Pre_finite_mix.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_mix [hPre_finite_mix : Cert.Pre_finite_mix.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))).1 = (fun _ => 1#1)
    ∧ (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))).2.1 = (fun _ => 1#1)
    ∧ (Cert.Pre_finite_mix.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Kernel6Ideal_pre_finite_mix [hKernel6Ideal : Cert.Kernel6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_mix m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Reference6Ideal_pre_finite_mix [hReference6Ideal : Cert.Reference6Ideal.Facts] [hPre_finite_mix : Cert.Pre_finite_mix.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_mix m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_mix [hKernel6Ideal : Cert.Kernel6Ideal.Facts] [hReference6Ideal : Cert.Reference6Ideal.Facts] [hPre_finite_mix : Cert.Pre_finite_mix.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_mix m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v38)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v38) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v115) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_mix (hKernel6Ideal := hKernel6Ideal) (hPre_finite_mix := hPre_finite_mix)
    ∧ quiescent_Reference6Ideal (hReference6Ideal := hReference6Ideal)
    ∧ quiescent_Reference6Ideal_pre_finite_mix (hReference6Ideal := hReference6Ideal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_mix (hKernel6Ideal := hKernel6Ideal) (hReference6Ideal := hReference6Ideal) (hPre_finite_mix := hPre_finite_mix)
-- ==== Pre_finite.lean ====
abbrev S16x4096x1536 : Shape := ⟨3, ![16, 4096, 1536]⟩
abbrev S8x15x31 : Shape := ⟨3, ![8, 15, 31]⟩
abbrev S16x4096x1024 : Shape := ⟨3, ![16, 4096, 1024]⟩
abbrev S_ : Shape := ⟨0, ![]⟩

class Facts : Prop where
  slices_S16x4096x1536_S16x4096x1024_0_0_0 : S16x4096x1536.Slices ![0, 0, 0] S16x4096x1024
  bcast_S_S16x4096x1024 : S_.BroadcastsInDim S16x4096x1024 (![] : Fin 0 → Fin S16x4096x1024.rank)
  bcast_S_S8x15x31 : S_.BroadcastsInDim S8x15x31 (![] : Fin 0 → Fin S8x15x31.rank)

variable [Facts]

def fn {F : FTy → Type} [FloatOps F] (main_arg0 : FVec F S16x4096x1536 .bf16) (main_arg1 : FVec F S8x15x31 .f32) : IVec S16x4096x1024 1 × IVec S8x15x31 1 :=
  let main_v0 : FVec F S16x4096x1024 .bf16 := (extractStridedSlice S16x4096x1024 ![0, 0, 0] · slices_S16x4096x1536_S16x4096x1024_0_0_0) main_arg0
  let main_cst : FVec F S_ .bf16 := constant S_ .bf16 0xFF80#16
  let main_v1 : FVec F S16x4096x1024 .bf16 := broadcastInDim S16x4096x1024 ![] bcast_S_S16x4096x1024 main_cst
  let main_v2 : IVec S16x4096x1024 1 := cmpf .ogt main_v0 main_v1
  let main_cst_0 : FVec F S_ .bf16 := constant S_ .bf16 0x7F80#16
  let main_v3 : FVec F S16x4096x1024 .bf16 := broadcastInDim S16x4096x1024 ![] bcast_S_S16x4096x1024 main_cst_0
  let main_v4 : IVec S16x4096x1024 1 := cmpf .olt main_v0 main_v3
  let main_v5 : IVec S16x4096x1024 1 := andi main_v2 main_v4
  let main_cst_1 : FVec F S_ .f32 := constant S_ .f32 0xFF800000#32
  let main_v6 : FVec F S8x15x31 .f32 := broadcastInDim S8x15x31 ![] bcast_S_S8x15x31 main_cst_1
  let main_v7 : IVec S8x15x31 1 := cmpf .ogt main_arg1 main_v6
  let main_cst_2 : FVec F S_ .f32 := constant S_ .f32 0x7F800000#32
  let main_v8 : FVec F S8x15x31 .f32 := broadcastInDim S8x15x31 ![] bcast_S_S8x15x31 main_cst_2
  let main_v9 : IVec S8x15x31 1 := cmpf .olt main_arg1 main_v8
  let main_v10 : IVec S8x15x31 1 := andi main_v7 main_v9
  (main_v5, main_v10)
-- ==== Pre_finite_mix.lean ====
abbrev S16x4096x1024 : Shape := ⟨3, ![16, 4096, 1024]⟩
abbrev S16x4096x512 : Shape := ⟨3, ![16, 4096, 512]⟩
abbrev S16x4096x1920 : Shape := ⟨3, ![16, 4096, 1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S1024x1024 : Shape := ⟨2, ![1024, 1024]⟩
abbrev S16x4096x1536 : Shape := ⟨3, ![16, 4096, 1536]⟩
abbrev S_ : Shape := ⟨0, ![]⟩

class Facts : Prop where
  slices_S16x4096x1920_S16x4096x1536_0_0_0 : S16x4096x1920.Slices ![0, 0, 0] S16x4096x1536
  bcast_S_S16x4096x1536 : S_.BroadcastsInDim S16x4096x1536 (![] : Fin 0 → Fin S16x4096x1536.rank)
  bcast_S_S512 : S_.BroadcastsInDim S512 (![] : Fin 0 → Fin S512.rank)
  bcast_S_S8x64 : S_.BroadcastsInDim S8x64 (![] : Fin 0 → Fin S8x64.rank)

variable [Facts]

def fn {F : FTy → Type} [FloatOps F] (main_arg0 : FVec F S16x4096x1024 .f32) (main_arg1 : FVec F S16x4096x512 .bf16) (main_arg2 : FVec F S16x4096x512 .f32) (main_arg3 : FVec F S16x4096x512 .f32) (main_arg4 : FVec F S16x4096x1920 .f32) (main_arg5 : FVec F S2x512 .f32) (main_arg6 : FVec F S2x64x512 .f32) (main_arg7 : FVec F S128x512 .f32) (main_arg8 : FVec F S512 .f32) (main_arg9 : FVec F S8x64 .f32) (main_arg10 : FVec F S512 .f32) (main_arg11 : FVec F S512 .f32) (main_arg12 : FVec F S1024x1024 .f32) : IVec S16x4096x1536 1 × IVec S512 1 × IVec S8x64 1 :=
  let main_v0 : FVec F S16x4096x1536 .f32 := (extractStridedSlice S16x4096x1536 ![0, 0, 0] · slices_S16x4096x1920_S16x4096x1536_0_0_0) main_arg4
  let main_cst : FVec F S_ .f32 := constant S_ .f32 0xFF800000#32
  let main_v1 : FVec F S16x4096x1536 .f32 := broadcastInDim S16x4096x1536 ![] bcast_S_S16x4096x1536 main_cst
  let main_v2 : IVec S16x4096x1536 1 := cmpf .ogt main_v0 main_v1
  let main_cst_0 : FVec F S_ .f32 := constant S_ .f32 0x7F800000#32
  let main_v3 : FVec F S16x4096x1536 .f32 := broadcastInDim S16x4096x1536 ![] bcast_S_S16x4096x1536 main_cst_0
  let main_v4 : IVec S16x4096x1536 1 := cmpf .olt main_v0 main_v3
  let main_v5 : IVec S16x4096x1536 1 := andi main_v2 main_v4
  let main_cst_1 : FVec F S_ .f32 := constant S_ .f32 0xFF800000#32
  let main_v6 : FVec F S512 .f32 := broadcastInDim S512 ![] bcast_S_S512 main_cst_1
  let main_v7 : IVec S512 1 := cmpf .ogt main_arg8 main_v6
  let main_cst_2 : FVec F S_ .f32 := constant S_ .f32 0x7F800000#32
  let main_v8 : FVec F S512 .f32 := broadcastInDim S512 ![] bcast_S_S512 main_cst_2
  let main_v9 : IVec S512 1 := cmpf .olt main_arg8 main_v8
  let main_v10 : IVec S512 1 := andi main_v7 main_v9
  let main_cst_3 : FVec F S_ .f32 := constant S_ .f32 0xFF800000#32
  let main_v11 : FVec F S8x64 .f32 := broadcastInDim S8x64 ![] bcast_S_S8x64 main_cst_3
  let main_v12 : IVec S8x64 1 := cmpf .ogt main_arg9 main_v11
  let main_cst_4 : FVec F S_ .f32 := constant S_ .f32 0x7F800000#32
  let main_v13 : FVec F S8x64 .f32 := broadcastInDim S8x64 ![] bcast_S_S8x64 main_cst_4
  let main_v14 : IVec S8x64 1 := cmpf .olt main_arg9 main_v13
  let main_v15 : IVec S8x64 1 := andi main_v12 main_v14
  (main_v5, main_v10, main_v15)
-- ==== Kernel.lean ====
abbrev S16x4096x1536 : Shape := ⟨3, ![16, 4096, 1536]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S4x2x14x64x128 : Shape := ⟨5, ![4, 2, 14, 64, 128]⟩
abbrev S4x14x2x64x128 : Shape := ⟨5, ![4, 14, 2, 64, 128]⟩
abbrev S4x14x128x128 : Shape := ⟨4, ![4, 14, 128, 128]⟩
abbrev S16x4096x512 : Shape := ⟨3, ![16, 4096, 512]⟩
abbrev S1x512x512 : Shape := ⟨3, ![1, 512, 512]⟩
abbrev S1x1024x512 : Shape := ⟨3, ![1, 1024, 512]⟩
abbrev S64x128 : Shape := ⟨2, ![64, 128]⟩
abbrev S1x64x128 : Shape := ⟨3, ![1, 64, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x128 : Shape := ⟨4, ![1, 1, 128, 128]⟩
abbrev S128 : Shape := ⟨1, ![128]⟩
abbrev S128x1 : Shape := ⟨2, ![128, 1]⟩
abbrev S64x512 : Shape := ⟨2, ![64, 512]⟩
abbrev S1x64x512 : Shape := ⟨3, ![1, 64, 512]⟩

abbrev nBuf : Space → Nat
  | .hbm => 66
  | .vmem => 9
  | .smem => 0
  | _ => 0

abbrev bufTy : (tb : Table) → Fin (tcTables nBuf tb) → BufTy
  | .hbm, ⟨0, _⟩ => ⟨S16x4096x1536, .bf16⟩
  | .hbm, ⟨1, _⟩ => ⟨S8x15x31, .f32⟩
  | .hbm, ⟨2, _⟩ => ⟨S64, .i32⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S1x64, .i32⟩
  | .hbm, ⟨16, _⟩ => ⟨S64x1, .i32⟩
  | .hbm, ⟨17, _⟩ => ⟨S64x64, .i32⟩
  | .hbm, ⟨18, _⟩ => ⟨S64x64, .i32⟩
  | .hbm, ⟨19, _⟩ => ⟨S64x64, .i1⟩
  | .hbm, ⟨20, _⟩ => ⟨S1x64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i32⟩
  | .hbm, ⟨25, _⟩ => ⟨S64x64, .i32⟩
  | .hbm, ⟨26, _⟩ => ⟨S64x64, .i32⟩
  | .hbm, ⟨27, _⟩ => ⟨S64x64, .i1⟩
  | .hbm, ⟨28, _⟩ => ⟨S64x64, .i1⟩
  | .hbm, ⟨29, _⟩ => ⟨S1x64, .i32⟩
  | .hbm, ⟨30, _⟩ => ⟨S64x1, .i32⟩
  | .hbm, ⟨31, _⟩ => ⟨S64x64, .i32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i1⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64, .i32⟩
  | .hbm, ⟨52, _⟩ => ⟨S64x64x1, .i32⟩
  | .hbm, ⟨53, _⟩ => ⟨S8x15x64x64, .f32⟩
  | .hbm, ⟨54, _⟩ => ⟨S_, .f32⟩
  | .hbm, ⟨55, _⟩ => ⟨S_, .f32⟩
  | .hbm, ⟨56, _⟩ => ⟨S8x15x64x64, .i1⟩
  | .hbm, ⟨57, _⟩ => ⟨S8x15x64x64, .f32⟩
  | .hbm, ⟨58, _⟩ => ⟨S8x15x64x64, .f32⟩
  | .hbm, ⟨59, _⟩ => ⟨S8x14x64x64, .f32⟩
  | .hbm, ⟨60, _⟩ => ⟨S8x14x64x64, .f32⟩
  | .hbm, ⟨61, _⟩ => ⟨S8x14x64x128, .f32⟩
  | .hbm, ⟨62, _⟩ => ⟨S4x2x14x64x128, .f32⟩
  | .hbm, ⟨63, _⟩ => ⟨S4x14x2x64x128, .f32⟩
  | .hbm, ⟨64, _⟩ => ⟨S4x14x128x128, .f32⟩
  | .hbm, ⟨65, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S4x14x128x128, .f32⟩
  | .local _ .vmem, ⟨7, _⟩ => ⟨S1x512x512, .bf16⟩
  | .local _ .vmem, ⟨8, _⟩ => ⟨S1x512x512, .bf16⟩
  | _, _ => ⟨S16x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_c_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_0 : BitVec 32 := 0#32
  let c2_i32 : BitVec 32 := 2#32
  let v8 : BitVec 32 := Scalar.addi c0_i32_0 c2_i32
  let c1_i32 : BitVec 32 := 1#32
  ⟨c0_i32_0, v8, c1_i32⟩
def k0_mult1 (i : grid0.Coords) (k0_t1 : Fin k0_t1_loop.trips) : BitVec 32 :=
  let c56_i32 : BitVec 32 := 56#32
  let c0_i32_6 : BitVec 32 := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let c0_i32_3 : BitVec 32 := 0#32
  let v10 : BitVec 32 := Scalar.addi v9 c0_i32_3
  let v12 : BitVec 32 := Scalar.addi v11 v10
  let c4_i32_5 : BitVec 32 := 4#32
  let v13 : BitVec 32 := Scalar.subi v12 c4_i32_5
  let v14 : BitVec 32 := Scalar.maxsi c0_i32_6 v13
  let v15 : BitVec 32 := Scalar.minsi c56_i32 v14
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v17 : BitVec 32 := Scalar.subi v15 v3
  let c64_i32_7 : BitVec 32 := 64#32
  let v18 : BitVec 32 := Scalar.muli v17 c64_i32_7
  v18
def k0_mult2 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let c0_i32_3 : BitVec 32 := 0#32
  let v10 : BitVec 32 := Scalar.addi v9 c0_i32_3
  let c64_i32_8 : BitVec 32 := 64#32
  let v20 : BitVec 32 := Scalar.muli v10 c64_i32_8
  v20
def k0_mult3 (i : grid0.Coords) (k0_t1 : Fin k0_t1_loop.trips) : BitVec 32 :=
  let c56_i32_14 : BitVec 32 := 56#32
  let c0_i32_13 : BitVec 32 := 0#32
  let arg1 : BitVec 32 := BitVec.ofNat 32 (i 1).val
  let c8_i32_11 : BitVec 32 := 8#32
  let v24 : BitVec 32 := Scalar.muli arg1 c8_i32_11
  let c0_i32_0 : BitVec 32 := 0#32
  let c1_i32 : BitVec 32 := 1#32
  let arg7 : BitVec 32 := Scf.iv c0_i32_0 c1_i32 k0_t1
  let c4_i32_9 : BitVec 32 := 4#32
  let v22 : BitVec 32 := Scalar.muli arg7 c4_i32_9
  let c1_i32_10 : BitVec 32 := 1#32
  let v23 : BitVec 32 := Scalar.addi v22 c1_i32_10
  let v25 : BitVec 32 := Scalar.addi v24 v23
  let c4_i32_12 : BitVec 32 := 4#32
  let v26 : BitVec 32 := Scalar.subi v25 c4_i32_12
  let v27 : BitVec 32 := Scalar.maxsi c0_i32_13 v26
  let v28 : BitVec 32 := Scalar.minsi c56_i32_14 v27
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v30 : BitVec 32 := Scalar.subi v28 v3
  let c64_i32_15 : BitVec 32 := 64#32
  let v31 : BitVec 32 := Scalar.muli v30 c64_i32_15
  v31
def k0_mult4 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c4_i32_9 : BitVec 32 := 4#32
  let v22 : BitVec 32 := Scalar.muli arg7 c4_i32_9
  let c1_i32_10 : BitVec 32 := 1#32
  let v23 : BitVec 32 := Scalar.addi v22 c1_i32_10
  let c64_i32_16 : BitVec 32 := 64#32
  let v33 : BitVec 32 := Scalar.muli v23 c64_i32_16
  v33
def k0_mult5 (i : grid0.Coords) (k0_t1 : Fin k0_t1_loop.trips) : BitVec 32 :=
  let c56_i32_22 : BitVec 32 := 56#32
  let c0_i32_21 : BitVec 32 := 0#32
  let arg1 : BitVec 32 := BitVec.ofNat 32 (i 1).val
  let c8_i32_19 : BitVec 32 := 8#32
  let v37 : BitVec 32 := Scalar.muli arg1 c8_i32_19
  let c0_i32_0 : BitVec 32 := 0#32
  let c1_i32 : BitVec 32 := 1#32
  let arg7 : BitVec 32 := Scf.iv c0_i32_0 c1_i32 k0_t1
  let c4_i32_17 : BitVec 32 := 4#32
  let v35 : BitVec 32 := Scalar.muli arg7 c4_i32_17
  let c2_i32_18 : BitVec 32 := 2#32
  let v36 : BitVec 32 := Scalar.addi v35 c2_i32_18
  let v38 : BitVec 32 := Scalar.addi v37 v36
  let c4_i32_20 : BitVec 32 := 4#32
  let v39 : BitVec 32 := Scalar.subi v38 c4_i32_20
  let v40 : BitVec 32 := Scalar.maxsi c0_i32_21 v39
  let v41 : BitVec 32 := Scalar.minsi c56_i32_22 v40
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v43 : BitVec 32 := Scalar.subi v41 v3
  let c64_i32_23 : BitVec 32 := 64#32
  let v44 : BitVec 32 := Scalar.muli v43 c64_i32_23
  v44
def k0_mult6 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c4_i32_17 : BitVec 32 := 4#32
  let v35 : BitVec 32 := Scalar.muli arg7 c4_i32_17
  let c2_i32_18 : BitVec 32 := 2#32
  let v36 : BitVec 32 := Scalar.addi v35 c2_i32_18
  let c64_i32_24 : BitVec 32 := 64#32
  let v46 : BitVec 32 := Scalar.muli v36 c64_i32_24
  v46
def k0_mult7 (i : grid0.Coords) (k0_t1 : Fin k0_t1_loop.trips) : BitVec 32 :=
  let c56_i32_29 : BitVec 32 := 56#32
  let c0_i32_28 : BitVec 32 := 0#32
  let arg1 : BitVec 32 := BitVec.ofNat 32 (i 1).val
  let c8_i32_26 : BitVec 32 := 8#32
  let v50 : BitVec 32 := Scalar.muli arg1 c8_i32_26
  let c0_i32_0 : BitVec 32 := 0#32
  let c1_i32 : BitVec 32 := 1#32
  let arg7 : BitVec 32 := Scf.iv c0_i32_0 c1_i32 k0_t1
  let c4_i32_25 : BitVec 32 := 4#32
  let v48 : BitVec 32 := Scalar.muli arg7 c4_i32_25
  let c3_i32 : BitVec 32 := 3#32
  let v49 : BitVec 32 := Scalar.addi v48 c3_i32
  let v51 : BitVec 32 := Scalar.addi v50 v49
  let c4_i32_27 : BitVec 32 := 4#32
  let v52 : BitVec 32 := Scalar.subi v51 c4_i32_27
  let v53 : BitVec 32 := Scalar.maxsi c0_i32_28 v52
  let v54 : BitVec 32 := Scalar.minsi c56_i32_29 v53
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v56 : BitVec 32 := Scalar.subi v54 v3
  let c64_i32_30 : BitVec 32 := 64#32
  let v57 : BitVec 32 := Scalar.muli v56 c64_i32_30
  v57
def k0_mult8 (k0_t1 : Fin k0_t1_loop.trips) : BitVec 32 :=
  let c0_i32_0 : BitVec 32 := 0#32
  let c1_i32 : BitVec 32 := 1#32
  let arg7 : BitVec 32 := Scf.iv c0_i32_0 c1_i32 k0_t1
  let c4_i32_25 : BitVec 32 := 4#32
  let v48 : BitVec 32 := Scalar.muli arg7 c4_i32_25
  let c3_i32 : BitVec 32 := 3#32
  let v49 : BitVec 32 := Scalar.addi v48 c3_i32
  let c64_i32_31 : BitVec 32 := 64#32
  let v59 : BitVec 32 := Scalar.muli v49 c64_i32_31
  v59
def k0_off1 (k0_t1 : Fin k0_t1_loop.trips) (c0_i32_3 : BitVec 32) : Fin 3 → Nat :=
  let c0 : Index := 0#32
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let c64_i32_8 : BitVec 32 := 64#32
  let v20 : BitVec 32 := Scalar.muli v10 c64_i32_8
  let v21 : BitVec 32 := v20
  let v61 : Index := Scalar.indexCast v21
  let c0_32 : Index := 0#32
  ![0, v61.toNat, 0]
def k0_off2 (k0_t1 : Fin k0_t1_loop.trips) (c0_i32_3 : BitVec 32) : Fin 3 → Nat :=
  let c0_33 : Index := 0#32
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let c64_i32_8 : BitVec 32 := 64#32
  let v20 : BitVec 32 := Scalar.muli v10 c64_i32_8
  let v21 : BitVec 32 := v20
  let v64 : Index := Scalar.indexCast v21
  let c128 : Index := 128#32
  ![0, v64.toNat, 128]
def k0_off3 (k0_t1 : Fin k0_t1_loop.trips) (c0_i32_3 : BitVec 32) : Fin 3 → Nat :=
  let c0_34 : Index := 0#32
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let c64_i32_8 : BitVec 32 := 64#32
  let v20 : BitVec 32 := Scalar.muli v10 c64_i32_8
  let v21 : BitVec 32 := v20
  let v67 : Index := Scalar.indexCast v21
  let c256 : Index := 256#32
  ![0, v67.toNat, 256]
def k0_off4 (k0_t1 : Fin k0_t1_loop.trips) (c0_i32_3 : BitVec 32) : Fin 3 → Nat :=
  let c0_35 : Index := 0#32
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let c64_i32_8 : BitVec 32 := 64#32
  let v20 : BitVec 32 := Scalar.muli v10 c64_i32_8
  let v21 : BitVec 32 := v20
  let v70 : Index := Scalar.indexCast v21
  let c384 : Index := 384#32
  ![0, v70.toNat, 384]
def k0_off5 (i : grid0.Coords) (k0_t1 : Fin k0_t1_loop.trips) (c0_i32_3 : BitVec 32) : Fin 3 → Nat :=
  let c0_60 : Index := 0#32
  let c56_i32 : BitVec 32 := 56#32
  let c0_i32_6 : BitVec 32 := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c4_i32_5 : BitVec 32 := 4#32
  let v13 : BitVec 32 := Scalar.subi v12 c4_i32_5
  let v14 : BitVec 32 := Scalar.maxsi c0_i32_6 v13
  let v15 : BitVec 32 := Scalar.minsi c56_i32 v14
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v17 : BitVec 32 := Scalar.subi v15 v3
  let c64_i32_7 : BitVec 32 := 64#32
  let v18 : BitVec 32 := Scalar.muli v17 c64_i32_7
  let v19 : BitVec 32 := v18
  let v157 : Index := Scalar.indexCast v19
  let c0_61 : Index := 0#32
  ![0, v157.toNat, 0]
def k0_off6 (i : grid0.Coords) (k0_t1 : Fin k0_t1_loop.trips) (c0_i32_3 : BitVec 32) : Fin 3 → Nat :=
  let c0_63 : Index := 0#32
  let c56_i32 : BitVec 32 := 56#32
  let c0_i32_6 : BitVec 32 := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c4_i32_5 : BitVec 32 := 4#32
  let v13 : BitVec 32 := Scalar.subi v12 c4_i32_5
  let v14 : BitVec 32 := Scalar.maxsi c0_i32_6 v13
  let v15 : BitVec 32 := Scalar.minsi c56_i32 v14
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v17 : BitVec 32 := Scalar.subi v15 v3
  let c64_i32_7 : BitVec 32 := 64#32
  let v18 : BitVec 32 := Scalar.muli v17 c64_i32_7
  let v19 : BitVec 32 := v18
  let v161 : Index := Scalar.indexCast v19
  let c128_64 : Index := 128#32
  ![0, v161.toNat, 128]
def k0_off7 (i : grid0.Coords) (k0_t1 : Fin k0_t1_loop.trips) (c0_i32_3 : BitVec 32) : Fin 3 → Nat :=
  let c0_66 : Index := 0#32
  let c56_i32 : BitVec 32 := 56#32
  let c0_i32_6 : BitVec 32 := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c4_i32_5 : BitVec 32 := 4#32
  let v13 : BitVec 32 := Scalar.subi v12 c4_i32_5
  let v14 : BitVec 32 := Scalar.maxsi c0_i32_6 v13
  let v15 : BitVec 32 := Scalar.minsi c56_i32 v14
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v17 : BitVec 32 := Scalar.subi v15 v3
  let c64_i32_7 : BitVec 32 := 64#32
  let v18 : BitVec 32 := Scalar.muli v17 c64_i32_7
  let v19 : BitVec 32 := v18
  let v165 : Index := Scalar.indexCast v19
  let c256_67 : Index := 256#32
  ![0, v165.toNat, 256]
def k0_off8 (i : grid0.Coords) (k0_t1 : Fin k0_t1_loop.trips) (c0_i32_3 : BitVec 32) : Fin 3 → Nat :=
  let c0_69 : Index := 0#32
  let c56_i32 : BitVec 32 := 56#32
  let c0_i32_6 : BitVec 32 := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c4_i32_5 : BitVec 32 := 4#32
  let v13 : BitVec 32 := Scalar.subi v12 c4_i32_5
  let v14 : BitVec 32 := Scalar.maxsi c0_i32_6 v13
  let v15 : BitVec 32 := Scalar.minsi c56_i32 v14
  let c48_i32 : BitVec 32 := 48#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c48_i32 v2
  let v17 : BitVec 32 := Scalar.subi v15 v3
  let c64_i32_7 : BitVec 32 := 64#32
  let v18 : BitVec 32 := Scalar.muli v17 c64_i32_7
  let v19 : BitVec 32 := v18
  let v169 : Index := Scalar.indexCast v19
  let c384_70 : Index := 384#32
  ![0, v169.toNat, 384]
def k0_off9 (i : grid0.Coords) (k0_t1 : Fin k0_t1_loop.trips) (c0_i32_108 : BitVec 32) (c0_i32_3 : BitVec 32) : Fin 4 → Nat :=
  let c0_109 : Index := 0#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c56_i32 : BitVec 32 := 56#32
  let c0_i32_6 : BitVec 32 := 0#32
  let c4_i32_5 : BitVec 32 := 4#32
  let v13 : BitVec 32 := Scalar.subi v12 c4_i32_5
  let v14 : BitVec 32 := Scalar.maxsi c0_i32_6 v13
  let v15 : BitVec 32 := Scalar.minsi c56_i32 v14
  let v16 : BitVec 32 := Scalar.subi v12 v15
  let v221 : BitVec 32 := Scalar.subi c0_i32_108 v16
  let c7_i32 : BitVec 32 := 7#32
  let v222 : BitVec 32 := Scalar.addi v221 c7_i32
  let v223 : Index := Scalar.indexCast v222
  let c0_110 : Index := 0#32
  let c0_111 : Index := 0#32
  ![0, v223.toNat, 0, 0]
def k0_off10 (i : grid0.Coords) (k0_t1 : Fin k0_t1_loop.trips) (c0_i32_126 : BitVec 32) (c0_i32_3 : BitVec 32) : Fin 4 → Nat :=
  let c1 : Index := 1#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c56_i32 : BitVec 32 := 56#32
  let c0_i32_6 : BitVec 32 := 0#32
  let c4_i32_5 : BitVec 32 := 4#32
  let v13 : BitVec 32 := Scalar.subi v12 c4_i32_5
  let v14 : BitVec 32 := Scalar.maxsi c0_i32_6 v13
  let v15 : BitVec 32 := Scalar.minsi c56_i32 v14
  let v16 : BitVec 32 := Scalar.subi v12 v15
  let v243 : BitVec 32 := Scalar.subi c0_i32_126 v16
  let c7_i32_127 : BitVec 32 := 7#32
  let v244 : BitVec 32 := Scalar.addi v243 c7_i32_127
  let v245 : Index := Scalar.indexCast v244
  let c0_128 : Index := 0#32
  let c0_129 : Index := 0#32
  ![1, v245.toNat, 0, 0]
def k0_off11 (i : grid0.Coords) (k0_t1 : Fin k0_t1_loop.trips) (c0_i32_145 : BitVec 32) (c0_i32_3 : BitVec 32) : Fin 4 → Nat :=
  let c2 : Index := 2#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c56_i32 : BitVec 32 := 56#32
  let c0_i32_6 : BitVec 32 := 0#32
  let c4_i32_5 : BitVec 32 := 4#32
  let v13 : BitVec 32 := Scalar.subi v12 c4_i32_5
  let v14 : BitVec 32 := Scalar.maxsi c0_i32_6 v13
  let v15 : BitVec 32 := Scalar.minsi c56_i32 v14
  let v16 : BitVec 32 := Scalar.subi v12 v15
  let v265 : BitVec 32 := Scalar.subi c0_i32_145 v16
  let c7_i32_146 : BitVec 32 := 7#32
  let v266 : BitVec 32 := Scalar.addi v265 c7_i32_146
  let v267 : Index := Scalar.indexCast v266
  let c0_147 : Index := 0#32
  let c0_148 : Index := 0#32
  ![2, v267.toNat, 0, 0]
def k0_off12 (i : grid0.Coords) (k0_t1 : Fin k0_t1_loop.trips) (c0_i32_164 : BitVec 32) (c0_i32_3 : BitVec 32) : Fin 4 → Nat :=
  let c3 : Index := 3#32
  let arg1 : BitVec 32 := BitVec.ofNat 32 (i 1).val
  let c8_i32_4 : BitVec 32 := 8#32
  let v11 : BitVec 32 := Scalar.muli arg1 c8_i32_4
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let v12 : BitVec 32 := Scalar.addi v11 v10
  let c56_i32 : BitVec 32 := 56#32
  let c0_i32_6 : BitVec 32 := 0#32
  let c4_i32_5 : BitVec 32 := 4#32
  let v13 : BitVec 32 := Scalar.subi v12 c4_i32_5
  let v14 : BitVec 32 := Scalar.maxsi c0_i32_6 v13
  let v15 : BitVec 32 := Scalar.minsi c56_i32 v14
  let v16 : BitVec 32 := Scalar.subi v12 v15
  let v287 : BitVec 32 := Scalar.subi c0_i32_164 v16
  let c7_i32_165 : BitVec 32 := 7#32
  let v288 : BitVec 32 := Scalar.addi v287 c7_i32_165
  let v289 : Index := Scalar.indexCast v288
  let c0_166 : Index := 0#32
  let c0_167 : Index := 0#32
  ![3, v289.toNat, 0, 0]
def k0_off13 (k0_t1 : Fin k0_t1_loop.trips) (c0_i32_3 : BitVec 32) : Fin 3 → Nat :=
  let c0_519 : Index := 0#32
  let c0_i32_0 : BitVec 32 := 0#32
  let c1_i32 : BitVec 32 := 1#32
  let arg7 : BitVec 32 := Scf.iv c0_i32_0 c1_i32 k0_t1
  let c4_i32_2 : BitVec 32 := 4#32
  let v9 : BitVec 32 := Scalar.muli arg7 c4_i32_2
  let v10 : BitVec 32 := Scalar.addi v9 c0_i32_3
  let c64_i32_8 : BitVec 32 := 64#32
  let v20 : BitVec 32 := Scalar.muli v10 c64_i32_8
  let v21 : BitVec 32 := v20
  let v879 : Index := Scalar.indexCast v21
  let c0_520 : Index := 0#32
  ![0, v879.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c48_i32 : BitVec 32 := 48#32
  let v2 : BitVec 32 := Scalar.maxsi c0_i32 v1
  let v3 : BitVec 32 := Scalar.minsi c48_i32 v2
  let c64_i32 : BitVec 32 := 64#32
  let v4 : BitVec 32 := Scalar.muli v3 c64_i32
  let c512_i32 : BitVec 32 := 512#32
  let c0_i32_0 : BitVec 32 := 0#32
  ![arg0.toNat, v4.toNat, c512_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c48_i32 : BitVec 32 := 48#32
  let v2 : BitVec 32 := Scalar.maxsi c0_i32 v1
  let v3 : BitVec 32 := Scalar.minsi c48_i32 v2
  let c64_i32 : BitVec 32 := 64#32
  let v4 : BitVec 32 := Scalar.muli v3 c64_i32
  let c1024_i32 : BitVec 32 := 1024#32
  let c0_i32_0 : BitVec 32 := 0#32
  ![arg0.toNat, v4.toNat, c1024_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x14x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16x4096x1536 : Shape := ⟨3, ![16, 4096, 1536]⟩
abbrev S8x15x31 : Shape := ⟨3, ![8, 15, 31]⟩
abbrev S16x4096x512 : Shape := ⟨3, ![16, 4096, 512]⟩
abbrev S16x64x64x8x64 : Shape := ⟨5, ![16, 64, 64, 8, 64]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S8 : Shape := ⟨1, ![8]⟩
abbrev S1x8 : Shape := ⟨2, ![1, 8]⟩
abbrev S64x8 : Shape := ⟨2, ![64, 8]⟩
abbrev S64x8x1 : Shape := ⟨3, ![64, 8, 1]⟩
abbrev S16x64x8x64x8x64 : Shape := ⟨6, ![16, 64, 8, 64, 8, 64]⟩
abbrev S64x16x1 : Shape := ⟨3, ![64, 16, 1]⟩
abbrev S16x64x8x64x16x8x64 : Shape := ⟨7, ![16, 64, 8, 64, 16, 8, 64]⟩
abbrev S64x8x1x1 : Shape := ⟨4, ![64, 8, 1, 1]⟩
abbrev S1x1x64x16 : Shape := ⟨4, ![1, 1, 64, 16]⟩
abbrev S64x8x64x16 : Shape := ⟨4, ![64, 8, 64, 16]⟩
abbrev S64x8x64x16x1 : Shape := ⟨5, ![64, 8, 64, 16, 1]⟩
abbrev S64x8x64x16x2 : Shape := ⟨5, ![64, 8, 64, 16, 2]⟩
abbrev S8x64x8x64x16 : Shape := ⟨5, ![8, 64, 8, 64, 16]⟩
abbrev S16x8x64x64x8x16 : Shape := ⟨6, ![16, 8, 64, 64, 8, 16]⟩
abbrev S8x64x64x8x16 : Shape := ⟨5, ![8, 64, 64, 8, 16]⟩
abbrev S1x8x64x64x8x16 : Shape := ⟨6, ![1, 8, 64, 64, 8, 16]⟩
abbrev S16x8x64x64x128 : Shape := ⟨5, ![16, 8, 64, 64, 128]⟩
abbrev S16x8x64x64 : Shape := ⟨4, ![16, 8, 64, 64]⟩
abbrev S16x8x64x64x1 : Shape := ⟨5, ![16, 8, 64, 64, 1]⟩

abbrev nBuf : Space → Nat
  | .hbm => 139
  | .vmem => 0
  | .smem => 0
  | _ => 0

abbrev hbmTy0_0 (i : Nat) : BufTy := match i % 128 with
  | 0 => ⟨S16x4096x1536, .bf16⟩
  | 1 => ⟨S8x15x31, .f32⟩
  | 2 => ⟨S16x4096x1536, .f32⟩
  | 3 => ⟨S16x4096x512, .f32⟩
  | 4 => ⟨S16x64x64x8x64, .f32⟩
  | 5 => ⟨S16x4096x512, .f32⟩
  | 6 => ⟨S16x64x64x8x64, .f32⟩
  | 7 => ⟨S16x4096x512, .f32⟩
  | 8 => ⟨S16x64x64x8x64, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S64x1, .i32⟩
  | 22 => ⟨S16, .i32⟩
  | 23 => ⟨S1x16, .i32⟩
  | 24 => ⟨S64x16, .i32⟩
  | 25 => ⟨S64x16, .i32⟩
  | 26 => ⟨S64x16, .i32⟩
  | 27 => ⟨S64x1, .i32⟩
  | 28 => ⟨S64x16, .i32⟩
  | 29 => ⟨S64x16, .i32⟩
  | 30 => ⟨S_, .i32⟩
  | 31 => ⟨S64x16, .i32⟩
  | 32 => ⟨S64x16, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64x1, .i32⟩
  | 46 => ⟨S8, .i32⟩
  | 47 => ⟨S1x8, .i32⟩
  | 48 => ⟨S64x8, .i32⟩
  | 49 => ⟨S64x8, .i32⟩
  | 50 => ⟨S64x8, .i32⟩
  | 51 => ⟨S64x1, .i32⟩
  | 52 => ⟨S64x8, .i32⟩
  | 53 => ⟨S64x8, .i32⟩
  | 54 => ⟨S_, .i32⟩
  | 55 => ⟨S64x8, .i32⟩
  | 56 => ⟨S64x8, .i32⟩
  | 57 => ⟨S_, .i32⟩
  | 58 => ⟨S64x8, .i32⟩
  | 59 => ⟨S64x8, .i1⟩
  | 60 => ⟨S_, .i32⟩
  | 61 => ⟨S64x8, .i32⟩
  | 62 => ⟨S64x8, .i32⟩
  | 63 => ⟨S64x8, .i32⟩
  | 64 => ⟨S64x8x1, .i32⟩
  | 65 => ⟨S16x64x8x64x8x64, .f32⟩
  | 66 => ⟨S_, .i32⟩
  | 67 => ⟨S64x16, .i32⟩
  | 68 => ⟨S64x16, .i1⟩
  | 69 => ⟨S_, .i32⟩
  | 70 => ⟨S64x16, .i32⟩
  | 71 => ⟨S64x16, .i32⟩
  | 72 => ⟨S64x16, .i32⟩
  | 73 => ⟨S64x16x1, .i32⟩
  | 74 => ⟨S16x64x8x64x16x8x64, .f32⟩
  | 75 => ⟨S_, .i32⟩
  | 76 => ⟨S64x8, .i32⟩
  | 77 => ⟨S64x8, .i1⟩
  | 78 => ⟨S_, .i32⟩
  | 79 => ⟨S64x8, .i32⟩
  | 80 => ⟨S64x8, .i32⟩
  | 81 => ⟨S64x8, .i32⟩
  | 82 => ⟨S64x8x1, .i32⟩
  | 83 => ⟨S16x64x8x64x8x64, .f32⟩
  | 84 => ⟨S_, .i32⟩
  | 85 => ⟨S64x16, .i32⟩
  | 86 => ⟨S64x16, .i1⟩
  | 87 => ⟨S_, .i32⟩
  | 88 => ⟨S64x16, .i32⟩
  | 89 => ⟨S64x16, .i32⟩
  | 90 => ⟨S64x16, .i32⟩
  | 91 => ⟨S64x16x1, .i32⟩
  | 92 => ⟨S16x64x8x64x16x8x64, .f32⟩
  | 93 => ⟨S64x8x1x1, .i32⟩
  | 94 => ⟨S1x1x64x16, .i32⟩
  | 95 => ⟨S_, .i32⟩
  | 96 => ⟨S64x8x1x1, .i32⟩
  | 97 => ⟨S64x8x1x1, .i1⟩
  | 98 => ⟨S_, .i32⟩
  | 99 => ⟨S64x8x1x1, .i32⟩
  | 100 => ⟨S64x8x1x1, .i32⟩
  | 101 => ⟨S64x8x1x1, .i32⟩
  | 102 => ⟨S_, .i32⟩
  | 103 => ⟨S1x1x64x16, .i32⟩
  | 104 => ⟨S1x1x64x16, .i1⟩
  | 105 => ⟨S_, .i32⟩
  | 106 => ⟨S1x1x64x16, .i32⟩
  | 107 => ⟨S1x1x64x16, .i32⟩
  | 108 => ⟨S1x1x64x16, .i32⟩
  | 109 => ⟨S64x8x64x16, .i32⟩
  | 110 => ⟨S64x8x64x16, .i32⟩
  | 111 => ⟨S64x8x64x16x1, .i32⟩
  | 112 => ⟨S64x8x64x16x1, .i32⟩
  | 113 => ⟨S64x8x64x16x2, .i32⟩
  | 114 => ⟨S8x64x8x64x16, .f32⟩
  | 115 => ⟨S16x8x64x64x8x16, .f32⟩
  | 116 => ⟨S8x64x64x8x16, .f32⟩
  | 117 => ⟨S1x8x64x64x8x16, .f32⟩
  | 118 => ⟨S16x8x64x64x8x16, .f32⟩
  | 119 => ⟨S16x8x64x64x8x16, .f32⟩
  | 120 => ⟨S16x8x64x64x128, .f32⟩
  | 121 => ⟨S_, .f32⟩
  | 122 => ⟨S16x8x64x64, .f32⟩
  | 123 => ⟨S_, .f32⟩
  | 124 => ⟨S16x8x64x64, .f32⟩
  | 125 => ⟨S16x8x64x64, .f32⟩
  | 126 => ⟨S16x8x64x64x1, .f32⟩
  | 127 => ⟨S16x8x64x64x128, .f32⟩
  | _ => ⟨S16x4096x1536, .bf16⟩

abbrev hbmTy0_1 (i : Nat) : BufTy := match i % 128 with
  | 0 => ⟨S16x8x64x64x128, .f32⟩
  | 1 => ⟨S16x8x64x64x128, .f32⟩
  | 2 => ⟨S_, .f32⟩
  | 3 => ⟨S16x8x64x64, .f32⟩
  | 4 => ⟨S16x8x64x64x1, .f32⟩
  | 5 => ⟨S16x8x64x64x128, .f32⟩
  | 6 => ⟨S16x8x64x64x128, .f32⟩
  | 7 => ⟨S16x8x64x64x8x16, .f32⟩
  | 8 => ⟨S16x64x64x8x64, .f32⟩
  | 9 => ⟨S16x4096x512, .f32⟩
  | 10 => ⟨S16x4096x512, .bf16⟩
  | _ => ⟨S16x4096x1536, .bf16⟩

abbrev hbmTy (i : Nat) : BufTy := match i / 128 with
  | 0 => hbmTy0_0 i
  | 1 => hbmTy0_1 i
  | _ => ⟨S16x4096x1536, .bf16⟩

abbrev bufTy : (tb : Table) → Fin (tcTables nBuf tb) → BufTy
  | .hbm, ⟨i, _⟩ => hbmTy i
  | _, _ => ⟨S16x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_c_5 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_15 : Ref sig .tc := ⟨.hbm, 95, rfl⟩
abbrev main_v67 : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_v73 : Ref sig .tc := ⟨.hbm, 104, rfl⟩
abbrev main_c_18 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_20 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Kernel2.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S65536x1024 : Shape := ⟨2, ![65536, 1024]⟩
abbrev S1x1024 : Shape := ⟨2, ![1, 1024]⟩
abbrev S2x65536x256 : Shape := ⟨3, ![2, 65536, 256]⟩
abbrev S512x1024 : Shape := ⟨2, ![512, 1024]⟩
abbrev S1x512x256 : Shape := ⟨3, ![1, 512, 256]⟩
abbrev S256 : Shape := ⟨1, ![256]⟩
abbrev S256x1 : Shape := ⟨2, ![256, 1]⟩
abbrev S256x2816 : Shape := ⟨2, ![256, 2816]⟩
abbrev S1x256x256 : Shape := ⟨3, ![1, 256, 256]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S65536x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S2x65536x256, .f32⟩
  | .hbm, ⟨16, _⟩ => ⟨S1x1024, .f32⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16x4096x1024 : Shape := ⟨3, ![16, 4096, 1024]⟩
abbrev S2x16x4096x256 : Shape := ⟨4, ![2, 16, 4096, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S1x16x4096x256 : Shape := ⟨4, ![1, 16, 4096, 256]⟩
abbrev S16x4096x256 : Shape := ⟨3, ![16, 4096, 256]⟩
abbrev S65536x1024 : Shape := ⟨2, ![65536, 1024]⟩

abbrev nBuf : Space → Nat
  | .hbm => 90
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S2x16x4096x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S16x4096x1024, .f32⟩
  | .hbm, ⟨11, _⟩ => ⟨S_, .f32⟩
  | .hbm, ⟨12, _⟩ => ⟨S16x4096, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S_, .f32⟩
  | .hbm, ⟨18, _⟩ => ⟨S16x4096x1, .f32⟩
  | .hbm, ⟨19, _⟩ => ⟨S16x4096x1, .f32⟩
  | .hbm, ⟨20, _⟩ => ⟨S16x4096x1, .f32⟩
  | .hbm, ⟨21, _⟩ => ⟨S16x4096x1024, .f32⟩
  | .hbm, ⟨22, _⟩ => ⟨S16x4096x1024, .f32⟩
  | .hbm, ⟨23, _⟩ => ⟨S1x1x1024, .f32⟩
  | .hbm, ⟨24, _⟩ => ⟨S16x4096x1024, .f32⟩
  | .hbm, ⟨25, _⟩ => ⟨S16x4096x1024, .f32⟩
  | .hbm, ⟨26, _⟩ => ⟨S16x4096x2816, .f32⟩
  | .hbm, ⟨27, _⟩ => ⟨S16x4096x2816, .f32⟩
  | .hbm, ⟨28, _⟩ => ⟨S16x4096x2816, .f32⟩
  | .hbm, ⟨29, _⟩ => ⟨S_, .f32⟩
  | .hbm, ⟨30, _⟩ => ⟨S16x4096x2816, .f32⟩
  | .hbm, ⟨31, _⟩ => ⟨S16x4096x2816, .f32⟩
  | .hbm, ⟨32, _⟩ => ⟨S_, .f32⟩
  | .hbm, ⟨33, _⟩ => ⟨S16x4096x2816, .f32⟩
  | .hbm, ⟨34, _⟩ => ⟨S16x4096x2816, .f32⟩
  | .hbm, ⟨35, _⟩ => ⟨S16x4096x2816, .f32⟩
  | .hbm, ⟨36, _⟩ => ⟨S16x4096x2816, .f32⟩
  | .hbm, ⟨37, _⟩ => ⟨S16x4096x2816, .f32⟩
  | .hbm, ⟨38, _⟩ => ⟨S16x4096x1024, .f32⟩
  | .hbm, ⟨39, _⟩ => ⟨S_, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S_, .f32⟩
  | .hbm, ⟨45, _⟩ => ⟨S16x4096, .f32⟩
  | .hbm, ⟨46, _⟩ => ⟨S16x4096x1, .f32⟩
  | .hbm, ⟨47, _⟩ => ⟨S_, .f32⟩
  | .hbm, ⟨48, _⟩ => ⟨S16x4096x1, .f32⟩
  | .hbm, ⟨49, _⟩ => ⟨S16x4096x1, .f32⟩
  | .hbm, ⟨50, _⟩ => ⟨S_, .f32⟩
  | .hbm, ⟨51, _⟩ => ⟨S16x4096x1, .f32⟩
  | .hbm, ⟨52, _⟩ => ⟨S16x4096x1, .f32⟩
  | .hbm, ⟨53, _⟩ => ⟨S16x4096x1, .f32⟩
  | .hbm, ⟨54, _⟩ => ⟨S16x4096x1024, .f32⟩
  | .hbm, ⟨55, _⟩ => ⟨S16x4096x1024, .f32⟩
  | .hbm, ⟨56, _⟩ => ⟨S1x1x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x4096x1024, .f32⟩
  | .hbm, ⟨64, _⟩ => ⟨S16x4096x1024, .f32⟩
  | .hbm, ⟨65, _⟩ => ⟨S_, .f32⟩
  | .hbm, ⟨66, _⟩ => ⟨S16x4096x1024, .f32⟩
  | .hbm, ⟨67, _⟩ => ⟨S16x4096x1024, .f32⟩
  | .hbm, ⟨68, _⟩ => ⟨S1x16x4096x256, .f32⟩
  | .hbm, ⟨69, _⟩ => ⟨S16x4096x256, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | .hbm, ⟨73, _⟩ => ⟨S16x4096x1024, .f32⟩
  | .hbm, ⟨74, _⟩ => ⟨S_, .f32⟩
  | .hbm, ⟨75, _⟩ => ⟨S16x4096, .f32⟩
  | .hbm, ⟨76, _⟩ => ⟨S16x4096x1, .f32⟩
  | .hbm, ⟨77, _⟩ => ⟨S_, .f32⟩
  | .hbm, ⟨78, _⟩ => ⟨S16x4096x1, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S16x4096x1, .f32⟩
  | .hbm, ⟨84, _⟩ => ⟨S16x4096x1024, .f32⟩
  | .hbm, ⟨85, _⟩ => ⟨S16x4096x1024, .f32⟩
  | .hbm, ⟨86, _⟩ => ⟨S1x1x1024, .f32⟩
  | .hbm, ⟨87, _⟩ => ⟨S16x4096x1024, .f32⟩
  | .hbm, ⟨88, _⟩ => ⟨S16x4096x1024, .f32⟩
  | .hbm, ⟨89, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x2x16384x256 : Shape := ⟨4, ![2, 2, 16384, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S32768x1024 : Shape := ⟨2, ![32768, 1024]⟩
abbrev S1x1024 : Shape := ⟨2, ![1, 1024]⟩
abbrev S2x32768x256 : Shape := ⟨3, ![2, 32768, 256]⟩
abbrev S512x1024 : Shape := ⟨2, ![512, 1024]⟩
abbrev S1x512x256 : Shape := ⟨3, ![1, 512, 256]⟩
abbrev S256 : Shape := ⟨1, ![256]⟩
abbrev S256x1 : Shape := ⟨2, ![256, 1]⟩
abbrev S256x2816 : Shape := ⟨2, ![256, 2816]⟩
abbrev S1x256x256 : Shape := ⟨3, ![1, 256, 256]⟩
abbrev S256x256 : Shape := ⟨2, ![256, 256]⟩

abbrev nBuf : Space → Nat
  | .hbm => 21
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x2x16384x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S32768x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S2x32768x256, .f32⟩
  | .hbm, ⟨16, _⟩ => ⟨S1x1024, .f32⟩
  | .hbm, ⟨17, _⟩ => ⟨S1024x1024, .bf16⟩
  | .hbm, ⟨18, _⟩ => ⟨S256x1024, .bf16⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x16384x1024 : Shape := ⟨3, ![2, 16384, 1024]⟩
abbrev S2x2x16384x256 : Shape := ⟨4, ![2, 2, 16384, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩
abbrev S1x2x16384x256 : Shape := ⟨4, ![1, 2, 16384, 256]⟩
abbrev S2x16384x256 : Shape := ⟨3, ![2, 16384, 256]⟩
abbrev S32768x1024 : Shape := ⟨2, ![32768, 1024]⟩

abbrev nBuf : Space → Nat
  | .hbm => 90
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x2x16384x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S2x16384x2816, .f32⟩
  | .hbm, ⟨27, _⟩ => ⟨S2x16384x2816, .f32⟩
  | .hbm, ⟨28, _⟩ => ⟨S2x16384x2816, .f32⟩
  | .hbm, ⟨29, _⟩ => ⟨S_, .f32⟩
  | .hbm, ⟨30, _⟩ => ⟨S2x16384x2816, .f32⟩
  | .hbm, ⟨31, _⟩ => ⟨S2x16384x2816, .f32⟩
  | .hbm, ⟨32, _⟩ => ⟨S_, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S2x16384x2816, .f32⟩
  | .hbm, ⟨38, _⟩ => ⟨S2x16384x1024, .f32⟩
  | .hbm, ⟨39, _⟩ => ⟨S_, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S_, .f32⟩
  | .hbm, ⟨45, _⟩ => ⟨S2x16384, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S2x16384x1, .f32⟩
  | .hbm, ⟨54, _⟩ => ⟨S2x16384x1024, .f32⟩
  | .hbm, ⟨55, _⟩ => ⟨S2x16384x1024, .f32⟩
  | .hbm, ⟨56, _⟩ => ⟨S1x1x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S2x16384x1024, .f32⟩
  | .hbm, ⟨62, _⟩ => ⟨S_, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384x1024, .f32⟩
  | .hbm, ⟨67, _⟩ => ⟨S2x16384x1024, .f32⟩
  | .hbm, ⟨68, _⟩ => ⟨S1x2x16384x256, .f32⟩
  | .hbm, ⟨69, _⟩ => ⟨S2x16384x256, .f32⟩
  | .hbm, ⟨70, _⟩ => ⟨S2x16384x1024, .f32⟩
  | .hbm, ⟨71, _⟩ => ⟨S2x16384x1024, .f32⟩
  | .hbm, ⟨72, _⟩ => ⟨S2x16384x1024, .f32⟩
  | .hbm, ⟨73, _⟩ => ⟨S2x16384x1024, .f32⟩
  | .hbm, ⟨74, _⟩ => ⟨S_, .f32⟩
  | .hbm, ⟨75, _⟩ => ⟨S2x16384, .f32⟩
  | .hbm, ⟨76, _⟩ => ⟨S2x16384x1, .f32⟩
  | .hbm, ⟨77, _⟩ => ⟨S_, .f32⟩
  | .hbm, ⟨78, _⟩ => ⟨S2x16384x1, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S2x16384x1, .f32⟩
  | .hbm, ⟨84, _⟩ => ⟨S2x16384x1024, .f32⟩
  | .hbm, ⟨85, _⟩ => ⟨S2x16384x1024, .f32⟩
  | .hbm, ⟨86, _⟩ => ⟨S1x1x1024, .f32⟩
  | .hbm, ⟨87, _⟩ => ⟨S2x16384x1024, .f32⟩
  | .hbm, ⟨88, _⟩ => ⟨S2x16384x1024, .f32⟩
  | .hbm, ⟨89, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Kernel4.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 11
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S65536x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x4096x1024 : Shape := ⟨3, ![16, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2816 : Shape := ⟨3, ![16, 4096, 2816]⟩
abbrev S65536x1024 : Shape := ⟨2, ![65536, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x2816, .f32⟩
  | .hbm, ⟨22, _⟩ => ⟨S16x4096x2816, .f32⟩
  | .hbm, ⟨23, _⟩ => ⟨S16x4096x2816, .f32⟩
  | .hbm, ⟨24, _⟩ => ⟨S_, .f32⟩
  | .hbm, ⟨25, _⟩ => ⟨S16x4096x2816, .f32⟩
  | .hbm, ⟨26, _⟩ => ⟨S16x4096x2816, .f32⟩
  | .hbm, ⟨27, _⟩ => ⟨S_, .f32⟩
  | .hbm, ⟨28, _⟩ => ⟨S16x4096x2816, .f32⟩
  | .hbm, ⟨29, _⟩ => ⟨S16x4096x2816, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x1024, .f32⟩
  | .hbm, ⟨34, _⟩ => ⟨S_, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel5.lean ====
abbrev S16x4096x1024 : Shape := ⟨3, ![16, 4096, 1024]⟩
abbrev S1024 : Shape := ⟨1, ![1024]⟩
abbrev S1024x3456 : Shape := ⟨2, ![1024, 3456]⟩
abbrev S1920 : Shape := ⟨1, ![1920]⟩
abbrev S65536x1024 : Shape := ⟨2, ![65536, 1024]⟩
abbrev S1x1024 : Shape := ⟨2, ![1, 1024]⟩
abbrev S1024x1536 : Shape := ⟨2, ![1024, 1536]⟩
abbrev S1024x1920 : Shape := ⟨2, ![1024, 1920]⟩
abbrev S1x1920 : Shape := ⟨2, ![1, 1920]⟩
abbrev S65536x1536 : Shape := ⟨2, ![65536, 1536]⟩
abbrev S65536x1920 : Shape := ⟨2, ![65536, 1920]⟩
abbrev S512x1024 : Shape := ⟨2, ![512, 1024]⟩
abbrev S8x1024 : Shape := ⟨2, ![8, 1024]⟩
abbrev S512x1536 : Shape := ⟨2, ![512, 1536]⟩
abbrev S512x1920 : Shape := ⟨2, ![512, 1920]⟩
abbrev S1x1536 : Shape := ⟨2, ![1, 1536]⟩
abbrev S256x1024 : Shape := ⟨2, ![256, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S256x1536 : Shape := ⟨2, ![256, 1536]⟩
abbrev S272x1024 : Shape := ⟨2, ![272, 1024]⟩
abbrev S272x1920 : Shape := ⟨2, ![272, 1920]⟩
abbrev S8x1920 : Shape := ⟨2, ![8, 1920]⟩
abbrev S256x1920 : Shape := ⟨2, ![256, 1920]⟩

abbrev nBuf : Space → Nat
  | .hbm => 12
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3456, .f32⟩
  | .hbm, ⟨3, _⟩ => ⟨S1920, .f32⟩
  | .hbm, ⟨4, _⟩ => ⟨S1024x3456, .bf16⟩
  | .hbm, ⟨5, _⟩ => ⟨S65536x1024, .f32⟩
  | .hbm, ⟨6, _⟩ => ⟨S1x1024, .f32⟩
  | .hbm, ⟨7, _⟩ => ⟨S1024x1536, .bf16⟩
  | .hbm, ⟨8, _⟩ => ⟨S1024x1920, .bf16⟩
  | .hbm, ⟨9, _⟩ => ⟨S1x1920, .f32⟩
  | .hbm, ⟨10, _⟩ => ⟨S65536x1536, .bf16⟩
  | .hbm, ⟨11, _⟩ => ⟨S65536x1920, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x1536, .bf16⟩
  | .local _ .vmem, ⟨8, _⟩ => ⟨S1024x1920, .bf16⟩
  | .local _ .vmem, ⟨9, _⟩ => ⟨S1x1920, .f32⟩
  | .local _ .vmem, ⟨10, _⟩ => ⟨S512x1536, .bf16⟩
  | .local _ .vmem, ⟨11, _⟩ => ⟨S512x1536, .bf16⟩
  | .local _ .vmem, ⟨12, _⟩ => ⟨S512x1920, .f32⟩
  | .local _ .vmem, ⟨13, _⟩ => ⟨S512x1920, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c8191_i32 : BitVec 32 := 8191#32
  let v2 : BitVec 32 := Scalar.minsi v1 c8191_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1920 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1920 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16x4096x1024 : Shape := ⟨3, ![16, 4096, 1024]⟩
abbrev S1024 : Shape := ⟨1, ![1024]⟩
abbrev S1024x3456 : Shape := ⟨2, ![1024, 3456]⟩
abbrev S1920 : Shape := ⟨1, ![1920]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3456 : Shape := ⟨3, ![16, 4096, 3456]⟩
abbrev S16x4096x512 : Shape := ⟨3, ![16, 4096, 512]⟩
abbrev S16x4096x1920 : Shape := ⟨3, ![16, 4096, 1920]⟩
abbrev S16x4095x1920 : Shape := ⟨3, ![16, 4095, 1920]⟩
abbrev S1x1x1920 : Shape := ⟨3, ![1, 1, 1920]⟩
abbrev S16x4096x1536 : Shape := ⟨3, ![16, 4096, 1536]⟩
abbrev S65536x1536 : Shape := ⟨2, ![65536, 1536]⟩
abbrev S65536x1920 : Shape := ⟨2, ![65536, 1920]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3456, .f32⟩
  | .hbm, ⟨3, _⟩ => ⟨S1920, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x4096x3456, .f32⟩
  | .hbm, ⟨21, _⟩ => ⟨S16x4096x512, .f32⟩
  | .hbm, ⟨22, _⟩ => ⟨S_, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x512, .f32⟩
  | .hbm, ⟨27, _⟩ => ⟨S16x4096x1920, .f32⟩
  | .hbm, ⟨28, _⟩ => ⟨S16x4095x1920, .f32⟩
  | .hbm, ⟨29, _⟩ => ⟨S_, .i32⟩
  | .hbm, ⟨30, _⟩ => ⟨S_, .f32⟩
  | .hbm, ⟨31, _⟩ => ⟨S16x4096x1920, .f32⟩
  | .hbm, ⟨32, _⟩ => ⟨S16x4095x1920, .f32⟩
  | .hbm, ⟨33, _⟩ => ⟨S_, .i32⟩
  | .hbm, ⟨34, _⟩ => ⟨S_, .f32⟩
  | .hbm, ⟨35, _⟩ => ⟨S16x4096x1920, .f32⟩
  | .hbm, ⟨36, _⟩ => ⟨S16x4096x1920, .f32⟩
  | .hbm, ⟨37, _⟩ => ⟨S_, .f32⟩
  | .hbm, ⟨38, _⟩ => ⟨S16x4096x1920, .f32⟩
  | .hbm, ⟨39, _⟩ => ⟨S16x4096x1920, .f32⟩
  | .hbm, ⟨40, _⟩ => ⟨S16x4096x1920, .f32⟩
  | .hbm, ⟨41, _⟩ => ⟨S1x1x1920, .f32⟩
  | .hbm, ⟨42, _⟩ => ⟨S16x4096x1920, .f32⟩
  | .hbm, ⟨43, _⟩ => ⟨S16x4096x1920, .f32⟩
  | .hbm, ⟨44, _⟩ => ⟨S16x4096x1920, .f32⟩
  | .hbm, ⟨45, _⟩ => ⟨S16x4096x1536, .f32⟩
  | .hbm, ⟨46, _⟩ => ⟨S16x4096x1536, .bf16⟩
  | .hbm, ⟨47, _⟩ => ⟨S65536x1536, .bf16⟩
  | .hbm, ⟨48, _⟩ => ⟨S65536x1920, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_call1_v0 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel6.lean ====
abbrev S16x4096x1024 : Shape := ⟨3, ![16, 4096, 1024]⟩
abbrev S16x4096x512 : Shape := ⟨3, ![16, 4096, 512]⟩
abbrev S16x4096x1920 : Shape := ⟨3, ![16, 4096, 1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S1024x1024 : Shape := ⟨2, ![1024, 1024]⟩
abbrev S1x64x512 : Shape := ⟨3, ![1, 64, 512]⟩
abbrev S64x512 : Shape := ⟨2, ![64, 512]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x512 : Shape := ⟨2, ![1, 512]⟩
abbrev S65536x1024 : Shape := ⟨2, ![65536, 1024]⟩
abbrev S65536x512 : Shape := ⟨2, ![65536, 512]⟩
abbrev S65536x1920 : Shape := ⟨2, ![65536, 1920]⟩
abbrev S512x1024 : Shape := ⟨2, ![512, 1024]⟩
abbrev S512x512 : Shape := ⟨2, ![512, 512]⟩
abbrev S512x128 : Shape := ⟨2, ![512, 128]⟩
abbrev S256x512 : Shape := ⟨2, ![256, 512]⟩
abbrev S256x128 : Shape := ⟨2, ![256, 128]⟩
abbrev S256x1024 : Shape := ⟨2, ![256, 1024]⟩

abbrev nBuf : Space → Nat
  | .hbm => 87
  | .vmem => 31
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .f32⟩
  | .hbm, ⟨3, _⟩ => ⟨S16x4096x512, .f32⟩
  | .hbm, ⟨4, _⟩ => ⟨S16x4096x1920, .f32⟩
  | .hbm, ⟨5, _⟩ => ⟨S2x512, .f32⟩
  | .hbm, ⟨6, _⟩ => ⟨S2x64x512, .f32⟩
  | .hbm, ⟨7, _⟩ => ⟨S128x512, .f32⟩
  | .hbm, ⟨8, _⟩ => ⟨S512, .f32⟩
  | .hbm, ⟨9, _⟩ => ⟨S8x64, .f32⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S1x64x512, .f32⟩
  | .hbm, ⟨14, _⟩ => ⟨S64x512, .f32⟩
  | .hbm, ⟨15, _⟩ => ⟨S_, .f32⟩
  | .hbm, ⟨16, _⟩ => ⟨S64x512, .f32⟩
  | .hbm, ⟨17, _⟩ => ⟨S1x64x512, .f32⟩
  | .hbm, ⟨18, _⟩ => ⟨S64x512, .f32⟩
  | .hbm, ⟨19, _⟩ => ⟨S128x512, .f32⟩
  | .hbm, ⟨20, _⟩ => ⟨S128x512, .bf16⟩
  | .hbm, ⟨21, _⟩ => ⟨S1x64x512, .f32⟩
  | .hbm, ⟨22, _⟩ => ⟨S64x512, .f32⟩
  | .hbm, ⟨23, _⟩ => ⟨S128x512, .f32⟩
  | .hbm, ⟨24, _⟩ => ⟨S128x512, .bf16⟩
  | .hbm, ⟨25, _⟩ => ⟨S256, .i32⟩
  | .hbm, ⟨26, _⟩ => ⟨S256x1, .i32⟩
  | .hbm, ⟨27, _⟩ => ⟨S_, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S256x1, .i1⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x1, .i32⟩
  | .hbm, ⟨45, _⟩ => ⟨S1x256, .i32⟩
  | .hbm, ⟨46, _⟩ => ⟨S_, .i32⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x256, .i32⟩
  | .hbm, ⟨55, _⟩ => ⟨S1x256, .i32⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S1x256, .i1⟩
  | .hbm, ⟨60, _⟩ => ⟨S_, .i32⟩
  | .hbm, ⟨61, _⟩ => ⟨S1x256, .i32⟩
  | .hbm, ⟨62, _⟩ => ⟨S1x256, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S1x512, .f32⟩
  | .hbm, ⟨69, _⟩ => ⟨S1x512, .f32⟩
  | .hbm, ⟨70, _⟩ => ⟨S512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S512, .f32⟩
  | .hbm, ⟨75, _⟩ => ⟨S1x512, .f32⟩
  | .hbm, ⟨76, _⟩ => ⟨S1x512, .f32⟩
  | .hbm, ⟨77, _⟩ => ⟨S128x512, .bf16⟩
  | .hbm, ⟨78, _⟩ => ⟨S1x512, .f32⟩
  | .hbm, ⟨79, _⟩ => ⟨S1x512, .f32⟩
  | .hbm, ⟨80, _⟩ => ⟨S1024x1024, .bf16⟩
  | .hbm, ⟨81, _⟩ => ⟨S65536x1024, .f32⟩
  | .hbm, ⟨82, _⟩ => ⟨S65536x512, .bf16⟩
  | .hbm, ⟨83, _⟩ => ⟨S65536x512, .f32⟩
  | .hbm, ⟨84, _⟩ => ⟨S65536x512, .f32⟩
  | .hbm, ⟨85, _⟩ => ⟨S65536x1920, .f32⟩
  | .hbm, ⟨86, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512, .f32⟩
  | .local _ .vmem, ⟨19, _⟩ => ⟨S128x512, .bf16⟩
  | .local _ .vmem, ⟨20, _⟩ => ⟨S1x512, .f32⟩
  | .local _ .vmem, ⟨21, _⟩ => ⟨S128x512, .bf16⟩
  | .local _ .vmem, ⟨22, _⟩ => ⟨S1x512, .f32⟩
  | .local _ .vmem, ⟨23, _⟩ => ⟨S1x512, .f32⟩
  | .local _ .vmem, ⟨24, _⟩ => ⟨S128x512, .bf16⟩
  | .local _ .vmem, ⟨25, _⟩ => ⟨S1x512, .f32⟩
  | .local _ .vmem, ⟨26, _⟩ => ⟨S1x512, .f32⟩
  | .local _ .vmem, ⟨27, _⟩ => ⟨S256x256, .bf16⟩
  | .local _ .vmem, ⟨28, _⟩ => ⟨S1024x1024, .bf16⟩
  | .local _ .vmem, ⟨29, _⟩ => ⟨S512x1024, .f32⟩
  | .local _ .vmem, ⟨30, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v13 : Ref sig .tc := ⟨.hbm, 44, rfl⟩
abbrev main_v14 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S16x4096x1024 : Shape := ⟨3, ![16, 4096, 1024]⟩
abbrev S16x4096x512 : Shape := ⟨3, ![16, 4096, 512]⟩
abbrev S16x4096x1920 : Shape := ⟨3, ![16, 4096, 1920]⟩
abbrev S2x512 : Shape := ⟨2, ![2, 512]⟩
abbrev S2x64x512 : Shape := ⟨3, ![2, 64, 512]⟩
abbrev S128x512 : Shape := ⟨2, ![128, 512]⟩
abbrev S512 : Shape := ⟨1, ![512]⟩
abbrev S8x64 : Shape := ⟨2, ![8, 64]⟩
abbrev S1024x1024 : Shape := ⟨2, ![1024, 1024]⟩
abbrev S16x4096x64 : Shape := ⟨3, ![16, 4096, 64]⟩
abbrev S16x4096x128 : Shape := ⟨3, ![16, 4096, 128]⟩
abbrev S_ : Shape := ⟨0, ![]⟩
abbrev S1x512 : Shape := ⟨2, ![1, 512]⟩
abbrev S1x64x512 : Shape := ⟨3, ![1, 64, 512]⟩
abbrev S64x512 : Shape := ⟨2, ![64, 512]⟩
abbrev S1x1x512 : Shape := ⟨3, ![1, 1, 512]⟩
abbrev S16x4096x8x64 : Shape := ⟨4, ![16, 4096, 8, 64]⟩
abbrev S1x1x8x64 : Shape := ⟨4, ![1, 1, 8, 64]⟩
abbrev S16x4096x8 : Shape := ⟨3, ![16, 4096, 8]⟩
abbrev S16x4096x8x1 : Shape := ⟨4, ![16, 4096, 8, 1]⟩
abbrev S65536x1024 : Shape := ⟨2, ![65536, 1024]⟩

abbrev nBuf : Space → Nat
  | .hbm => 146
  | .vmem => 0
  | .smem => 0
  | _ => 0

abbrev hbmTy0_0 (i : Nat) : BufTy := match i % 128 with
  | 0 => ⟨S16x4096x1024, .f32⟩
  | 1 => ⟨S16x4096x512, .bf16⟩
  | 2 => ⟨S16x4096x512, .f32⟩
  | 3 => ⟨S16x4096x512, .f32⟩
  | 4 => ⟨S16x4096x1920, .f32⟩
  | 5 => ⟨S2x512, .f32⟩
  | 6 => ⟨S2x64x512, .f32⟩
  | 7 => ⟨S128x512, .f32⟩
  | 8 => ⟨S512, .f32⟩
  | 9 => ⟨S8x64, .f32⟩
  | 10 => ⟨S512, .f32⟩
  | 11 => ⟨S512, .f32⟩
  | 12 => ⟨S1024x1024, .f32⟩
  | 13 => ⟨S16x4096x512, .f32⟩
  | 14 => ⟨S16x4096x512, .f32⟩
  | 15 => ⟨S16x4096x512, .f32⟩
  | 16 => ⟨S16x4096x64, .f32⟩
  | 17 => ⟨S16x4096x64, .f32⟩
  | 18 => ⟨S16x4096x128, .f32⟩
  | 19 => ⟨S16x4096x128, .f32⟩
  | 20 => ⟨S16x4096x128, .f32⟩
  | 21 => ⟨S_, .f32⟩
  | 22 => ⟨S16x4096x128, .f32⟩
  | 23 => ⟨S16x4096x128, .f32⟩
  | 24 => ⟨S_, .f32⟩
  | 25 => ⟨S16x4096x128, .f32⟩
  | 26 => ⟨S16x4096x128, .f32⟩
  | 27 => ⟨S16x4096x512, .f32⟩
  | 28 => ⟨S1x512, .f32⟩
  | 29 => ⟨S512, .f32⟩
  | 30 => ⟨S1x64x512, .f32⟩
  | 31 => ⟨S64x512, .f32⟩
  | 32 => ⟨S16x4096x512, .f32⟩
  | 33 => ⟨S1x1x512, .f32⟩
  | 34 => ⟨S16x4096x512, .f32⟩
  | 35 => ⟨S16x4096x512, .f32⟩
  | 36 => ⟨S16x4096x512, .f32⟩
  | 37 => ⟨S16x4096x512, .f32⟩
  | 38 => ⟨S_, .f32⟩
  | 39 => ⟨S16x4096x512, .f32⟩
  | 40 => ⟨S16x4096x512, .f32⟩
  | 41 => ⟨S_, .f32⟩
  | 42 => ⟨S16x4096x512, .f32⟩
  | 43 => ⟨S16x4096x512, .f32⟩
  | 44 => ⟨S_, .f32⟩
  | 45 => ⟨S16x4096x512, .f32⟩
  | 46 => ⟨S16x4096x512, .f32⟩
  | 47 => ⟨S1x1x512, .f32⟩
  | 48 => ⟨S16x4096x512, .f32⟩
  | 49 => ⟨S16x4096x512, .f32⟩
  | 50 => ⟨S_, .f32⟩
  | 51 => ⟨S16x4096x512, .f32⟩
  | 52 => ⟨S16x4096x512, .f32⟩
  | 53 => ⟨S16x4096x512, .f32⟩
  | 54 => ⟨S16x4096x8x64, .f32⟩
  | 55 => ⟨S16x4096x8x64, .f32⟩
  | 56 => ⟨S16x4096x8x64, .f32⟩
  | 57 => ⟨S1x1x8x64, .f32⟩
  | 58 => ⟨S16x4096x8x64, .f32⟩
  | 59 => ⟨S16x4096x8x64, .f32⟩
  | 60 => ⟨S_, .f32⟩
  | 61 => ⟨S16x4096x8, .f32⟩
  | 62 => ⟨S16x4096x8x1, .f32⟩
  | 63 => ⟨S16x4096x8x64, .f32⟩
  | 64 => ⟨S16x4096x8x64, .f32⟩
  | 65 => ⟨S16x4096x8x64, .f32⟩
  | 66 => ⟨S1x512, .f32⟩
  | 67 => ⟨S512, .f32⟩
  | 68 => ⟨S1x64x512, .f32⟩
  | 69 => ⟨S64x512, .f32⟩
  | 70 => ⟨S16x4096x512, .f32⟩
  | 71 => ⟨S1x1x512, .f32⟩
  | 72 => ⟨S16x4096x512, .f32⟩
  | 73 => ⟨S16x4096x512, .f32⟩
  | 74 => ⟨S16x4096x512, .f32⟩
  | 75 => ⟨S16x4096x512, .f32⟩
  | 76 => ⟨S_, .f32⟩
  | 77 => ⟨S16x4096x512, .f32⟩
  | 78 => ⟨S16x4096x512, .f32⟩
  | 79 => ⟨S_, .f32⟩
  | 80 => ⟨S16x4096x512, .f32⟩
  | 81 => ⟨S16x4096x512, .f32⟩
  | 82 => ⟨S_, .f32⟩
  | 83 => ⟨S16x4096x512, .f32⟩
  | 84 => ⟨S16x4096x512, .f32⟩
  | 85 => ⟨S1x1x512, .f32⟩
  | 86 => ⟨S16x4096x512, .f32⟩
  | 87 => ⟨S16x4096x512, .f32⟩
  | 88 => ⟨S_, .f32⟩
  | 89 => ⟨S16x4096x512, .f32⟩
  | 90 => ⟨S16x4096x512, .f32⟩
  | 91 => ⟨S16x4096x512, .f32⟩
  | 92 => ⟨S16x4096x8x64, .f32⟩
  | 93 => ⟨S16x4096x8x64, .f32⟩
  | 94 => ⟨S16x4096x8x64, .f32⟩
  | 95 => ⟨S1x1x8x64, .f32⟩
  | 96 => ⟨S16x4096x8x64, .f32⟩
  | 97 => ⟨S16x4096x8x64, .f32⟩
  | 98 => ⟨S_, .f32⟩
  | 99 => ⟨S16x4096x8, .f32⟩
  | 100 => ⟨S16x4096x8x1, .f32⟩
  | 101 => ⟨S16x4096x8x64, .f32⟩
  | 102 => ⟨S16x4096x8x64, .f32⟩
  | 103 => ⟨S16x4096x8x64, .f32⟩
  | 104 => ⟨S16x4096x8x64, .f32⟩
  | 105 => ⟨S16x4096x8x64, .f32⟩
  | 106 => ⟨S16x4096x8x64, .f32⟩
  | 107 => ⟨S16x4096x8x64, .f32⟩
  | 108 => ⟨S_, .f32⟩
  | 109 => ⟨S16x4096x8, .f32⟩
  | 110 => ⟨S16x4096x8x1, .f32⟩
  | 111 => ⟨S_, .f32⟩
  | 112 => ⟨S16x4096x8x1, .f32⟩
  | 113 => ⟨S16x4096x8x1, .f32⟩
  | 114 => ⟨S16x4096x8x64, .f32⟩
  | 115 => ⟨S16x4096x8x64, .f32⟩
  | 116 => ⟨S16x4096x8x64, .f32⟩
  | 117 => ⟨S_, .f32⟩
  | 118 => ⟨S16x4096x8, .f32⟩
  | 119 => ⟨S16x4096x8x1, .f32⟩
  | 120 => ⟨S_, .f32⟩
  | 121 => ⟨S16x4096x8x1, .f32⟩
  | 122 => ⟨S16x4096x8x1, .f32⟩
  | 123 => ⟨S16x4096x8x64, .f32⟩
  | 124 => ⟨S16x4096x8x64, .f32⟩
  | 125 => ⟨S_, .f32⟩
  | 126 => ⟨S16x4096x8x1, .f32⟩
  | 127 => ⟨S16x4096x8x1, .f32⟩
  | _ => ⟨S16x4096x1024, .f32⟩

abbrev hbmTy0_1 (i : Nat) : BufTy := match i % 128 with
  | 0 => ⟨S16x4096x8x1, .f32⟩
  | 1 => ⟨S16x4096x8x64, .f32⟩
  | 2 => ⟨S16x4096x8x64, .f32⟩
  | 3 => ⟨S16x4096x512, .f32⟩
  | 4 => ⟨S1x1x512, .f32⟩
  | 5 => ⟨S16x4096x512, .f32⟩
  | 6 => ⟨S16x4096x512, .f32⟩
  | 7 => ⟨S1x1x512, .f32⟩
  | 8 => ⟨S16x4096x512, .f32⟩
  | 9 => ⟨S16x4096x512, .f32⟩
  | 10 => ⟨S16x4096x512, .f32⟩
  | 11 => ⟨S16x4096x512, .f32⟩
  | 12 => ⟨S16x4096x512, .f32⟩
  | 13 => ⟨S16x4096x512, .f32⟩
  | 14 => ⟨S16x4096x1024, .f32⟩
  | 15 => ⟨S16x4096x1024, .f32⟩
  | 16 => ⟨S16x4096x1024, .f32⟩
  | 17 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_11 : Ref sig .tc := ⟨.hbm, 108, rfl⟩
abbrev main_v83 : Ref sig .tc := ⟨.hbm, 109, rfl⟩
abbrev main_v84 : Ref sig .tc := ⟨.hbm, 110, rfl⟩
abbrev main_cst_12 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_13 : Ref sig .tc := ⟨.hbm, 117, rfl⟩
abbrev main_v90 : Ref sig .tc := ⟨.hbm, 118, rfl⟩
abbrev main_v91 : Ref sig .tc := ⟨.hbm, 119, rfl⟩
abbrev main_cst_14 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩

abbrev nD : Nat := 1
abbrev τ : Topo := Topo.v7x

variable {F : FTy → Type} [FloatOps F]
-- ==== Proof.NA.Softmax.lean ====
module

public import Idealize.ShloMosaic.PureOps.Ideal

/-! # A masked softmax is the softmax of what the mask keeps

A row of scores that is `⊥` outside the image of an injection `e`, and real on it, has the maximum, the sum of
exponentials and the weighted sum of the row restricted to that image. The row's weights may be computed with one
reciprocal per row or with one quotient per entry: the sum of the exponentials is not zero. -/

@[expose] public section

namespace Cert.NA

open Idealize.ShloMosaic

/-- The maximum of a finite family, as both programs take it: folded from `-∞`. -/
theorem fold_max_eq_sup {κ : Type} [Fintype κ] (s : κ → EReal) :
    Finset.univ.fold max ⊥ s = Finset.univ.sup s := rfl

/-- Scores that are `-∞` off the image do not change the maximum. -/
theorem sup_embed {ι κ : Type} [Fintype ι] [Fintype κ] (e : ι → κ) (s : κ → EReal)
    (hoff : ∀ k, (∀ x, e x ≠ k) → s k = ⊥) :
    Finset.univ.sup s = Finset.univ.sup fun x => s (e x) := by
  apply le_antisymm
  · refine Finset.sup_le fun k _ => ?_
    by_cases h : ∃ x, e x = k
    · obtain ⟨x, rfl⟩ := h
      exact Finset.le_sup (f := fun x => s (e x)) (Finset.mem_univ x)
    · rw [hoff k fun x hx => h ⟨x, hx⟩]
      exact bot_le
  · exact Finset.sup_le fun x _ => Finset.le_sup (f := s) (Finset.mem_univ (e x))

/-- A sum whose terms vanish off the image is the sum over the image. -/
theorem sum_embed {ι κ : Type} [Fintype ι] [Fintype κ] (e : ι → κ) (he : Function.Injective e) (g : κ → EReal)
    (hoff : ∀ k, (∀ x, e x ≠ k) → g k = 0) : ∑ k, g k = ∑ x, g (e x) :=
  (Fintype.sum_of_injective e he (fun x => g (e x)) g
    (fun k hk => hoff k fun x hx => hk ⟨x, hx⟩) (fun _ => rfl)).symm

/-- The exponential of an extended real is not negative. -/
theorem exp_nonneg (x : EReal) : 0 ≤ Ideal.exp x := by
  induction x with
  | bot => simp
  | top => simp
  | coe r => rw [Ideal.exp_coe]; exact_mod_cast (Real.exp_pos r).le

/-- A weight by a row's reciprocal is the weight by a quotient, where the row's sum is not zero. -/
theorem mul_recip (p S : EReal) (h : S ≠ 0) : p * Ideal.div 1 S = Ideal.div p S := by
  simp [Ideal.div, h]

/-- THE LEMMA: the masked row's attention is the attention over the kept keys. -/
theorem softmax_embed {ι κ : Type} [Fintype ι] [Fintype κ] [Nonempty ι] (e : ι → κ) (he : Function.Injective e)
    (s v : κ → EReal) (hreal : ∀ x, ∃ r : ℝ, s (e x) = (r : EReal))
    (hoff : ∀ k, (∀ x, e x ≠ k) → s k = ⊥) :
    (∑ k, Ideal.exp (s k - Finset.univ.fold max ⊥ s)
        * Ideal.div 1 (∑ k', Ideal.exp (s k' - Finset.univ.fold max ⊥ s)) * v k)
      = ∑ x, Ideal.div (Ideal.exp (s (e x) - Finset.univ.fold max ⊥ fun x => s (e x)))
          (∑ x', Ideal.exp (s (e x') - Finset.univ.fold max ⊥ fun x => s (e x))) * v (e x) := by
  rw [fold_max_eq_sup, fold_max_eq_sup, sup_embed e s hoff]
  obtain ⟨x₀, -, hx₀⟩ := Finset.exists_mem_eq_sup (Finset.univ : Finset ι) Finset.univ_nonempty fun x => s (e x)
  obtain ⟨r₀, hr₀⟩ := hreal x₀
  rw [hx₀]
  have hz : ∀ k, (∀ x, e x ≠ k) → Ideal.exp (s k - s (e x₀)) = 0 := fun k hk => by
    rw [hoff k hk, hr₀]; simp
  rw [sum_embed e he (fun k' => Ideal.exp (s k' - s (e x₀))) hz]
  have hS : (∑ x', Ideal.exp (s (e x') - s (e x₀))) ≠ 0 := by
    have h1 : Ideal.exp (s (e x₀) - s (e x₀)) = 1 := by
      rw [hr₀, ← EReal.coe_sub, sub_self, Ideal.exp_coe, Real.exp_zero]; rfl
    have h2 : Ideal.exp (s (e x₀) - s (e x₀)) ≤ ∑ x', Ideal.exp (s (e x') - s (e x₀)) :=
      Finset.single_le_sum (f := fun x' => Ideal.exp (s (e x') - s (e x₀))) (fun _ _ => exp_nonneg _)
        (Finset.mem_univ x₀)
    rw [h1] at h2
    intro h0
    rw [h0] at h2
    exact absurd h2 (by norm_num)
  rw [sum_embed e he _ fun k hk => by rw [hz k hk, zero_mul, zero_mul]]
  exact Finset.sum_congr rfl fun x _ => by rw [mul_recip _ _ hS]

end Cert.NA
-- ==== Proof.NA.Spec.lean ====
module

public import proofs.«01_k».proof.Proof.NA.Softmax

/-! # Neighbourhood attention on a grid of 64 by 64 tokens

What both programs compute, over arrays given by their coordinates. Query `(i, j)` of head `h` sees the 8 rows from
`rowStart i` and the 16 columns from `colStart j`. The kernel scores all 8 times 64 keys of the rows and masks the columns
outside the window by `⊥` (`score`, over `Fin 512`); the reference scores the 128 keys of the window (`score` at
`window j`). -/

@[expose] public section

namespace Cert.NA

open Idealize.ShloMosaic

/-- The first of the 8 rows a query in row `i` sees. -/
def rowStart (i : Fin 64) : Nat := min (i.val - 4) 56

/-- The first of the 16 columns a query in column `j` sees. -/
def colStart (j : Fin 64) : Nat := min (j.val - 8) 48

theorem rowStart_le (i : Fin 64) : rowStart i ≤ i.val ∧ rowStart i ≤ 56 ∧ i.val ≤ rowStart i + 7 := by
  unfold rowStart; omega

theorem colStart_le (j : Fin 64) : colStart j ≤ j.val ∧ colStart j ≤ 48 ∧ j.val ≤ colStart j + 15 := by
  unfold colStart; omega

/-- The token of query `(i, j)`. -/
def token (i j : Fin 64) : Fin 4096 := ⟨i.val * 64 + j.val, by omega⟩

/-- The token of key number `k` among the 8 rows that row `i` sees. -/
def keyToken (i : Fin 64) (k : Fin 512) : Fin 4096 :=
  ⟨rowStart i * 64 + k.val, by have := rowStart_le i; omega⟩

/-- Lane `d` of head `h` in the part of a token's vector that starts at `o`. -/
def lane (o : Nat) (h : Fin 8) (d : Fin 64) (ho : o ≤ 1024 := by decide) : Fin 1536 := ⟨o + (h.val * 64 + d.val), by omega⟩

/-- The bias of key number `k` for query `(i, j)` of head `h`: `⊥` where the key's column lies outside the window. -/
noncomputable def bias (T : Fin 8 → Fin 15 → Fin 31 → EReal) (h : Fin 8) (i j : Fin 64) (k : Fin 512) : EReal :=
  if colStart j ≤ k.val % 64 ∧ k.val % 64 < colStart j + 16 then
    T h ⟨rowStart i + k.val / 64 + 7 - i.val, by have := rowStart_le i; omega⟩ ⟨min (k.val % 64 + 15 - j.val) 30, by omega⟩
  else ⊥

/-- The score of key number `k` for query `(i, j)` of head `h`. -/
noncomputable def score (A : Fin 16 → Fin 4096 → Fin 1536 → EReal) (T : Fin 8 → Fin 15 → Fin 31 → EReal)
    (b : Fin 16) (h : Fin 8) (i j : Fin 64) (k : Fin 512) : EReal :=
  (∑ d : Fin 64, A b (token i j) (lane 0 h d) * A b (keyToken i k) (lane 512 h d)) + bias T h i j k

/-- The 128 keys of the window of column `j` among the 512 keys of its rows. -/
def window (j : Fin 64) (x : Fin 128) : Fin 512 :=
  ⟨x.val / 16 * 64 + (colStart j + x.val % 16), by have := colStart_le j; omega⟩

theorem window_injective (j : Fin 64) : Function.Injective (window j) := by
  intro x y e
  have e' := Fin.mk.inj e
  have := colStart_le j
  exact Fin.ext (by omega)

/-- A key in the columns of the window is one of the 128. -/
theorem window_surj (j : Fin 64) (k : Fin 512) (hk : colStart j ≤ k.val % 64 ∧ k.val % 64 < colStart j + 16) :
    ∃ x, window j x = k :=
  ⟨⟨k.val / 64 * 16 + (k.val % 64 - colStart j), by omega⟩, Fin.ext (by unfold window; simp only; omega)⟩

/-- One entry of the result, as the reference computes it: a softmax over the window's 128 keys. -/
noncomputable def attended (A : Fin 16 → Fin 4096 → Fin 1536 → EReal) (T : Fin 8 → Fin 15 → Fin 31 → EReal)
    (b : Fin 16) (h : Fin 8) (i j d : Fin 64) : EReal :=
  ∑ x : Fin 128, Ideal.div
      (Ideal.exp (score A T b h i j (window j x) - Finset.univ.fold max ⊥ fun x => score A T b h i j (window j x)))
      (∑ x' : Fin 128, Ideal.exp (score A T b h i j (window j x') - Finset.univ.fold max ⊥ fun x => score A T b h i j (window j x)))
    * A b (keyToken i (window j x)) (lane 1024 h d)

/-- One entry of the result, as the kernel computes it: a softmax over all 512 keys of the rows, the ones outside the
window masked, with one reciprocal per query. -/
noncomputable def attendedMasked (A : Fin 16 → Fin 4096 → Fin 1536 → EReal) (T : Fin 8 → Fin 15 → Fin 31 → EReal)
    (b : Fin 16) (h : Fin 8) (i j d : Fin 64) : EReal :=
  ∑ k : Fin 512, Ideal.exp (score A T b h i j k - Finset.univ.fold max ⊥ (score A T b h i j))
      * Ideal.div 1 (∑ k', Ideal.exp (score A T b h i j k' - Finset.univ.fold max ⊥ (score A T b h i j)))
    * A b (keyToken i k) (lane 1024 h d)

/-- A finite sum of reals is a real. -/
theorem sum_real {ι : Type} [Fintype ι] (f : ι → EReal) (hf : ∀ x, ∃ r : ℝ, f x = (r : EReal)) :
    ∃ r : ℝ, ∑ x, f x = (r : EReal) := by
  choose g hg using hf
  refine ⟨∑ x, g x, ?_⟩
  classical
  have h : ∀ s : Finset ι, ∑ x ∈ s, f x = ((∑ x ∈ s, g x : ℝ) : EReal) := by
    intro s
    induction s using Finset.induction_on with
    | empty => simp
    | insert a s ha ih => rw [Finset.sum_insert ha, Finset.sum_insert ha, ih, hg a, ← EReal.coe_add]
  exact h _

/-- With finite queries, keys and biases the two are the same number, whatever the values are. -/
theorem attendedMasked_eq (A : Fin 16 → Fin 4096 → Fin 1536 → EReal) (T : Fin 8 → Fin 15 → Fin 31 → EReal)
    (b : Fin 16) (h : Fin 8) (i j d : Fin 64)
    (hA : ∀ t (c : Fin 1536), c.val < 1024 → ∃ r : ℝ, A b t c = (r : EReal)) (hT : ∀ x y, ∃ r : ℝ, T h x y = (r : EReal)) :
    attendedMasked A T b h i j d = attended A T b h i j d := by
  have hdot : ∀ k : Fin 512, ∃ r : ℝ,
      (∑ d : Fin 64, A b (token i j) (lane 0 h d) * A b (keyToken i k) (lane 512 h d)) = (r : EReal) := fun k => by
    refine sum_real _ fun d => ?_
    obtain ⟨x, hx⟩ := hA (token i j) (lane 0 h d) (by unfold lane; simp only; omega)
    obtain ⟨y, hy⟩ := hA (keyToken i k) (lane 512 h d) (by unfold lane; simp only; omega)
    exact ⟨x * y, by rw [hx, hy, EReal.coe_mul]⟩
  refine softmax_embed (window j) (window_injective j) (score A T b h i j) (fun k => A b (keyToken i k) (lane 1024 h d)) ?_ ?_
  · intro x
    obtain ⟨r, hr⟩ := hdot (window j x)
    have hw : colStart j ≤ (window j x).val % 64 ∧ (window j x).val % 64 < colStart j + 16 := by
      have := colStart_le j
      unfold window; simp only; omega
    unfold score bias
    rw [if_pos hw, hr]
    obtain ⟨y, hy⟩ := hT ⟨rowStart i + (window j x).val / 64 + 7 - i.val, by have := rowStart_le i; omega⟩
      ⟨min ((window j x).val % 64 + 15 - j.val) 30, by omega⟩
    exact ⟨r + y, by rw [hy, EReal.coe_add]⟩
  · intro k hk
    unfold score bias
    rw [if_neg fun hw => let ⟨x, hx⟩ := window_surj j k hw; hk x hx, EReal.add_bot]

end Cert.NA
end
-- ==== Proof.NA.Chain.lean ====
module

public import proofs.«01_k».proof.Proof.Gen.KernelIdeal
public import proofs.«01_k».proof.Proof.NA.Spec
public import Idealize.ShloMosaic.Lib.Pointwise

/-! # One head pair of one query row in the kernel

The kernel takes the 64 queries of a row for two heads at a time: their 128 lanes are stacked twice, the other head's
lanes zeroed, so one product scores both heads. `pairOut` is that computation as the kernel writes it; `pairOut_apply`
reads it at a query and a lane. -/

@[expose] public section

set_option maxRecDepth 16384

namespace Cert.NA

open Idealize.ShloMosaic Cert.KernelIdeal Cert.KernelIdeal.Gen

/-- Which lanes belong to the first head of the pair. -/
noncomputable def lowLanes : IVec S64x128 1 := cmpi .slt (iota .tc S64x128 32 [1] iota_S64x128_d1_w32) (broadcast S64x128 64#32)

/-- The queries stacked twice, the other head's lanes zeroed. -/
noncomputable def pairQueries (q : FVec Ideal S64x128 .bf16) : FVec Ideal S128x128 .bf16 :=
  concatenate S128x128 0 [⟨S64x128, select lowLanes q (broadcast S64x128 (Scalar.ofBits .bf16 0x0000#16))⟩,
    ⟨S64x128, select lowLanes (broadcast S64x128 (Scalar.ofBits .bf16 0x0000#16)) q⟩] concatenates_S64x128_S64x128_S128x128_d0

/-- The scores of both heads. -/
noncomputable def pairScores (q : FVec Ideal S64x128 .bf16) (k : FVec Ideal S512x128 .bf16) (t0 t1 t2 t3 : FVec Ideal S128x128 .f32) :
    FVec Ideal S128x512 .f32 :=
  addf (matmul dot_S128x128_S512x128_S128x512_1_1_0_0_n_n none (pairQueries q) k (constant S128x512 .f32 0x00000000#32))
    (concatenate S128x512 1 [⟨S128x128, t0⟩, ⟨S128x128, t1⟩, ⟨S128x128, t2⟩, ⟨S128x128, t3⟩]
      concatenates_S128x128_S128x128_S128x128_S128x128_S128x512_d1)

/-- Their exponentials, the row's maximum subtracted. -/
noncomputable def pairExps (s : FVec Ideal S128x512 .f32) : FVec Ideal S128x512 .f32 :=
  exp (subf s (broadcastTo S128x512 (shapeCast S128x1
    (multiReduction .maximumf [1] S128 s 0xFF800000#32 reduces_S128x512_S128 (.inl rfl) rfl) shapeCasts_S128_S128x1)
    broadcasts_S128x1_S128x512))

/-- The weights: one reciprocal per row. -/
noncomputable def pairWeights (p : FVec Ideal S128x512 .f32) : FVec Ideal S128x512 .f32 :=
  mulf p (broadcastTo S128x512 (divf (broadcast S128x1 (Scalar.ofBits .f32 0x3F800000#32)) (shapeCast S128x1
    (multiReduction .add [1] S128 p 0x00000000#32 reduces_S128x512_S128 (.inl rfl) rfl) shapeCasts_S128_S128x1))
    broadcasts_S128x1_S128x512)

/-- The weighted sums of both heads, each head's lanes taken from its own rows. -/
noncomputable def pairOut (q : FVec Ideal S64x128 .bf16) (k v : FVec Ideal S512x128 .bf16) (t0 t1 t2 t3 : FVec Ideal S128x128 .f32) :
    FVec Ideal S64x128 .f32 :=
  have o : FVec Ideal S128x128 .f32 := matmul dot_S128x512_S512x128_S128x128_1_0_0_1_n_n none
    (truncf .bf16 (pairWeights (pairExps (pairScores q k t0 t1 t2 t3))) bitsLt_bf16_f32) v (constant S128x128 .f32 0x00000000#32)
  select lowLanes (extractStridedSlice S64x128 ![0, 0] o slices_S128x128_o0_0_S64x128)
    (extractStridedSlice S64x128 ![64, 0] o slices_S128x128_o64_0_S64x128)

theorem lowLanes_apply (j : Fin 64) (d : Fin 128) : lowLanes (ix2 j d) = if d.val < 64 then 1#1 else 0#1 := by
  have e : lowLanes (ix2 j d) = IntOp.cmpi .slt (BitVec.ofNat 32 d.val) 64#32 := by
    pointwise [lowLanes]
  rw [e]
  clear e
  revert d; decide +kernel

/-- Lane `d` of head `g` of the pair. -/
def pairLane (g : Fin 2) (d : Fin 64) : Fin 128 := ⟨g.val * 64 + d.val, by omega⟩

theorem lowLanes_pair (j : Fin 64) (g : Fin 2) (d : Fin 64) : lowLanes (ix2 j (pairLane g d)) = if g = 0 then 1#1 else 0#1 := by
  rw [lowLanes_apply]
  match g with
  | ⟨0, _⟩ => rw [if_pos (by unfold pairLane; simp only; omega)]; rfl
  | ⟨1, _⟩ => rw [if_neg (by unfold pairLane; simp only; omega)]; rfl

theorem pairQueries_apply (q : FVec Ideal S64x128 .bf16) (g : Fin 2) (j : Fin 64) (g' : Fin 2) (d : Fin 64) :
    pairQueries q (ix2 (pairLane g j) (pairLane g' d)) = if g = g' then q (ix2 j (pairLane g' d)) else 0 := by
  match g with
  | ⟨0, _⟩ =>
    have e : pairQueries q (ix2 (pairLane 0 j) (pairLane g' d))
        = Scalar.select (lowLanes (ix2 j (pairLane g' d))) (q (ix2 j (pairLane g' d))) 0 := by
      pointwise [pairQueries, pairLane]
    refine e.trans ?_
    rw [lowLanes_pair]
    match g' with
    | ⟨0, _⟩ => rfl
    | ⟨1, _⟩ => rfl
  | ⟨1, _⟩ =>
    have e : pairQueries q (ix2 (pairLane 1 j) (pairLane g' d))
        = Scalar.select (lowLanes (ix2 j (pairLane g' d))) 0 (q (ix2 j (pairLane g' d))) := by
      pointwise [pairQueries, pairLane]
    refine e.trans ?_
    rw [lowLanes_pair]
    match g' with
    | ⟨0, _⟩ => rfl
    | ⟨1, _⟩ => rfl

/-- A sum over both heads' lanes is the sum over the first's and the sum over the second's. -/
theorem sum_lanes (f : Fin 128 → EReal) : ∑ x, f x = (∑ d : Fin 64, f (pairLane 0 d)) + ∑ d : Fin 64, f (pairLane 1 d) := by
  rw [Fin.sum_univ_add (a := 64) (b := 64) f]
  refine congrArg₂ (· + ·) (Finset.sum_congr rfl fun d _ => congrArg f (Fin.ext ?_)) (Finset.sum_congr rfl fun d _ => congrArg f (Fin.ext ?_))
  · simp [pairLane]
  · simp [pairLane, Nat.add_comm]

/-- The scores' entries of one row of the pair: the head's own lanes, and the bias tiles side by side. -/
noncomputable def rowScore (q : FVec Ideal S64x128 .bf16) (k : FVec Ideal S512x128 .bf16) (t : Fin 4 → FVec Ideal S128x128 .f32)
    (g : Fin 2) (j : Fin 64) (c : Fin 512) : EReal :=
  (∑ d : Fin 64, q (ix2 j (pairLane g d)) * k (ix2 c (pairLane g d)))
    + t ⟨c.val / 128, by omega⟩ (ix2 (pairLane g j) ⟨c.val % 128, by omega⟩)

theorem pairScores_apply (q : FVec Ideal S64x128 .bf16) (k : FVec Ideal S512x128 .bf16) (t0 t1 t2 t3 : FVec Ideal S128x128 .f32)
    (g : Fin 2) (j : Fin 64) (c : Fin 512) :
    pairScores q k t0 t1 t2 t3 (ix2 (pairLane g j) c) = rowScore q k ![t0, t1, t2, t3] g j c := by
  have e : pairScores q k t0 t1 t2 t3 (ix2 (pairLane g j) c)
      = (∑ x, pairQueries q (ix2 (pairLane g j) x) * k (ix2 c x) +
      if h : c.val < 128 then t0 (ix2 (pairLane g j) ⟨c.val, h⟩)
      else
        if h : c.val - 128 < 128 then t1 (ix2 (pairLane g j) ⟨c.val - 128, h⟩)
        else
          if h : c.val - 128 - 128 < 128 then t2 (ix2 (pairLane g j) ⟨c.val - 128 - 128, h⟩)
          else t3 (ix2 (pairLane g j) ⟨c.val - 128 - 128 - 128, by omega⟩)) := by
    pointwise [pairScores]
  rw [e, sum_lanes]
  unfold rowScore
  refine congrArg₂ (· + ·) ?_ ?_
  · simp only [pairQueries_apply]
    have h01 : (0 : Fin 2) ≠ 1 := by decide
    rcases (by decide : ∀ g : Fin 2, g = 0 ∨ g = 1) g with hg | hg
    · subst hg
      simp only [if_true, if_neg h01, zero_mul, Finset.sum_const_zero, add_zero]
    · subst hg
      simp only [if_true, if_neg h01.symm, zero_mul, Finset.sum_const_zero, zero_add]
  · have hc := c.isLt
    have hq (n : Fin 4) (hn : c.val / 128 = n.val) (r : Fin 128) (hr : r.val = c.val % 128) :
        (![t0, t1, t2, t3] : Fin 4 → FVec Ideal S128x128 .f32) n (ix2 (pairLane g j) r)
          = (![t0, t1, t2, t3] : Fin 4 → FVec Ideal S128x128 .f32) ⟨c.val / 128, by omega⟩ (ix2 (pairLane g j) ⟨c.val % 128, by omega⟩) := by
      have h1 : (⟨c.val / 128, by omega⟩ : Fin 4) = n := Fin.ext hn
      have h2 : (⟨c.val % 128, by omega⟩ : Fin 128) = r := Fin.ext hr.symm
      rw [h1, h2]
    split
    · next h => exact hq 0 (by show _ = 0; omega) _ (by simp only; omega)
    · split
      · next h => exact hq 1 (by show _ = 1; omega) _ (by simp only; omega)
      · split
        · next h => exact hq 2 (by show _ = 2; omega) _ (by simp only; omega)
        · next h => exact hq 3 (by show _ = 3; omega) _ (by simp only; omega)

theorem negInf_bits : Ideal.ofBits .f32 0xFF800000#32 = ⊥ := by
  simp [Ideal.ofBits, Ideal.ieee]

theorem pairExps_apply (s : FVec Ideal S128x512 .f32) (r : Fin 128) (c : Fin 512) :
    pairExps s (ix2 r c) = Ideal.exp (s (ix2 r c) - Finset.univ.fold max ⊥ fun c => s (ix2 r c)) := by
  have e : pairExps s (ix2 r c)
      = Ideal.exp (s (ix2 r c) - Finset.univ.fold max (Ideal.ofBits .f32 0xFF800000#32) fun c => s (ix2 r c)) := by
    pointwise [pairExps]
  rw [e, negInf_bits]

theorem pairWeights_apply (p : FVec Ideal S128x512 .f32) (r : Fin 128) (c : Fin 512) :
    pairWeights p (ix2 r c) = p (ix2 r c) * Ideal.div 1 (∑ c, p (ix2 r c)) := by
  pointwise [pairWeights]

/-- One head of the pair at a query and a lane. -/
theorem pairOut_apply (q : FVec Ideal S64x128 .bf16) (k v : FVec Ideal S512x128 .bf16) (t0 t1 t2 t3 : FVec Ideal S128x128 .f32)
    (j : Fin 64) (g : Fin 2) (d : Fin 64) :
    pairOut q k v t0 t1 t2 t3 (ix2 j (pairLane g d))
      = ∑ c, Ideal.exp (rowScore q k ![t0, t1, t2, t3] g j c - Finset.univ.fold max ⊥ (rowScore q k ![t0, t1, t2, t3] g j))
          * Ideal.div 1 (∑ c', Ideal.exp (rowScore q k ![t0, t1, t2, t3] g j c' - Finset.univ.fold max ⊥ (rowScore q k ![t0, t1, t2, t3] g j)))
          * v (ix2 c (pairLane g d)) := by
  have e : pairOut q k v t0 t1 t2 t3 (ix2 j (pairLane g d))
      = Scalar.select (lowLanes (ix2 j (pairLane g d)))
          (∑ x, pairWeights (pairExps (pairScores q k t0 t1 t2 t3)) (ix2 (pairLane 0 j) x) * v (ix2 x (pairLane g d)))
          (∑ x, pairWeights (pairExps (pairScores q k t0 t1 t2 t3)) (ix2 (pairLane 1 j) x) * v (ix2 x (pairLane g d))) := by
    pointwise [pairOut, pairLane]
  have e' : pairOut q k v t0 t1 t2 t3 (ix2 j (pairLane g d))
      = ∑ x, pairWeights (pairExps (pairScores q k t0 t1 t2 t3)) (ix2 (pairLane g j) x) * v (ix2 x (pairLane g d)) := by
    rw [e, lowLanes_pair]
    match g with
    | ⟨0, _⟩ => rfl
    | ⟨1, _⟩ => rfl
  rw [e']
  simp only [pairWeights_apply, pairExps_apply, pairScores_apply]

end Cert.NA
end
-- ==== Proof.NA.Trip.lean ====
module

public import proofs.«01_k».proof.Proof.Gen.KernelIdeal.Value
public import proofs.«01_k».proof.Proof.NA.Chain

/-! # One trip of the kernel's loop

A trip stores four query rows; each is four head pairs side by side, each pair the computation `pairOut` at the trip's
loads. -/

@[expose] public section

set_option maxRecDepth 16384

namespace Cert.NA

open Idealize.ShloMosaic Cert.KernelIdeal Cert.KernelIdeal.Gen

/-- The queries of one row and head pair, as loaded. -/
noncomputable abbrev loadQ (a : Memref sig .tc .vmem S1x512x512 .bf16) (X : BufTy.Contents (Elt Ideal) a.view.ty) (off : Fin 3 → Nat)
    (h : ∀ a, off a + S1x64x128.size a ≤ S1x512x512.size a) : FVec Ideal S64x128 .bf16 :=
  shapeCast S64x128 (View.readAt (Elt Ideal) a.view (Rect.unit (s := S1x512x512) off S1x64x128.size h).toLoadRect X)
    shapeCasts_S1x64x128_S64x128

/-- The keys, or the values, of 8 rows and one head pair, as loaded. -/
noncomputable abbrev loadK (a : Memref sig .tc .vmem S1x1024x512 .bf16) (X : BufTy.Contents (Elt Ideal) a.view.ty) (off : Fin 3 → Nat)
    (h : ∀ a, off a + S1x512x128.size a ≤ S1x1024x512.size a) : FVec Ideal S512x128 .bf16 :=
  shapeCast S512x128 (View.readAt (Elt Ideal) a.view (Rect.unit (s := S1x1024x512) off S1x512x128.size h).toLoadRect X)
    shapeCasts_S1x512x128_S512x128

/-- One tile of the bias table, as loaded. -/
noncomputable abbrev loadT (a : Memref sig .tc .vmem S4x14x128x128 .f32) (X : BufTy.Contents (Elt Ideal) a.view.ty) (off : Fin 4 → Nat)
    (h : ∀ a, off a + S1x1x128x128.size a ≤ S4x14x128x128.size a) : FVec Ideal S128x128 .f32 :=
  shapeCast S128x128 (View.readAt (Elt Ideal) a.view (Rect.unit (s := S4x14x128x128) off S1x1x128x128.size h).toLoadRect X)
    shapeCasts_S1x1x128x128_S128x128

/-- Four head pairs side by side, as stored. -/
noncomputable def rowOut (o0 o1 o2 o3 : FVec Ideal S64x128 .f32) : FVec Ideal S1x64x512 .bf16 :=
  shapeCast S1x64x512 (truncf .bf16 (concatenate S64x512 1 [⟨S64x128, o0⟩, ⟨S64x128, o1⟩, ⟨S64x128, o2⟩, ⟨S64x128, o3⟩]
    concatenates_S64x128_S64x128_S64x128_S64x128_S64x512_d1) bitsLt_bf16_f32) shapeCasts_S64x512_S1x64x512

section
variable (𝒱 : Variants) (c : Dev nD) (bd : Option 𝒱.V) (i : grid0.Coords) (arg2 : Memref sig .tc .vmem S1x512x512 .bf16) (harg2 : arg2.IsWhole) (arg3 : Memref sig .tc .vmem S1x1024x512 .bf16) (harg3 : arg3.IsWhole) (arg4 : Memref sig .tc .vmem S1x1024x512 .bf16) (harg4 : arg4.IsWhole) (arg5 : Memref sig .tc .vmem S4x14x128x128 .f32) (harg5 : arg5.IsWhole) (arg6 : Memref sig .tc .vmem S1x512x512 .bf16) (harg6 : arg6.IsWhole) (arg1 : BitVec 32) (v3 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)

/-- The stored row 0 of a trip. -/
noncomputable def row0 : FVec Ideal S1x64x512 .bf16 :=
  rowOut
    (pairOut (loadQ arg2 X_arg2 (k0_off1 k 0#32) (k0_off1_inb k 0)) (loadK arg3 X_arg3 (k0_off5 i k 0#32) (k0_off5_inb i k 0))
      (loadK arg4 X_arg4 (k0_off5 i k 0#32) (k0_off5_inb i k 0))
      (loadT arg5 X_arg5 (k0_off9 i k 0#32 0#32) (k0_off9_inb i k 0 0)) (loadT arg5 X_arg5 (k0_off9 i k 2#32 0#32) (k0_off9_inb i k 1 0)) (loadT arg5 X_arg5 (k0_off9 i k 4#32 0#32) (k0_off9_inb i k 2 0)) (loadT arg5 X_arg5 (k0_off9 i k 6#32 0#32) (k0_off9_inb i k 3 0)))
    (pairOut (loadQ arg2 X_arg2 (k0_off2 k 0#32) (k0_off2_inb k 0)) (loadK arg3 X_arg3 (k0_off6 i k 0#32) (k0_off6_inb i k 0))
      (loadK arg4 X_arg4 (k0_off6 i k 0#32) (k0_off6_inb i k 0))
      (loadT arg5 X_arg5 (k0_off10 i k 0#32 0#32) (k0_off10_inb i k 0 0)) (loadT arg5 X_arg5 (k0_off10 i k 2#32 0#32) (k0_off10_inb i k 1 0)) (loadT arg5 X_arg5 (k0_off10 i k 4#32 0#32) (k0_off10_inb i k 2 0)) (loadT arg5 X_arg5 (k0_off10 i k 6#32 0#32) (k0_off10_inb i k 3 0)))
    (pairOut (loadQ arg2 X_arg2 (k0_off3 k 0#32) (k0_off3_inb k 0)) (loadK arg3 X_arg3 (k0_off7 i k 0#32) (k0_off7_inb i k 0))
      (loadK arg4 X_arg4 (k0_off7 i k 0#32) (k0_off7_inb i k 0))
      (loadT arg5 X_arg5 (k0_off11 i k 0#32 0#32) (k0_off11_inb i k 0 0)) (loadT arg5 X_arg5 (k0_off11 i k 2#32 0#32) (k0_off11_inb i k 1 0)) (loadT arg5 X_arg5 (k0_off11 i k 4#32 0#32) (k0_off11_inb i k 2 0)) (loadT arg5 X_arg5 (k0_off11 i k 6#32 0#32) (k0_off11_inb i k 3 0)))
    (pairOut (loadQ arg2 X_arg2 (k0_off4 k 0#32) (k0_off4_inb k 0)) (loadK arg3 X_arg3 (k0_off8 i k 0#32) (k0_off8_inb i k 0))
      (loadK arg4 X_arg4 (k0_off8 i k 0#32) (k0_off8_inb i k 0))
      (loadT arg5 X_arg5 (k0_off12 i k 0#32 0#32) (k0_off12_inb i k 0 0)) (loadT arg5 X_arg5 (k0_off12 i k 2#32 0#32) (k0_off12_inb i k 1 0)) (loadT arg5 X_arg5 (k0_off12 i k 4#32 0#32) (k0_off12_inb i k 2 0)) (loadT arg5 X_arg5 (k0_off12 i k 6#32 0#32) (k0_off12_inb i k 3 0)))

/-- The stored row 1 of a trip. -/
noncomputable def row1 : FVec Ideal S1x64x512 .bf16 :=
  rowOut
    (pairOut (loadQ arg2 X_arg2 (k0_off1 k 1#32) (k0_off1_inb k 1)) (loadK arg3 X_arg3 (k0_off5 i k 1#32) (k0_off5_inb i k 1))
      (loadK arg4 X_arg4 (k0_off5 i k 1#32) (k0_off5_inb i k 1))
      (loadT arg5 X_arg5 (k0_off9 i k 0#32 1#32) (k0_off9_inb i k 0 1)) (loadT arg5 X_arg5 (k0_off9 i k 2#32 1#32) (k0_off9_inb i k 1 1)) (loadT arg5 X_arg5 (k0_off9 i k 4#32 1#32) (k0_off9_inb i k 2 1)) (loadT arg5 X_arg5 (k0_off9 i k 6#32 1#32) (k0_off9_inb i k 3 1)))
    (pairOut (loadQ arg2 X_arg2 (k0_off2 k 1#32) (k0_off2_inb k 1)) (loadK arg3 X_arg3 (k0_off6 i k 1#32) (k0_off6_inb i k 1))
      (loadK arg4 X_arg4 (k0_off6 i k 1#32) (k0_off6_inb i k 1))
      (loadT arg5 X_arg5 (k0_off10 i k 0#32 1#32) (k0_off10_inb i k 0 1)) (loadT arg5 X_arg5 (k0_off10 i k 2#32 1#32) (k0_off10_inb i k 1 1)) (loadT arg5 X_arg5 (k0_off10 i k 4#32 1#32) (k0_off10_inb i k 2 1)) (loadT arg5 X_arg5 (k0_off10 i k 6#32 1#32) (k0_off10_inb i k 3 1)))
    (pairOut (loadQ arg2 X_arg2 (k0_off3 k 1#32) (k0_off3_inb k 1)) (loadK arg3 X_arg3 (k0_off7 i k 1#32) (k0_off7_inb i k 1))
      (loadK arg4 X_arg4 (k0_off7 i k 1#32) (k0_off7_inb i k 1))
      (loadT arg5 X_arg5 (k0_off11 i k 0#32 1#32) (k0_off11_inb i k 0 1)) (loadT arg5 X_arg5 (k0_off11 i k 2#32 1#32) (k0_off11_inb i k 1 1)) (loadT arg5 X_arg5 (k0_off11 i k 4#32 1#32) (k0_off11_inb i k 2 1)) (loadT arg5 X_arg5 (k0_off11 i k 6#32 1#32) (k0_off11_inb i k 3 1)))
    (pairOut (loadQ arg2 X_arg2 (k0_off4 k 1#32) (k0_off4_inb k 1)) (loadK arg3 X_arg3 (k0_off8 i k 1#32) (k0_off8_inb i k 1))
      (loadK arg4 X_arg4 (k0_off8 i k 1#32) (k0_off8_inb i k 1))
      (loadT arg5 X_arg5 (k0_off12 i k 0#32 1#32) (k0_off12_inb i k 0 1)) (loadT arg5 X_arg5 (k0_off12 i k 2#32 1#32) (k0_off12_inb i k 1 1)) (loadT arg5 X_arg5 (k0_off12 i k 4#32 1#32) (k0_off12_inb i k 2 1)) (loadT arg5 X_arg5 (k0_off12 i k 6#32 1#32) (k0_off12_inb i k 3 1)))

/-- The stored row 2 of a trip. -/
noncomputable def row2 : FVec Ideal S1x64x512 .bf16 :=
  rowOut
    (pairOut (loadQ arg2 X_arg2 (k0_off1 k 2#32) (k0_off1_inb k 2)) (loadK arg3 X_arg3 (k0_off5 i k 2#32) (k0_off5_inb i k 2))
      (loadK arg4 X_arg4 (k0_off5 i k 2#32) (k0_off5_inb i k 2))
      (loadT arg5 X_arg5 (k0_off9 i k 0#32 2#32) (k0_off9_inb i k 0 2)) (loadT arg5 X_arg5 (k0_off9 i k 2#32 2#32) (k0_off9_inb i k 1 2)) (loadT arg5 X_arg5 (k0_off9 i k 4#32 2#32) (k0_off9_inb i k 2 2)) (loadT arg5 X_arg5 (k0_off9 i k 6#32 2#32) (k0_off9_inb i k 3 2)))
    (pairOut (loadQ arg2 X_arg2 (k0_off2 k 2#32) (k0_off2_inb k 2)) (loadK arg3 X_arg3 (k0_off6 i k 2#32) (k0_off6_inb i k 2))
      (loadK arg4 X_arg4 (k0_off6 i k 2#32) (k0_off6_inb i k 2))
      (loadT arg5 X_arg5 (k0_off10 i k 0#32 2#32) (k0_off10_inb i k 0 2)) (loadT arg5 X_arg5 (k0_off10 i k 2#32 2#32) (k0_off10_inb i k 1 2)) (loadT arg5 X_arg5 (k0_off10 i k 4#32 2#32) (k0_off10_inb i k 2 2)) (loadT arg5 X_arg5 (k0_off10 i k 6#32 2#32) (k0_off10_inb i k 3 2)))
    (pairOut (loadQ arg2 X_arg2 (k0_off3 k 2#32) (k0_off3_inb k 2)) (loadK arg3 X_arg3 (k0_off7 i k 2#32) (k0_off7_inb i k 2))
      (loadK arg4 X_arg4 (k0_off7 i k 2#32) (k0_off7_inb i k 2))
      (loadT arg5 X_arg5 (k0_off11 i k 0#32 2#32) (k0_off11_inb i k 0 2)) (loadT arg5 X_arg5 (k0_off11 i k 2#32 2#32) (k0_off11_inb i k 1 2)) (loadT arg5 X_arg5 (k0_off11 i k 4#32 2#32) (k0_off11_inb i k 2 2)) (loadT arg5 X_arg5 (k0_off11 i k 6#32 2#32) (k0_off11_inb i k 3 2)))
    (pairOut (loadQ arg2 X_arg2 (k0_off4 k 2#32) (k0_off4_inb k 2)) (loadK arg3 X_arg3 (k0_off8 i k 2#32) (k0_off8_inb i k 2))
      (loadK arg4 X_arg4 (k0_off8 i k 2#32) (k0_off8_inb i k 2))
      (loadT arg5 X_arg5 (k0_off12 i k 0#32 2#32) (k0_off12_inb i k 0 2)) (loadT arg5 X_arg5 (k0_off12 i k 2#32 2#32) (k0_off12_inb i k 1 2)) (loadT arg5 X_arg5 (k0_off12 i k 4#32 2#32) (k0_off12_inb i k 2 2)) (loadT arg5 X_arg5 (k0_off12 i k 6#32 2#32) (k0_off12_inb i k 3 2)))

/-- The stored row 3 of a trip. -/
noncomputable def row3 : FVec Ideal S1x64x512 .bf16 :=
  rowOut
    (pairOut (loadQ arg2 X_arg2 (k0_off1 k 3#32) (k0_off1_inb k 3)) (loadK arg3 X_arg3 (k0_off5 i k 3#32) (k0_off5_inb i k 3))
      (loadK arg4 X_arg4 (k0_off5 i k 3#32) (k0_off5_inb i k 3))
      (loadT arg5 X_arg5 (k0_off9 i k 0#32 3#32) (k0_off9_inb i k 0 3)) (loadT arg5 X_arg5 (k0_off9 i k 2#32 3#32) (k0_off9_inb i k 1 3)) (loadT arg5 X_arg5 (k0_off9 i k 4#32 3#32) (k0_off9_inb i k 2 3)) (loadT arg5 X_arg5 (k0_off9 i k 6#32 3#32) (k0_off9_inb i k 3 3)))
    (pairOut (loadQ arg2 X_arg2 (k0_off2 k 3#32) (k0_off2_inb k 3)) (loadK arg3 X_arg3 (k0_off6 i k 3#32) (k0_off6_inb i k 3))
      (loadK arg4 X_arg4 (k0_off6 i k 3#32) (k0_off6_inb i k 3))
      (loadT arg5 X_arg5 (k0_off10 i k 0#32 3#32) (k0_off10_inb i k 0 3)) (loadT arg5 X_arg5 (k0_off10 i k 2#32 3#32) (k0_off10_inb i k 1 3)) (loadT arg5 X_arg5 (k0_off10 i k 4#32 3#32) (k0_off10_inb i k 2 3)) (loadT arg5 X_arg5 (k0_off10 i k 6#32 3#32) (k0_off10_inb i k 3 3)))
    (pairOut (loadQ arg2 X_arg2 (k0_off3 k 3#32) (k0_off3_inb k 3)) (loadK arg3 X_arg3 (k0_off7 i k 3#32) (k0_off7_inb i k 3))
      (loadK arg4 X_arg4 (k0_off7 i k 3#32) (k0_off7_inb i k 3))
      (loadT arg5 X_arg5 (k0_off11 i k 0#32 3#32) (k0_off11_inb i k 0 3)) (loadT arg5 X_arg5 (k0_off11 i k 2#32 3#32) (k0_off11_inb i k 1 3)) (loadT arg5 X_arg5 (k0_off11 i k 4#32 3#32) (k0_off11_inb i k 2 3)) (loadT arg5 X_arg5 (k0_off11 i k 6#32 3#32) (k0_off11_inb i k 3 3)))
    (pairOut (loadQ arg2 X_arg2 (k0_off4 k 3#32) (k0_off4_inb k 3)) (loadK arg3 X_arg3 (k0_off8 i k 3#32) (k0_off8_inb i k 3))
      (loadK arg4 X_arg4 (k0_off8 i k 3#32) (k0_off8_inb i k 3))
      (loadT arg5 X_arg5 (k0_off12 i k 0#32 3#32) (k0_off12_inb i k 0 3)) (loadT arg5 X_arg5 (k0_off12 i k 2#32 3#32) (k0_off12_inb i k 1 3)) (loadT arg5 X_arg5 (k0_off12 i k 4#32 3#32) (k0_off12_inb i k 2 3)) (loadT arg5 X_arg5 (k0_off12 i k 6#32 3#32) (k0_off12_inb i k 3 3)))

/-- The four pieces a trip stores, last first. -/
theorem trip_pieces :
    (trip_k0_t1 (F := Ideal) 𝒱 c bd i arg2 harg2 arg3 harg3 arg4 harg4 arg5 harg5 arg6 harg6 arg1 v3 X_arg2 X_arg3 X_arg4 X_arg5 k).1
      = [⟨Rect.unit (s := S1x512x512) (k0_off13 k 3#32) S1x64x512.size (k0_off13_inb k 3), row3 i arg2 arg3 arg4 arg5 X_arg2 X_arg3 X_arg4 X_arg5 k⟩,
         ⟨Rect.unit (s := S1x512x512) (k0_off13 k 2#32) S1x64x512.size (k0_off13_inb k 2), row2 i arg2 arg3 arg4 arg5 X_arg2 X_arg3 X_arg4 X_arg5 k⟩,
         ⟨Rect.unit (s := S1x512x512) (k0_off13 k 1#32) S1x64x512.size (k0_off13_inb k 1), row1 i arg2 arg3 arg4 arg5 X_arg2 X_arg3 X_arg4 X_arg5 k⟩,
         ⟨Rect.unit (s := S1x512x512) (k0_off13 k 0#32) S1x64x512.size (k0_off13_inb k 0), row0 i arg2 arg3 arg4 arg5 X_arg2 X_arg3 X_arg4 X_arg5 k⟩] := by
  unfold trip_k0_t1
  rfl

end

end Cert.NA
end
-- ==== Proof.NA.Offsets.lean ====
module

public import proofs.«01_k».proof.Proof.NA.Trip

/-! # Where a grid point's loads and stores are -/

@[expose] public section

set_option maxRecDepth 16384

namespace Cert.NA

open Idealize.ShloMosaic Cert.KernelIdeal Cert.KernelIdeal.Gen

/-- The row in the grid of tokens of row `il` of the point's block. -/
def blockRow (i : grid0.Coords) (il : Fin 8) : Fin 64 :=
  ⟨(i 1).val * 8 + il.val, by have h : (i 1).val < 8 := (i 1).isLt; omega⟩

/-- The first row of the point's window of keys. -/
def firstRow (i : grid0.Coords) : Nat := min ((i 1).val * 8 - 4) 48

/-- Where the keys of row `il` begin in the window. -/
def keyOff (i : grid0.Coords) (il : Fin 8) : Nat := (rowStart (blockRow i il) - firstRow i) * 64

theorem keyOff_le (i : grid0.Coords) (il : Fin 8) : keyOff i il ≤ 512 := by
  have h : (i 1).val < 8 := (i 1).isLt
  unfold keyOff firstRow rowStart blockRow
  simp only
  omega

/-- Which tile of the bias table goes with rows `2 p` and `2 p + 1` of the keys. -/
def tile (i : grid0.Coords) (il : Fin 8) (p : Fin 4) : Fin 14 :=
  ⟨2 * p.val + 7 - ((blockRow i il).val - rowStart (blockRow i il)), by omega⟩

/-! ## The offsets in closed form -/

theorem trips_lt (k : Fin k0_t1_loop.trips) : k.val < 2 := Nat.lt_of_lt_of_le k.isLt k0_t1_abs.2.1

/-- The row of the block that store `n` of trip `k` fills. -/
def storeRow (k : Fin k0_t1_loop.trips) (n : Fin 4) : Fin 8 := ⟨k.val * 4 + n.val, by have := trips_lt k; omega⟩

theorem off1_eq : ∀ (k : Fin k0_t1_loop.trips) (n : Fin 4), k0_off1 k (BitVec.ofNat 32 n.val) = ![0, (storeRow k n).val * 64, 0*128] := by
  decide +kernel

theorem off5_eq : ∀ (i : grid0.Coords) (k : Fin k0_t1_loop.trips) (n : Fin 4),
    k0_off5 i k (BitVec.ofNat 32 n.val) = ![0, keyOff i (storeRow k n), 0*128] := by
  decide +kernel

theorem off9_eq : ∀ (i : grid0.Coords) (k : Fin k0_t1_loop.trips) (p n : Fin 4),
    k0_off9 i k (BitVec.ofNat 32 (2 * p.val)) (BitVec.ofNat 32 n.val) = ![0, (tile i (storeRow k n) p).val, 0, 0] := by
  decide +kernel

theorem off2_eq : ∀ (k : Fin k0_t1_loop.trips) (n : Fin 4), k0_off2 k (BitVec.ofNat 32 n.val) = ![0, (storeRow k n).val * 64, 1*128] := by
  decide +kernel

theorem off6_eq : ∀ (i : grid0.Coords) (k : Fin k0_t1_loop.trips) (n : Fin 4),
    k0_off6 i k (BitVec.ofNat 32 n.val) = ![0, keyOff i (storeRow k n), 1*128] := by
  decide +kernel

theorem off10_eq : ∀ (i : grid0.Coords) (k : Fin k0_t1_loop.trips) (p n : Fin 4),
    k0_off10 i k (BitVec.ofNat 32 (2 * p.val)) (BitVec.ofNat 32 n.val) = ![1, (tile i (storeRow k n) p).val, 0, 0] := by
  decide +kernel

theorem off3_eq : ∀ (k : Fin k0_t1_loop.trips) (n : Fin 4), k0_off3 k (BitVec.ofNat 32 n.val) = ![0, (storeRow k n).val * 64, 2*128] := by
  decide +kernel

theorem off7_eq : ∀ (i : grid0.Coords) (k : Fin k0_t1_loop.trips) (n : Fin 4),
    k0_off7 i k (BitVec.ofNat 32 n.val) = ![0, keyOff i (storeRow k n), 2*128] := by
  decide +kernel

theorem off11_eq : ∀ (i : grid0.Coords) (k : Fin k0_t1_loop.trips) (p n : Fin 4),
    k0_off11 i k (BitVec.ofNat 32 (2 * p.val)) (BitVec.ofNat 32 n.val) = ![2, (tile i (storeRow k n) p).val, 0, 0] := by
  decide +kernel

theorem off4_eq : ∀ (k : Fin k0_t1_loop.trips) (n : Fin 4), k0_off4 k (BitVec.ofNat 32 n.val) = ![0, (storeRow k n).val * 64, 3*128] := by
  decide +kernel

theorem off8_eq : ∀ (i : grid0.Coords) (k : Fin k0_t1_loop.trips) (n : Fin 4),
    k0_off8 i k (BitVec.ofNat 32 n.val) = ![0, keyOff i (storeRow k n), 3*128] := by
  decide +kernel

theorem off12_eq : ∀ (i : grid0.Coords) (k : Fin k0_t1_loop.trips) (p n : Fin 4),
    k0_off12 i k (BitVec.ofNat 32 (2 * p.val)) (BitVec.ofNat 32 n.val) = ![3, (tile i (storeRow k n) p).val, 0, 0] := by
  decide +kernel

theorem off13_eq : ∀ (k : Fin k0_t1_loop.trips) (n : Fin 4), k0_off13 k (BitVec.ofNat 32 n.val) = ![0, (storeRow k n).val * 64, 0] := by
  decide +kernel

end Cert.NA
end
-- ==== Proof.NA.Block.lean ====
module

public import proofs.«01_k».proof.Proof.NA.Offsets
public import Idealize.ShloMosaic.Lib.Pipeline.ValueKit
public import Idealize.ShloMosaic.Lib.Pipeline.ReadBack
public import Idealize.ShloMosaic.Lib.WholeRead

/-! # What one grid point leaves in its block

A grid point holds 8 query rows. `blockAt` is its result at row `il`, column `j`, head pair `hp`, head `g` of the pair
and lane `d`, from the point's blocks of the queries, the keys, the values and the bias table. -/

@[expose] public section

set_option maxRecDepth 16384

namespace Cert.NA

open Idealize.ShloMosaic Cert.KernelIdeal Cert.KernelIdeal.Gen

/-- Lane `d` of head `g` of pair `hp`. -/
def headLane (hp : Fin 4) (g : Fin 2) (d : Fin 64) : Fin 512 := ⟨hp.val * 128 + (pairLane g d).val, by omega⟩

section
variable (i : grid0.Coords) (x0 : Vec Ideal S1x512x512 .bf16) (x1 x2 : Vec Ideal S1x1024x512 .bf16)
    (x3 : Vec Ideal S4x14x128x128 .f32)

/-- The score of key `c`. -/
noncomputable def blockScore (il : Fin 8) (j : Fin 64) (hp : Fin 4) (g : Fin 2) (c : Fin 512) : EReal :=
  (∑ d : Fin 64, x0 (ix3 0 ⟨il.val * 64 + j.val, by omega⟩ (headLane hp g d))
      * x1 (ix3 0 ⟨keyOff i il + c.val, by have := keyOff_le i il; omega⟩ (headLane hp g d)))
    + x3 (ix4 hp (tile i il ⟨c.val / 128, by omega⟩) (pairLane g j) ⟨c.val % 128, by omega⟩)

/-- The point's result. -/
noncomputable def blockAt (il : Fin 8) (j : Fin 64) (hp : Fin 4) (g : Fin 2) (d : Fin 64) : EReal :=
  ∑ c, Ideal.exp (blockScore i x0 x1 x3 il j hp g c - Finset.univ.fold max ⊥ (blockScore i x0 x1 x3 il j hp g))
    * Ideal.div 1 (∑ c', Ideal.exp (blockScore i x0 x1 x3 il j hp g c' - Finset.univ.fold max ⊥ (blockScore i x0 x1 x3 il j hp g)))
    * x2 (ix3 0 ⟨keyOff i il + c.val, by have := keyOff_le i il; omega⟩ (headLane hp g d))

/-- The same by the block's own index. -/
noncomputable def blockOut (y : S1x512x512.Idx) : EReal :=
  have h1 : (y 1).val < 512 := (y 1).isLt
  have h2 : (y 2).val < 512 := (y 2).isLt
  blockAt i x0 x1 x2 x3 ⟨(y 1).val / 64, by omega⟩ ⟨(y 1).val % 64, by omega⟩ ⟨(y 2).val / 128, by omega⟩
    ⟨(y 2).val % 128 / 64, by omega⟩ ⟨(y 2).val % 64, by omega⟩

theorem blockOut_eq (il : Fin 8) (j : Fin 64) (hp : Fin 4) (g : Fin 2) (d : Fin 64) :
    blockOut i x0 x1 x2 x3 (ix3 0 ⟨il.val * 64 + j.val, by omega⟩ (headLane hp g d)) = blockAt i x0 x1 x2 x3 il j hp g d := by
  have e1 : (⟨(il.val * 64 + j.val) / 64, by omega⟩ : Fin 8) = il := Fin.ext (by simp only; omega)
  have e2 : (⟨(il.val * 64 + j.val) % 64, by omega⟩ : Fin 64) = j := Fin.ext (by simp only; omega)
  have e3 : (⟨(headLane hp g d).val / 128, by omega⟩ : Fin 4) = hp := Fin.ext (by unfold headLane pairLane; simp only; omega)
  have e4 : (⟨(headLane hp g d).val % 128 / 64, by omega⟩ : Fin 2) = g := Fin.ext (by unfold headLane pairLane; simp only; omega)
  have e5 : (⟨(headLane hp g d).val % 64, by omega⟩ : Fin 64) = d := Fin.ext (by unfold headLane pairLane; simp only; omega)
  show blockAt i x0 x1 x2 x3 ⟨(il.val * 64 + j.val) / 64, _⟩ ⟨(il.val * 64 + j.val) % 64, _⟩ ⟨(headLane hp g d).val / 128, _⟩
    ⟨(headLane hp g d).val % 128 / 64, _⟩ ⟨(headLane hp g d).val % 64, _⟩ = _
  rw [e1, e2, e3, e4, e5]

/-! ## Loads at an index -/

theorem loadQ_cast (z : FVec Ideal S1x64x128 .bf16) (j : Fin 64) (l : Fin 128) :
    shapeCast S64x128 z shapeCasts_S1x64x128_S64x128 (ix2 j l) = z (ix3 0 j l) := by
  pointwise

theorem loadK_cast (z : FVec Ideal S1x512x128 .bf16) (k : Fin 512) (l : Fin 128) :
    shapeCast S512x128 z shapeCasts_S1x512x128_S512x128 (ix2 k l) = z (ix3 0 k l) := by
  pointwise

theorem loadT_cast (z : FVec Ideal S1x1x128x128 .f32) (r c : Fin 128) :
    shapeCast S128x128 z shapeCasts_S1x1x128x128_S128x128 (ix2 r c) = z (ix4 0 0 r c) := by
  pointwise

theorem loadQ_apply (a : Memref sig .tc .vmem S1x512x512 .bf16) (ha : a.IsWhole) (off : Fin 3 → Nat)
    (h : ∀ a, off a + S1x64x128.size a ≤ S1x512x512.size a) (o1 o2 : Nat) (ho : off = ![0, o1, o2])
    (j : Fin 64) (l : Fin 128) (r c : Fin 512) (hr : r.val = o1 + j.val) (hc : c.val = o2 + l.val) :
    loadQ a (ha.unread x0) off h (ix2 j l) = x0 (ix3 0 r c) := by
  subst ho
  have e : loadQ a (ha.unread x0) ![0, o1, o2] h (ix2 j l)
      = View.readAt (Elt Ideal) a.view (Rect.unit (s := S1x512x512) ![0, o1, o2] S1x64x128.size h).toLoadRect (ha.unread x0) (ix3 0 j l) := by
    exact loadQ_cast _ j l
  rw [e, ha.readAt_unread]
  refine congrArg x0 (funext fun a => Fin.ext ?_)
  match a with
  | ⟨0, _⟩ => rfl
  | ⟨1, _⟩ => show o1 + 1 * j.val = r.val; omega
  | ⟨2, _⟩ => show o2 + 1 * l.val = c.val; omega

theorem loadK_apply (a : Memref sig .tc .vmem S1x1024x512 .bf16) (ha : a.IsWhole) (off : Fin 3 → Nat)
    (h : ∀ a, off a + S1x512x128.size a ≤ S1x1024x512.size a) (o1 o2 : Nat) (ho : off = ![0, o1, o2])
    (k : Fin 512) (l : Fin 128) (r : Fin 1024) (c : Fin 512) (hr : r.val = o1 + k.val) (hc : c.val = o2 + l.val) :
    loadK a (ha.unread x1) off h (ix2 k l) = x1 (ix3 0 r c) := by
  subst ho
  have e : loadK a (ha.unread x1) ![0, o1, o2] h (ix2 k l)
      = View.readAt (Elt Ideal) a.view (Rect.unit (s := S1x1024x512) ![0, o1, o2] S1x512x128.size h).toLoadRect (ha.unread x1) (ix3 0 k l) := by
    exact loadK_cast _ k l
  rw [e, ha.readAt_unread]
  refine congrArg x1 (funext fun a => Fin.ext ?_)
  match a with
  | ⟨0, _⟩ => rfl
  | ⟨1, _⟩ => show o1 + 1 * k.val = r.val; omega
  | ⟨2, _⟩ => show o2 + 1 * l.val = c.val; omega

theorem loadT_apply (a : Memref sig .tc .vmem S4x14x128x128 .f32) (ha : a.IsWhole) (off : Fin 4 → Nat)
    (h : ∀ a, off a + S1x1x128x128.size a ≤ S4x14x128x128.size a) (o0 o1 : Nat) (ho : off = ![o0, o1, 0, 0])
    (r c : Fin 128) (p : Fin 4) (q : Fin 14) (hp : p.val = o0) (hq : q.val = o1) :
    loadT a (ha.unread x3) off h (ix2 r c) = x3 (ix4 p q r c) := by
  subst ho
  have e : loadT a (ha.unread x3) ![o0, o1, 0, 0] h (ix2 r c)
      = View.readAt (Elt Ideal) a.view (Rect.unit (s := S4x14x128x128) ![o0, o1, 0, 0] S1x1x128x128.size h).toLoadRect (ha.unread x3) (ix4 0 0 r c) := by
    exact loadT_cast _ r c
  rw [e, ha.readAt_unread]
  refine congrArg x3 (funext fun a => Fin.ext ?_)
  match a with
  | ⟨0, _⟩ => show o0 + 1 * 0 = p.val; omega
  | ⟨1, _⟩ => show o1 + 1 * 0 = q.val; omega
  | ⟨2, _⟩ => show 0 + 1 * r.val = r.val; omega
  | ⟨3, _⟩ => show 0 + 1 * c.val = c.val; omega

/-! ## One pair, one row -/

theorem pair_block (il : Fin 8) (hp : Fin 4) (q : FVec Ideal S64x128 .bf16) (k v : FVec Ideal S512x128 .bf16)
    (t0 t1 t2 t3 : FVec Ideal S128x128 .f32)
    (hq : ∀ (j : Fin 64) (l : Fin 128), q (ix2 j l) = x0 (ix3 0 ⟨il.val * 64 + j.val, by omega⟩ ⟨hp.val * 128 + l.val, by omega⟩))
    (hk : ∀ (c : Fin 512) (l : Fin 128), k (ix2 c l)
      = x1 (ix3 0 ⟨keyOff i il + c.val, by have := keyOff_le i il; omega⟩ ⟨hp.val * 128 + l.val, by omega⟩))
    (hv : ∀ (c : Fin 512) (l : Fin 128), v (ix2 c l)
      = x2 (ix3 0 ⟨keyOff i il + c.val, by have := keyOff_le i il; omega⟩ ⟨hp.val * 128 + l.val, by omega⟩))
    (ht : ∀ (p : Fin 4) (r c : Fin 128), (![t0, t1, t2, t3] : Fin 4 → FVec Ideal S128x128 .f32) p (ix2 r c) = x3 (ix4 hp (tile i il p) r c))
    (j : Fin 64) (g : Fin 2) (d : Fin 64) :
    pairOut q k v t0 t1 t2 t3 (ix2 j (pairLane g d))
      = blockOut i x0 x1 x2 x3 (ix3 0 ⟨il.val * 64 + j.val, by omega⟩ (headLane hp g d)) := by
  rw [blockOut_eq, pairOut_apply]
  have hs : rowScore q k ![t0, t1, t2, t3] g j = blockScore i x0 x1 x3 il j hp g := by
    funext c
    unfold rowScore blockScore
    rw [ht]
    simp only [hq, hk]
    rfl
  rw [hs]
  unfold blockAt
  simp only [hv]
  rfl

theorem rowOut_apply (o0 o1 o2 o3 : FVec Ideal S64x128 .f32) (j : Fin 64) (hp : Fin 4) (l : Fin 128) :
    rowOut o0 o1 o2 o3 (ix3 0 j ⟨hp.val * 128 + l.val, by omega⟩) = (![o0, o1, o2, o3] : Fin 4 → FVec Ideal S64x128 .f32) hp (ix2 j l) := by
  have hl := l.isLt
  rcases (by decide : ∀ hp : Fin 4, hp = 0 ∨ hp = 1 ∨ hp = 2 ∨ hp = 3) hp with h | h | h | h <;> subst h <;> pointwise [rowOut]
  · rw [dif_neg (by omega), dif_neg (by omega), dif_pos (by omega)]
    exact congrArg o2 (congrArg (ix2 j) (Fin.ext (by simp only; omega)))
  · rw [dif_neg (by omega), dif_neg (by omega), dif_neg (by omega)]
    exact congrArg o3 (congrArg (ix2 j) (Fin.ext (by simp only; omega)))

/-- A stored row is a block of `blockOut` when its four pairs are. -/
theorem row_block (k : Fin k0_t1_loop.trips) (n : Fin 4) (h : ∀ a, k0_off13 k (BitVec.ofNat 32 n.val) a + S1x64x512.size a ≤ S1x512x512.size a)
    (o0 o1 o2 o3 : FVec Ideal S64x128 .f32)
    (ho : ∀ (hp : Fin 4) (j : Fin 64) (g : Fin 2) (d : Fin 64), (![o0, o1, o2, o3] : Fin 4 → FVec Ideal S64x128 .f32) hp (ix2 j (pairLane g d))
      = blockOut i x0 x1 x2 x3 (ix3 0 ⟨(storeRow k n).val * 64 + j.val, by omega⟩ (headLane hp g d)))
    (x : S1x64x512.Idx) :
    rowOut o0 o1 o2 o3 x
      = blockOut i x0 x1 x2 x3 ((Rect.unit (s := S1x512x512) (k0_off13 k (BitVec.ofNat 32 n.val)) S1x64x512.size h).emb x) := by
  obtain ⟨a, j, c, rfl⟩ : ∃ (a : Fin 1) (j : Fin 64) (c : Fin 512), x = ix3 a j c := ⟨x 0, x 1, x 2, by idx_vars x⟩
  obtain rfl : a = 0 := Subsingleton.elim _ _
  have hlt := c.isLt
  obtain ⟨hp, g, d, rfl⟩ : ∃ (hp : Fin 4) (g : Fin 2) (d : Fin 64), c = headLane hp g d :=
    ⟨⟨c.val / 128, by omega⟩, ⟨c.val % 128 / 64, by omega⟩, ⟨c.val % 64, by omega⟩, Fin.ext (by unfold headLane pairLane; simp only; omega)⟩
  refine (rowOut_apply o0 o1 o2 o3 j hp (pairLane g d)).trans ((ho hp j g d).trans (congrArg _ (funext fun a => Fin.ext ?_)))
  have e := congrFun (off13_eq k n) a
  rw [Rect.emb_apply]
  show _ = k0_off13 k (BitVec.ofNat 32 n.val) a + 1 * (ix3 0 j (headLane hp g d) a).val
  refine Eq.trans ?_ (congrArg (· + 1 * (ix3 0 j (headLane hp g d) a).val) e.symm)
  match a with
  | ⟨0, _⟩ => rfl
  | ⟨1, _⟩ => show (storeRow k n).val * 64 + j.val = (storeRow k n).val * 64 + 1 * j.val; rw [Nat.one_mul]
  | ⟨2, _⟩ => show (headLane hp g d).val = 0 + 1 * (headLane hp g d).val; omega

end

end Cert.NA
end
-- ==== Proof.NA.Rows.lean ====
module

public import proofs.«01_k».proof.Proof.NA.Block

/-! # The stores of a grid point are blocks of one function -/

@[expose] public section

set_option maxRecDepth 16384

namespace Cert.NA

open Idealize.ShloMosaic Cert.KernelIdeal Cert.KernelIdeal.Gen

section
variable (i : grid0.Coords) (arg2 : Memref sig .tc .vmem S1x512x512 .bf16) (harg2 : arg2.IsWhole) (arg3 : Memref sig .tc .vmem S1x1024x512 .bf16)
    (harg3 : arg3.IsWhole) (arg4 : Memref sig .tc .vmem S1x1024x512 .bf16) (harg4 : arg4.IsWhole) (arg5 : Memref sig .tc .vmem S4x14x128x128 .f32)
    (harg5 : arg5.IsWhole) (x0 : Vec Ideal S1x512x512 .bf16) (x1 x2 : Vec Ideal S1x1024x512 .bf16) (x3 : Vec Ideal S4x14x128x128 .f32)
    (k : Fin k0_t1_loop.trips)

theorem pair0_apply (n : Fin 4) (j : Fin 64) (g : Fin 2) (d : Fin 64) :
    pairOut (loadQ arg2 (harg2.unread x0) (k0_off1 k (BitVec.ofNat 32 n.val)) (k0_off1_inb k n))
      (loadK arg3 (harg3.unread x1) (k0_off5 i k (BitVec.ofNat 32 n.val)) (k0_off5_inb i k n))
      (loadK arg4 (harg4.unread x2) (k0_off5 i k (BitVec.ofNat 32 n.val)) (k0_off5_inb i k n))
      (loadT arg5 (harg5.unread x3) (k0_off9 i k 0#32 (BitVec.ofNat 32 n.val)) (k0_off9_inb i k 0 n))
      (loadT arg5 (harg5.unread x3) (k0_off9 i k 2#32 (BitVec.ofNat 32 n.val)) (k0_off9_inb i k 1 n))
      (loadT arg5 (harg5.unread x3) (k0_off9 i k 4#32 (BitVec.ofNat 32 n.val)) (k0_off9_inb i k 2 n))
      (loadT arg5 (harg5.unread x3) (k0_off9 i k 6#32 (BitVec.ofNat 32 n.val)) (k0_off9_inb i k 3 n))
      (ix2 j (pairLane g d)) = blockOut i x0 x1 x2 x3 (ix3 0 ⟨(storeRow k n).val * 64 + j.val, by omega⟩ (headLane 0 g d)) := by
  refine pair_block i x0 x1 x2 x3 (storeRow k n) 0 _ _ _ _ _ _ _
    (fun j l => loadQ_apply x0 arg2 harg2 _ _ _ _ (off1_eq k n) j l _ _ rfl rfl)
    (fun c l => loadK_apply x1 arg3 harg3 _ _ _ _ (off5_eq i k n) c l _ _ rfl rfl)
    (fun c l => loadK_apply x2 arg4 harg4 _ _ _ _ (off5_eq i k n) c l _ _ rfl rfl) (fun p r c => ?_) j g d
  rcases (by decide : ∀ p : Fin 4, p = 0 ∨ p = 1 ∨ p = 2 ∨ p = 3) p with h | h | h | h <;> subst h
  · exact loadT_apply x3 arg5 harg5 _ _ _ _ (off9_eq i k 0 n) r c _ _ rfl rfl
  · exact loadT_apply x3 arg5 harg5 _ _ _ _ (off9_eq i k 1 n) r c _ _ rfl rfl
  · exact loadT_apply x3 arg5 harg5 _ _ _ _ (off9_eq i k 2 n) r c _ _ rfl rfl
  · exact loadT_apply x3 arg5 harg5 _ _ _ _ (off9_eq i k 3 n) r c _ _ rfl rfl

theorem pair1_apply (n : Fin 4) (j : Fin 64) (g : Fin 2) (d : Fin 64) :
    pairOut (loadQ arg2 (harg2.unread x0) (k0_off2 k (BitVec.ofNat 32 n.val)) (k0_off2_inb k n))
      (loadK arg3 (harg3.unread x1) (k0_off6 i k (BitVec.ofNat 32 n.val)) (k0_off6_inb i k n))
      (loadK arg4 (harg4.unread x2) (k0_off6 i k (BitVec.ofNat 32 n.val)) (k0_off6_inb i k n))
      (loadT arg5 (harg5.unread x3) (k0_off10 i k 0#32 (BitVec.ofNat 32 n.val)) (k0_off10_inb i k 0 n))
      (loadT arg5 (harg5.unread x3) (k0_off10 i k 2#32 (BitVec.ofNat 32 n.val)) (k0_off10_inb i k 1 n))
      (loadT arg5 (harg5.unread x3) (k0_off10 i k 4#32 (BitVec.ofNat 32 n.val)) (k0_off10_inb i k 2 n))
      (loadT arg5 (harg5.unread x3) (k0_off10 i k 6#32 (BitVec.ofNat 32 n.val)) (k0_off10_inb i k 3 n))
      (ix2 j (pairLane g d)) = blockOut i x0 x1 x2 x3 (ix3 0 ⟨(storeRow k n).val * 64 + j.val, by omega⟩ (headLane 1 g d)) := by
  refine pair_block i x0 x1 x2 x3 (storeRow k n) 1 _ _ _ _ _ _ _
    (fun j l => loadQ_apply x0 arg2 harg2 _ _ _ _ (off2_eq k n) j l _ _ rfl rfl)
    (fun c l => loadK_apply x1 arg3 harg3 _ _ _ _ (off6_eq i k n) c l _ _ rfl rfl)
    (fun c l => loadK_apply x2 arg4 harg4 _ _ _ _ (off6_eq i k n) c l _ _ rfl rfl) (fun p r c => ?_) j g d
  rcases (by decide : ∀ p : Fin 4, p = 0 ∨ p = 1 ∨ p = 2 ∨ p = 3) p with h | h | h | h <;> subst h
  · exact loadT_apply x3 arg5 harg5 _ _ _ _ (off10_eq i k 0 n) r c _ _ rfl rfl
  · exact loadT_apply x3 arg5 harg5 _ _ _ _ (off10_eq i k 1 n) r c _ _ rfl rfl
  · exact loadT_apply x3 arg5 harg5 _ _ _ _ (off10_eq i k 2 n) r c _ _ rfl rfl
  · exact loadT_apply x3 arg5 harg5 _ _ _ _ (off10_eq i k 3 n) r c _ _ rfl rfl

theorem pair2_apply (n : Fin 4) (j : Fin 64) (g : Fin 2) (d : Fin 64) :
    pairOut (loadQ arg2 (harg2.unread x0) (k0_off3 k (BitVec.ofNat 32 n.val)) (k0_off3_inb k n))
      (loadK arg3 (harg3.unread x1) (k0_off7 i k (BitVec.ofNat 32 n.val)) (k0_off7_inb i k n))
      (loadK arg4 (harg4.unread x2) (k0_off7 i k (BitVec.ofNat 32 n.val)) (k0_off7_inb i k n))
      (loadT arg5 (harg5.unread x3) (k0_off11 i k 0#32 (BitVec.ofNat 32 n.val)) (k0_off11_inb i k 0 n))
      (loadT arg5 (harg5.unread x3) (k0_off11 i k 2#32 (BitVec.ofNat 32 n.val)) (k0_off11_inb i k 1 n))
      (loadT arg5 (harg5.unread x3) (k0_off11 i k 4#32 (BitVec.ofNat 32 n.val)) (k0_off11_inb i k 2 n))
      (loadT arg5 (harg5.unread x3) (k0_off11 i k 6#32 (BitVec.ofNat 32 n.val)) (k0_off11_inb i k 3 n))
      (ix2 j (pairLane g d)) = blockOut i x0 x1 x2 x3 (ix3 0 ⟨(storeRow k n).val * 64 + j.val, by omega⟩ (headLane 2 g d)) := by
  refine pair_block i x0 x1 x2 x3 (storeRow k n) 2 _ _ _ _ _ _ _
    (fun j l => loadQ_apply x0 arg2 harg2 _ _ _ _ (off3_eq k n) j l _ _ rfl rfl)
    (fun c l => loadK_apply x1 arg3 harg3 _ _ _ _ (off7_eq i k n) c l _ _ rfl rfl)
    (fun c l => loadK_apply x2 arg4 harg4 _ _ _ _ (off7_eq i k n) c l _ _ rfl rfl) (fun p r c => ?_) j g d
  rcases (by decide : ∀ p : Fin 4, p = 0 ∨ p = 1 ∨ p = 2 ∨ p = 3) p with h | h | h | h <;> subst h
  · exact loadT_apply x3 arg5 harg5 _ _ _ _ (off11_eq i k 0 n) r c _ _ rfl rfl
  · exact loadT_apply x3 arg5 harg5 _ _ _ _ (off11_eq i k 1 n) r c _ _ rfl rfl
  · exact loadT_apply x3 arg5 harg5 _ _ _ _ (off11_eq i k 2 n) r c _ _ rfl rfl
  · exact loadT_apply x3 arg5 harg5 _ _ _ _ (off11_eq i k 3 n) r c _ _ rfl rfl

theorem pair3_apply (n : Fin 4) (j : Fin 64) (g : Fin 2) (d : Fin 64) :
    pairOut (loadQ arg2 (harg2.unread x0) (k0_off4 k (BitVec.ofNat 32 n.val)) (k0_off4_inb k n))
      (loadK arg3 (harg3.unread x1) (k0_off8 i k (BitVec.ofNat 32 n.val)) (k0_off8_inb i k n))
      (loadK arg4 (harg4.unread x2) (k0_off8 i k (BitVec.ofNat 32 n.val)) (k0_off8_inb i k n))
      (loadT arg5 (harg5.unread x3) (k0_off12 i k 0#32 (BitVec.ofNat 32 n.val)) (k0_off12_inb i k 0 n))
      (loadT arg5 (harg5.unread x3) (k0_off12 i k 2#32 (BitVec.ofNat 32 n.val)) (k0_off12_inb i k 1 n))
      (loadT arg5 (harg5.unread x3) (k0_off12 i k 4#32 (BitVec.ofNat 32 n.val)) (k0_off12_inb i k 2 n))
      (loadT arg5 (harg5.unread x3) (k0_off12 i k 6#32 (BitVec.ofNat 32 n.val)) (k0_off12_inb i k 3 n))
      (ix2 j (pairLane g d)) = blockOut i x0 x1 x2 x3 (ix3 0 ⟨(storeRow k n).val * 64 + j.val, by omega⟩ (headLane 3 g d)) := by
  refine pair_block i x0 x1 x2 x3 (storeRow k n) 3 _ _ _ _ _ _ _
    (fun j l => loadQ_apply x0 arg2 harg2 _ _ _ _ (off4_eq k n) j l _ _ rfl rfl)
    (fun c l => loadK_apply x1 arg3 harg3 _ _ _ _ (off8_eq i k n) c l _ _ rfl rfl)
    (fun c l => loadK_apply x2 arg4 harg4 _ _ _ _ (off8_eq i k n) c l _ _ rfl rfl) (fun p r c => ?_) j g d
  rcases (by decide : ∀ p : Fin 4, p = 0 ∨ p = 1 ∨ p = 2 ∨ p = 3) p with h | h | h | h <;> subst h
  · exact loadT_apply x3 arg5 harg5 _ _ _ _ (off12_eq i k 0 n) r c _ _ rfl rfl
  · exact loadT_apply x3 arg5 harg5 _ _ _ _ (off12_eq i k 1 n) r c _ _ rfl rfl
  · exact loadT_apply x3 arg5 harg5 _ _ _ _ (off12_eq i k 2 n) r c _ _ rfl rfl
  · exact loadT_apply x3 arg5 harg5 _ _ _ _ (off12_eq i k 3 n) r c _ _ rfl rfl

theorem row0_apply (x : S1x64x512.Idx) :
    row0 i arg2 arg3 arg4 arg5 (harg2.unread x0) (harg3.unread x1) (harg4.unread x2) (harg5.unread x3) k x
      = blockOut i x0 x1 x2 x3 ((Rect.unit (s := S1x512x512) (k0_off13 k 0#32) S1x64x512.size (k0_off13_inb k 0)).emb x) := by
  refine row_block i x0 x1 x2 x3 k 0 (k0_off13_inb k 0) _ _ _ _ (fun hp j g d => ?_) x
  rcases (by decide : ∀ hp : Fin 4, hp = 0 ∨ hp = 1 ∨ hp = 2 ∨ hp = 3) hp with h | h | h | h <;> subst h
  · exact pair0_apply i arg2 harg2 arg3 harg3 arg4 harg4 arg5 harg5 x0 x1 x2 x3 k 0 j g d
  · exact pair1_apply i arg2 harg2 arg3 harg3 arg4 harg4 arg5 harg5 x0 x1 x2 x3 k 0 j g d
  · exact pair2_apply i arg2 harg2 arg3 harg3 arg4 harg4 arg5 harg5 x0 x1 x2 x3 k 0 j g d
  · exact pair3_apply i arg2 harg2 arg3 harg3 arg4 harg4 arg5 harg5 x0 x1 x2 x3 k 0 j g d

theorem row1_apply (x : S1x64x512.Idx) :
    row1 i arg2 arg3 arg4 arg5 (harg2.unread x0) (harg3.unread x1) (harg4.unread x2) (harg5.unread x3) k x
      = blockOut i x0 x1 x2 x3 ((Rect.unit (s := S1x512x512) (k0_off13 k 1#32) S1x64x512.size (k0_off13_inb k 1)).emb x) := by
  refine row_block i x0 x1 x2 x3 k 1 (k0_off13_inb k 1) _ _ _ _ (fun hp j g d => ?_) x
  rcases (by decide : ∀ hp : Fin 4, hp = 0 ∨ hp = 1 ∨ hp = 2 ∨ hp = 3) hp with h | h | h | h <;> subst h
  · exact pair0_apply i arg2 harg2 arg3 harg3 arg4 harg4 arg5 harg5 x0 x1 x2 x3 k 1 j g d
  · exact pair1_apply i arg2 harg2 arg3 harg3 arg4 harg4 arg5 harg5 x0 x1 x2 x3 k 1 j g d
  · exact pair2_apply i arg2 harg2 arg3 harg3 arg4 harg4 arg5 harg5 x0 x1 x2 x3 k 1 j g d
  · exact pair3_apply i arg2 harg2 arg3 harg3 arg4 harg4 arg5 harg5 x0 x1 x2 x3 k 1 j g d

theorem row2_apply (x : S1x64x512.Idx) :
    row2 i arg2 arg3 arg4 arg5 (harg2.unread x0) (harg3.unread x1) (harg4.unread x2) (harg5.unread x3) k x
      = blockOut i x0 x1 x2 x3 ((Rect.unit (s := S1x512x512) (k0_off13 k 2#32) S1x64x512.size (k0_off13_inb k 2)).emb x) := by
  refine row_block i x0 x1 x2 x3 k 2 (k0_off13_inb k 2) _ _ _ _ (fun hp j g d => ?_) x
  rcases (by decide : ∀ hp : Fin 4, hp = 0 ∨ hp = 1 ∨ hp = 2 ∨ hp = 3) hp with h | h | h | h <;> subst h
  · exact pair0_apply i arg2 harg2 arg3 harg3 arg4 harg4 arg5 harg5 x0 x1 x2 x3 k 2 j g d
  · exact pair1_apply i arg2 harg2 arg3 harg3 arg4 harg4 arg5 harg5 x0 x1 x2 x3 k 2 j g d
  · exact pair2_apply i arg2 harg2 arg3 harg3 arg4 harg4 arg5 harg5 x0 x1 x2 x3 k 2 j g d
  · exact pair3_apply i arg2 harg2 arg3 harg3 arg4 harg4 arg5 harg5 x0 x1 x2 x3 k 2 j g d

theorem row3_apply (x : S1x64x512.Idx) :
    row3 i arg2 arg3 arg4 arg5 (harg2.unread x0) (harg3.unread x1) (harg4.unread x2) (harg5.unread x3) k x
      = blockOut i x0 x1 x2 x3 ((Rect.unit (s := S1x512x512) (k0_off13 k 3#32) S1x64x512.size (k0_off13_inb k 3)).emb x) := by
  refine row_block i x0 x1 x2 x3 k 3 (k0_off13_inb k 3) _ _ _ _ (fun hp j g d => ?_) x
  rcases (by decide : ∀ hp : Fin 4, hp = 0 ∨ hp = 1 ∨ hp = 2 ∨ hp = 3) hp with h | h | h | h <;> subst h
  · exact pair0_apply i arg2 harg2 arg3 harg3 arg4 harg4 arg5 harg5 x0 x1 x2 x3 k 3 j g d
  · exact pair1_apply i arg2 harg2 arg3 harg3 arg4 harg4 arg5 harg5 x0 x1 x2 x3 k 3 j g d
  · exact pair2_apply i arg2 harg2 arg3 harg3 arg4 harg4 arg5 harg5 x0 x1 x2 x3 k 3 j g d
  · exact pair3_apply i arg2 harg2 arg3 harg3 arg4 harg4 arg5 harg5 x0 x1 x2 x3 k 3 j g d

end

section
variable (c : Dev nD) (i : grid0.Coords) (arg2 : Memref sig .tc .vmem S1x512x512 .bf16) (harg2 : arg2.IsWhole) (arg3 : Memref sig .tc .vmem S1x1024x512 .bf16)
    (harg3 : arg3.IsWhole) (arg4 : Memref sig .tc .vmem S1x1024x512 .bf16) (harg4 : arg4.IsWhole) (arg5 : Memref sig .tc .vmem S4x14x128x128 .f32)
    (harg5 : arg5.IsWhole) (arg6 : Memref sig .tc .vmem S1x512x512 .bf16) (harg6 : arg6.IsWhole) (x0 : Vec Ideal S1x512x512 .bf16)
    (x1 x2 : Vec Ideal S1x1024x512 .bf16) (x3 : Vec Ideal S4x14x128x128 .f32)

/-- The stores of the first trips are blocks of `blockOut`. -/
theorem trips_piecesOf (v3 : BitVec 32) : ∀ n, n ≤ k0_t1_loop.trips →
    View.PiecesOf (blockOut i x0 x1 x2 x3)
      (pb_k0_t1 (F := Ideal) Variants.none c none i arg2 harg2 arg3 harg3 arg4 harg4 arg5 harg5 arg6 harg6 (BitVec.ofNat 32 (i 1).val) v3
        (harg2.unread x0) (harg3.unread x1) (harg4.unread x2) (harg5.unread x3) n)
  | 0, _ => trivial
  | n + 1, h => by
    rw [pb_k0_t1_succ Variants.none c none i arg2 harg2 arg3 harg3 arg4 harg4 arg5 harg5 arg6 harg6 (BitVec.ofNat 32 (i 1).val) v3
      (harg2.unread x0) (harg3.unread x1) (harg4.unread x2) (harg5.unread x3) ⟨n, h⟩]
    unfold tripL_k0_t1
    rw [trip_pieces]
    exact ⟨row3_apply i arg2 harg2 arg3 harg3 arg4 harg4 arg5 harg5 x0 x1 x2 x3 ⟨n, h⟩, row2_apply i arg2 harg2 arg3 harg3 arg4 harg4 arg5 harg5 x0 x1 x2 x3 ⟨n, h⟩,
      row1_apply i arg2 harg2 arg3 harg3 arg4 harg4 arg5 harg5 x0 x1 x2 x3 ⟨n, h⟩, row0_apply i arg2 harg2 arg3 harg3 arg4 harg4 arg5 harg5 x0 x1 x2 x3 ⟨n, h⟩, trips_piecesOf v3 n (Nat.le_of_succ_le h)⟩

/-- The stores of both trips are blocks of `blockOut`. -/
theorem run_piecesOf :
    View.PiecesOf (blockOut i x0 x1 x2 x3)
      (kernelRun0_A (F := Ideal) c i arg2 harg2 arg3 harg3 arg4 harg4 arg5 harg5 arg6 harg6 x0 x1 x2 x3).1 := by
  unfold kernelRun0_A
  exact trips_piecesOf c i arg2 harg2 arg3 harg3 arg4 harg4 arg5 harg5 arg6 harg6 x0 x1 x2 x3 _ _ (le_refl _)

/-- What a grid point leaves in its block. -/
theorem out_apply (y : S1x512x512.Idx) :
    out0_A_4 (F := Ideal) c i arg2 harg2 arg3 harg3 arg4 harg4 arg5 harg5 arg6 harg6 x0 x1 x2 x3 y = blockOut i x0 x1 x2 x3 y := by
  unfold out0_A_4
  rw [View.read_writes_junk_eq_canon]
  have h := View.canon_append_of_piecesOf (blockOut i x0 x1 x2 x3) []
    (kernelRun0_A (F := Ideal) c i arg2 harg2 arg3 harg3 arg4 harg4 arg5 harg5 arg6 harg6 x0 x1 x2 x3).1
    (run_piecesOf c i arg2 harg2 arg3 harg3 arg4 harg4 arg5 harg5 arg6 harg6 x0 x1 x2 x3) y
    (cover0_A_4 c i arg2 harg2 arg3 harg3 arg4 harg4 arg5 harg5 arg6 harg6 x0 x1 x2 x3 y)
  rwa [List.append_nil] at h

end

end Cert.NA
end
-- ==== Proof.NA.Table.lean ====
module

public import proofs.«01_k».proof.Proof.NA.Rows
public import Idealize.ShloMosaic.Lib.StableHlo.RunRead

/-! # The bias table that the kernel is given

The host spreads the biases over the columns: entry `(h, r, j, k)` of `spread` is the bias of head `h`, row offset `r`,
query column `j` and key column `k` where `k` is in the window of `j`, and minus infinity elsewhere; `table` pairs the
heads and the row offsets. -/

@[expose] public section

set_option maxRecDepth 16384

namespace Cert.NA

open Idealize.ShloMosaic Cert.KernelIdeal Cert.KernelIdeal.Gen

/-- The first column of the window of every query column. -/
def startCols : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

/-- Which key columns are in the window. -/
def inWindow : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 startCols)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 startCols) (broadcastInDim S64x1 ![] bcast_S_S64x1 (constantI S_ 32 16#32)))))

/-- The column offsets, kept within the bias array. -/
def offCols : IVec S64x64 32 :=
  minsi (broadcastInDim S64x64 ![] bcast_S_S64x64 (constantI S_ 32 30#32))
    (maxsi (broadcastInDim S64x64 ![] bcast_S_S64x64 (constantI S_ 32 0#32))
      (addi
        (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- The same as the gather's index array. -/
def offIndex : IVec S64x64x1 32 :=
  broadcastInDim S64x64x1 ![0, 1] bcast_S64x64_S64x64x1_0_1
    (select (cmpi .slt offCols (broadcastInDim S64x64 ![] bcast_S_S64x64 (constantI S_ 32 0#32)))
      (addi offCols (broadcastInDim S64x64 ![] bcast_S_S64x64 (constantI S_ 32 31#32))) offCols)

section
variable (T : (⟨S8x15x31, .f32⟩ : BufTy).Contents (Elt Ideal))

/-- The biases spread over the columns. -/
noncomputable def spread : FVec Ideal S8x15x64x64 .f32 :=
  select (broadcastInDim S8x15x64x64 ![2, 3] bcast_S64x64_S8x15x64x64_2_3 inWindow)
    (Host.gather gather_S8x15x31_S64x64x1_S8x15x64x64_01_2_n_n_2_2_8151 T offIndex)
    (broadcastInDim S8x15x64x64 ![] bcast_S_S8x15x64x64 (constant S_ .f32 0xFF800000#32))

/-- Two row offsets side by side, the heads in pairs. -/
noncomputable def pairTable (z : FVec Ideal S8x15x64x64 .f32) : FVec Ideal S4x14x128x128 .f32 :=
  shapeCast S4x14x128x128
    (transpose S4x14x2x64x128 [0, 2, 1, 3, 4]
      (shapeCast S4x2x14x64x128
        (concatenate S8x14x64x128 3
          [⟨S8x14x64x64, extractStridedSlice S8x14x64x64 ![0, 0, 0, 0] z slices_S8x15x64x64_S8x14x64x64_0_0_0_0⟩,
            ⟨S8x14x64x64, extractStridedSlice S8x14x64x64 ![0, 1, 0, 0] z slices_S8x15x64x64_S8x14x64x64_0_1_0_0⟩]
          concatenates_S8x14x64x64_S8x14x64x64_S8x14x64x128_d3)
        shapeCasts_S8x14x64x128_S4x2x14x64x128)
      transposes_S4x2x14x64x128_S4x14x2x64x128_0_2_1_3_4)
    shapeCasts_S4x14x2x64x128_S4x14x128x128

end

set_option maxHeartbeats 2000000 in
theorem V_table (m : (ℓ : Loc nD τ sig) → Buf (Elt Ideal) ℓ) (c : Dev nD) :
    V m c main_v39 = pairTable (spread (m ((c.tc : Thread nD τ).loc main_arg1))) := by
  unfold_abbrev_sides
  after_reads_simp
  have h34 : StableHlo.upto (List.flatten [hostOps0, hostOps0_1, hostOps0_2, hostOps0_3, hostOps0_4, hostOps0_5, hostOps0_6])
      (fun b => m (c, b)) 59 (Proc.devRef .tc main_v34)
        = extractStridedSlice S8x14x64x64 ![0, 0, 0, 0] (spread (m ((c.tc : Thread nD τ).loc main_arg1))) slices_S8x15x64x64_S8x14x64x64_0_0_0_0 := by
    after_reads_simp
    rfl
  have h35 : StableHlo.upto (List.flatten [hostOps0, hostOps0_1, hostOps0_2, hostOps0_3, hostOps0_4, hostOps0_5, hostOps0_6])
      (fun b => m (c, b)) 59 (Proc.devRef .tc main_v35)
        = extractStridedSlice S8x14x64x64 ![0, 1, 0, 0] (spread (m ((c.tc : Thread nD τ).loc main_arg1))) slices_S8x15x64x64_S8x14x64x64_0_1_0_0 := by
    after_reads_simp
    rfl
  rw [h34, h35]
  rfl

/-! ## The table at an index -/

theorem inWindow_apply (j k : Fin 64) : inWindow (ix2 j k) = if colStart j ≤ k.val ∧ k.val < colStart j + 16 then 1#1 else 0#1 := by
  revert j k; decide +kernel

theorem offIndex_apply (j k : Fin 64) : (offIndex (ix3 j k 0)).toInt.toNat = min (k.val + 15 - j.val) 30 := by
  revert j k; decide +kernel

theorem gatherTable_apply {α : Type} (x : S8x15x31.Idx → α) (idx : IVec S64x64x1 32) (h : Fin 8) (r : Fin 15) (j k : Fin 64) (q : Fin 31)
    (hq : (idx (ix3 j k 0)).toInt.toNat = q.val) :
    Host.gather gather_S8x15x31_S64x64x1_S8x15x64x64_01_2_n_n_2_2_8151 x idx (ix4 h r j k) = x (ix3 h r q) := by
  unfold Host.gather
  have e0 : gather_S8x15x31_S64x64x1_S8x15x64x64_01_2_n_n_2_2_8151.siIdx (ix4 h r j k) ⟨0, by decide⟩ = ix3 j k 0 := by
    funext a
    match a with
    | ⟨0, _⟩ => rfl
    | ⟨1, _⟩ => rfl
    | ⟨2, _⟩ => rfl
  refine congrArg x (funext fun a => Fin.ext ?_)
  match a with
  | ⟨0, _⟩ => show 0 + 0 + h.val = h.val; omega
  | ⟨1, _⟩ => show 0 + 0 + r.val = r.val; omega
  | ⟨2, _⟩ =>
    show min (idx (gather_S8x15x31_S64x64x1_S8x15x64x64_01_2_n_n_2_2_8151.siIdx (ix4 h r j k) ⟨0, by decide⟩)).toInt.toNat (31 - 1) + 0 + 0 = q.val
    rw [e0, hq]; omega

theorem spread_apply (T : (⟨S8x15x31, .f32⟩ : BufTy).Contents (Elt Ideal)) (h : Fin 8) (r : Fin 15) (j k : Fin 64) :
    spread T (ix4 h r j k)
      = if colStart j ≤ k.val ∧ k.val < colStart j + 16 then T (ix3 h r ⟨min (k.val + 15 - j.val) 30, by omega⟩) else ⊥ := by
  unfold spread
  pointwise [inWindow_apply]
  rw [gatherTable_apply T offIndex h r j k ⟨min (k.val + 15 - j.val) 30, by omega⟩ (offIndex_apply j k)]
  rw [negInf_bits]
  split <;> rfl

theorem congr4 {α : Type} {n0 n1 n2 n3 : Nat} (z : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : z (ix4 a b c d) = z (ix4 a' b' c' d') := by
  obtain rfl := Fin.ext ha; obtain rfl := Fin.ext hb; obtain rfl := Fin.ext hc; obtain rfl := Fin.ext hd; rfl

theorem pairTable_apply (z : FVec Ideal S8x15x64x64 .f32) (hp : Fin 4) (r : Fin 14) (g : Fin 2) (j : Fin 64) (c : Fin 128) :
    pairTable z (ix4 hp r (pairLane g j) c)
      = z (ix4 ⟨hp.val * 2 + g.val, by omega⟩ ⟨r.val + c.val / 64, by omega⟩ j ⟨c.val % 64, by omega⟩) := by
  have hc := c.isLt
  pointwise [pairTable, pairLane]
  split
  · exact congr4 z rfl (by simp only; omega) rfl (by simp only; omega)
  · exact congr4 z rfl (by simp only; omega) rfl (by simp only; omega)

end Cert.NA
end
-- ==== Proof.NA.Ref.lean ====
module

public import proofs.«01_k».proof.Proof.Gen.ReferenceIdeal.Read
public import proofs.«01_k».proof.Proof.NA.Spec
public import Idealize.ShloMosaic.Lib.Pointwise

/-! # The reference at an index

The reference gathers, for every query, the 8 rows and the 16 columns of its window, so one entry of its result is a
softmax over 128 scores, written here with explicit coordinates (`reference_apply`). -/

@[expose] public section

set_option maxRecDepth 16384

namespace Cert.NA

open Idealize.ShloMosaic Cert.ReferenceIdeal Cert.ReferenceIdeal.Read

/-! ## The index tables -/

theorem rowTable_key (i : Fin 64) (a : Fin 8) :
    (val_main_v42 (F := Ideal) (ix3 i a 0)).toInt.toNat = rowStart i + a.val := by
  revert i a; decide +kernel

theorem rowTable_value (i : Fin 64) (a : Fin 8) :
    (val_main_v56 (F := Ideal) (ix3 i a 0)).toInt.toNat = rowStart i + a.val := by
  revert i a; decide +kernel

theorem colTable_key (j : Fin 64) (c : Fin 16) :
    (val_main_v49 (F := Ideal) (ix3 j c 0)).toInt.toNat = colStart j + c.val := by
  revert j c; decide +kernel

theorem colTable_value (j : Fin 64) (c : Fin 16) :
    (val_main_v63 (F := Ideal) (ix3 j c 0)).toInt.toNat = colStart j + c.val := by
  revert j c; decide +kernel

theorem rowBiasTable (i : Fin 64) (a : Fin 8) :
    (val_main_v71 (F := Ideal) (ix4 i a 0 0)).toInt.toNat = rowStart i + a.val + 7 - i.val := by
  revert i a; decide +kernel

theorem colBiasTable (j : Fin 64) (c : Fin 16) :
    (val_main_v76 (F := Ideal) (ix4 0 0 j c)).toInt.toNat = colStart j + c.val + 15 - j.val := by
  revert j c; decide +kernel

/-! ## The gathers -/

theorem gatherRow {α : Type} (x : S16x64x64x8x64.Idx → α) (idx : IVec S64x8x1 32)
    (b : Fin 16) (i : Fin 64) (a : Fin 8) (j : Fin 64) (h : Fin 8) (d : Fin 64) (r : Fin 64)
    (hr : (idx (ix3 i a 0)).toInt.toNat = r.val) :
    Host.gather gather_S16x64x64x8x64_S64x8x1_S16x64x8x64x8x64_0345_1_n_n_1_2_16164864 x idx (ix6 b i a j h d)
      = x (ix5 b r j h d) := by
  unfold Host.gather
  have e : gather_S16x64x64x8x64_S64x8x1_S16x64x8x64x8x64_0345_1_n_n_1_2_16164864.siIdx (ix6 b i a j h d) ⟨0, by decide⟩
      = ix3 i a 0 := by
    funext k
    match k with
    | ⟨0, _⟩ => rfl
    | ⟨1, _⟩ => rfl
    | ⟨2, _⟩ => rfl
  refine congrArg x (funext fun k => Fin.ext ?_)
  match k with
  | ⟨0, _⟩ => show 0 + 0 + b.val = b.val; omega
  | ⟨1, _⟩ =>
    show min (idx (gather_S16x64x64x8x64_S64x8x1_S16x64x8x64x8x64_0345_1_n_n_1_2_16164864.siIdx (ix6 b i a j h d)
      ⟨0, by decide⟩)).toInt.toNat (64 - 1) + 0 + 0 = r.val
    rw [e, hr]; omega
  | ⟨2, _⟩ => show 0 + 0 + j.val = j.val; omega
  | ⟨3, _⟩ => show 0 + 0 + h.val = h.val; omega
  | ⟨4, _⟩ => show 0 + 0 + d.val = d.val; omega

theorem gatherCol {α : Type} (x : S16x64x8x64x8x64.Idx → α) (idx : IVec S64x16x1 32)
    (b : Fin 16) (i : Fin 64) (a : Fin 8) (j : Fin 64) (c : Fin 16) (h : Fin 8) (d : Fin 64) (r : Fin 64)
    (hr : (idx (ix3 j c 0)).toInt.toNat = r.val) :
    Host.gather gather_S16x64x8x64x8x64_S64x16x1_S16x64x8x64x16x8x64_01256_3_n_n_3_2_166481864 x idx (ix7 b i a j c h d)
      = x (ix6 b i a r h d) := by
  unfold Host.gather
  have e : gather_S16x64x8x64x8x64_S64x16x1_S16x64x8x64x16x8x64_01256_3_n_n_3_2_166481864.siIdx (ix7 b i a j c h d)
      ⟨0, by decide⟩ = ix3 j c 0 := by
    funext k
    match k with
    | ⟨0, _⟩ => rfl
    | ⟨1, _⟩ => rfl
    | ⟨2, _⟩ => rfl
  refine congrArg x (funext fun k => Fin.ext ?_)
  match k with
  | ⟨0, _⟩ => show 0 + 0 + b.val = b.val; omega
  | ⟨1, _⟩ => show 0 + 0 + i.val = i.val; omega
  | ⟨2, _⟩ => show 0 + 0 + a.val = a.val; omega
  | ⟨3, _⟩ =>
    show min (idx (gather_S16x64x8x64x8x64_S64x16x1_S16x64x8x64x16x8x64_01256_3_n_n_3_2_166481864.siIdx
      (ix7 b i a j c h d) ⟨0, by decide⟩)).toInt.toNat (64 - 1) + 0 + 0 = r.val
    rw [e, hr]; omega
  | ⟨4, _⟩ => show 0 + 0 + h.val = h.val; omega
  | ⟨5, _⟩ => show 0 + 0 + d.val = d.val; omega

theorem gatherBias {α : Type} (x : S8x15x31.Idx → α) (idx : IVec S64x8x64x16x2 32)
    (h : Fin 8) (i : Fin 64) (a : Fin 8) (j : Fin 64) (c : Fin 16) (r : Fin 15) (q : Fin 31)
    (hr : (idx (ix5 i a j c 0)).toInt.toNat = r.val) (hq : (idx (ix5 i a j c 1)).toInt.toNat = q.val) :
    Host.gather gather_S8x15x31_S64x8x64x16x2_S8x64x8x64x16_0_12_n_n_12_4_811 x idx (ix5 h i a j c) = x (ix3 h r q) := by
  unfold Host.gather
  have e0 : gather_S8x15x31_S64x8x64x16x2_S8x64x8x64x16_0_12_n_n_12_4_811.siIdx (ix5 h i a j c) ⟨0, by decide⟩
      = ix5 i a j c 0 := by
    funext k
    match k with
    | ⟨0, _⟩ => rfl
    | ⟨1, _⟩ => rfl
    | ⟨2, _⟩ => rfl
    | ⟨3, _⟩ => rfl
    | ⟨4, _⟩ => rfl
  have e1 : gather_S8x15x31_S64x8x64x16x2_S8x64x8x64x16_0_12_n_n_12_4_811.siIdx (ix5 h i a j c) ⟨1, by decide⟩
      = ix5 i a j c 1 := by
    funext k
    match k with
    | ⟨0, _⟩ => rfl
    | ⟨1, _⟩ => rfl
    | ⟨2, _⟩ => rfl
    | ⟨3, _⟩ => rfl
    | ⟨4, _⟩ => rfl
  refine congrArg x (funext fun k => Fin.ext ?_)
  match k with
  | ⟨0, _⟩ => show 0 + 0 + h.val = h.val; omega
  | ⟨1, _⟩ =>
    show min (idx (gather_S8x15x31_S64x8x64x16x2_S8x64x8x64x16_0_12_n_n_12_4_811.siIdx (ix5 h i a j c)
      ⟨0, by decide⟩)).toInt.toNat (15 - 1) + 0 + 0 = r.val
    rw [e0, hr]; omega
  | ⟨2, _⟩ =>
    show min (idx (gather_S8x15x31_S64x8x64x16x2_S8x64x8x64x16_0_12_n_n_12_4_811.siIdx (ix5 h i a j c)
      ⟨1, by decide⟩)).toInt.toNat (31 - 1) + 0 + 0 = q.val
    rw [e1, hq]; omega

/-! ## The stages -/

section
variable (x0 : (⟨S16x4096x1536, .bf16⟩ : BufTy).Contents (Elt Ideal)) (x1 : (⟨S8x15x31, .f32⟩ : BufTy).Contents (Elt Ideal))

/-- The tokens' array by its coordinates. -/
def tokens (b : Fin 16) (t : Fin 4096) (c : Fin 1536) : EReal := x0 (ix3 b t c)

/-- The bias array by its coordinates. -/
def biases (h : Fin 8) (r : Fin 15) (q : Fin 31) : EReal := x1 (ix3 h r q)

theorem keys_apply (b : Fin 16) (i : Fin 64) (j : Fin 64) (h : Fin 8) (d : Fin 64) (x : Fin 128) :
    val_main_v50 (F := Ideal) x0 (ix7 b i ⟨x.val / 16, by omega⟩ j ⟨x.val % 16, by omega⟩ h d)
      = tokens x0 b (keyToken i (window j x)) (lane 512 h d) := by
  have hi := rowStart_le i
  have hj := colStart_le j
  unfold val_main_v50
  rw [gatherCol _ _ _ _ _ _ _ _ _ ⟨colStart j + x.val % 16, by omega⟩ (colTable_key j _)]
  unfold val_main_v43
  rw [gatherRow _ _ _ _ _ _ _ _ ⟨rowStart i + x.val / 16, by omega⟩ (rowTable_key i _)]
  pointwise [val_main_v4, val_main_v3, val_main_v0, tokens, keyToken, window, lane]
  exact congrArg (fun y => x0 (ix3 b y _)) (Fin.ext (by simp only; omega))

theorem values_apply (b : Fin 16) (i : Fin 64) (j : Fin 64) (h : Fin 8) (d : Fin 64) (x : Fin 128) :
    val_main_v64 (F := Ideal) x0 (ix7 b i ⟨x.val / 16, by omega⟩ j ⟨x.val % 16, by omega⟩ h d)
      = tokens x0 b (keyToken i (window j x)) (lane 1024 h d) := by
  have hi := rowStart_le i
  have hj := colStart_le j
  unfold val_main_v64
  rw [gatherCol _ _ _ _ _ _ _ _ _ ⟨colStart j + x.val % 16, by omega⟩ (colTable_value j _)]
  unfold val_main_v57
  rw [gatherRow _ _ _ _ _ _ _ _ ⟨rowStart i + x.val / 16, by omega⟩ (rowTable_value i _)]
  pointwise [val_main_v6, val_main_v5, val_main_v0, tokens, keyToken, window, lane]
  exact congrArg (fun y => x0 (ix3 b y _)) (Fin.ext (by simp only; omega))

theorem biases_apply (h : Fin 8) (i : Fin 64) (j : Fin 64) (x : Fin 128) :
    val_main_v82 (F := Ideal) x1 (ix5 h i ⟨x.val / 16, by omega⟩ j ⟨x.val % 16, by omega⟩)
      = bias (biases x1) h i j (window j x) := by
  have hi := rowStart_le i
  have hj := colStart_le j
  have h0 (a : Fin 8) (c : Fin 16) : val_main_v81 (F := Ideal) (ix5 i a j c 0) = val_main_v71 (F := Ideal) (ix4 i a 0 0) := by
    pointwise [val_main_v81, val_main_v79, val_main_v77]
  have h1 (a : Fin 8) (c : Fin 16) : val_main_v81 (F := Ideal) (ix5 i a j c 1) = val_main_v76 (F := Ideal) (ix4 0 0 j c) := by
    pointwise [val_main_v81, val_main_v80, val_main_v78]
  unfold val_main_v82
  rw [gatherBias _ _ _ _ _ _ _ ⟨rowStart i + x.val / 16 + 7 - i.val, by omega⟩ ⟨colStart j + x.val % 16 + 15 - j.val, by omega⟩
    (by rw [h0]; exact rowBiasTable i _) (by rw [h1]; exact colBiasTable j _)]
  unfold bias
  rw [if_pos (by unfold window; simp only; omega)]
  unfold biases
  refine congrArg x1 ?_
  refine congrArg₂ (ix3 h) (Fin.ext ?_) (Fin.ext ?_)
  · unfold window; simp only; omega
  · unfold window; simp only; omega

theorem scores_apply (b : Fin 16) (h : Fin 8) (i j : Fin 64) (x : Fin 128) :
    val_main_v88 (F := Ideal) x0 x1 (ix5 b h i j x) = score (tokens x0) (biases x1) b h i j (window j x) := by
  have e : val_main_v88 (F := Ideal) x0 x1 (ix5 b h i j x)
      = ∑ d : Fin 64, x0 (ix3 b ⟨i.val * 64 + j.val, by omega⟩ ⟨h.val * 64 + d.val, by omega⟩)
          * val_main_v50 (F := Ideal) x0 (ix7 b i ⟨x.val / 16, by omega⟩ j ⟨x.val % 16, by omega⟩ h d)
        + val_main_v82 (F := Ideal) x1 (ix5 h i ⟨x.val / 16, by omega⟩ j ⟨x.val % 16, by omega⟩) := by
    pointwise [val_main_v88, val_main_v87, val_main_v86, val_main_v85, val_main_v84, val_main_v83, val_main_v2, val_main_v1, val_main_v0]
  rw [e, biases_apply]
  unfold score
  refine congrArg (· + _) (Finset.sum_congr rfl fun d _ => ?_)
  rw [keys_apply]
  refine congrArg (fun y => x0 y * _) (congrArg (ix3 b _) (Fin.ext ?_))
  unfold lane; simp only; omega

theorem bot_bits : Ideal.ofBits .f32 0xFF800000#32 = ⊥ := by
  simp [Ideal.ofBits, Ideal.ieee]

theorem reduceMax_apply (y : FVec Ideal S16x8x64x64x128 .f32) (z : FVec Ideal S_ .f32) (c : EReal) (hc : ∀ k, z k = c)
    (hr : S16x8x64x64x128.ReducesTo [4] S16x8x64x64) (hz : 0 < S_.numel) (b : Fin 16) (h : Fin 8) (i j : Fin 64) :
    Host.reduce FloatOps.maximumf y z hr hz (ix4 b h i j)
      = Finset.univ.fold max c fun x => y (ix5 b h i j x) := by
  simp only [pointwise, hc]

theorem max_apply (b : Fin 16) (h : Fin 8) (i j : Fin 64) :
    val_main_v91 (F := Ideal) x0 x1 (ix4 b h i j)
      = Finset.univ.fold max ⊥ fun x => score (tokens x0) (biases x1) b h i j (window j x) := by
  have e90 : val_main_v90 (F := Ideal) (ix4 b h i j) = ⊥ := by
    rw [val_main_v90_apply]
    exact bot_bits
  have e89 : val_main_v89 (F := Ideal) x0 x1 (ix4 b h i j)
      = Finset.univ.fold max ⊥ fun x => val_main_v88 (F := Ideal) x0 x1 (ix5 b h i j x) := by
    unfold val_main_v89
    exact reduceMax_apply _ _ ⊥ (fun k => bot_bits) _ _ b h i j
  rw [val_main_v91_apply, e90, e89]
  refine (max_eq_right bot_le).trans ?_
  simp only [scores_apply]

theorem exp_apply (b : Fin 16) (h : Fin 8) (i j : Fin 64) (x : Fin 128) :
    val_main_v95 (F := Ideal) x0 x1 (ix5 b h i j x)
      = Ideal.exp (score (tokens x0) (biases x1) b h i j (window j x)
          - Finset.univ.fold max ⊥ fun x => score (tokens x0) (biases x1) b h i j (window j x)) := by
  have e : val_main_v95 (F := Ideal) x0 x1 (ix5 b h i j x)
      = Ideal.exp (val_main_v88 (F := Ideal) x0 x1 (ix5 b h i j x) - val_main_v91 (F := Ideal) x0 x1 (ix4 b h i j)) := by
    pointwise [val_main_v95, val_main_v94, val_main_v93, val_main_v92]
  rw [e, scores_apply, max_apply]

theorem sum_apply (b : Fin 16) (h : Fin 8) (i j : Fin 64) :
    val_main_v96 (F := Ideal) x0 x1 (ix4 b h i j)
      = ∑ x : Fin 128, Ideal.exp (score (tokens x0) (biases x1) b h i j (window j x)
          - Finset.univ.fold max ⊥ fun x => score (tokens x0) (biases x1) b h i j (window j x)) := by
  have e : val_main_v96 (F := Ideal) x0 x1 (ix4 b h i j) = ∑ x : Fin 128, val_main_v95 (F := Ideal) x0 x1 (ix5 b h i j x) := by
    pointwise [val_main_v96, val_main_cst_20]
  rw [e]
  simp only [exp_apply]

theorem weights_apply (b : Fin 16) (h : Fin 8) (i j : Fin 64) (a : Fin 8) (c : Fin 16) :
    val_main_v100 (F := Ideal) x0 x1 (ix6 b h i j a c)
      = Ideal.div (val_main_v95 (F := Ideal) x0 x1 (ix5 b h i j ⟨a.val * 16 + c.val, by omega⟩))
          (val_main_v96 (F := Ideal) x0 x1 (ix4 b h i j)) := by
  have e : val_main_v100 (F := Ideal) x0 x1 (ix6 b h i j a c)
      = val_main_v99 (F := Ideal) x0 x1 (ix5 b h i j ⟨a.val * 16 + c.val, by omega⟩) := by
    pointwise [val_main_v100]
  rw [e]
  pointwise [val_main_v99, val_main_v98, val_main_v97]

/-- A sum over 8 rows of 16 columns is a sum over the 128 keys. -/
theorem sum_rows (f : Fin 8 → Fin 16 → EReal) :
    ∑ a, ∑ c, f a c = ∑ x : Fin 128, f ⟨x.val / 16, by omega⟩ ⟨x.val % 16, by omega⟩ := by
  rw [← Finset.sum_product', Finset.univ_product_univ]
  exact Fintype.sum_equiv finProdFinEquiv _ _ fun p => by
    refine congrArg₂ f (Fin.ext ?_) (Fin.ext ?_) <;> simp [finProdFinEquiv] <;> omega

/-- The reference at the entry of query `(i, j)`, head `h`, lane `d`. -/
theorem reference_apply (b : Fin 16) (h : Fin 8) (i j d : Fin 64) :
    val_main_v103 (F := Ideal) x0 x1 (ix3 b (token i j) ⟨h.val * 64 + d.val, by omega⟩)
      = attended (tokens x0) (biases x1) b h i j d := by
  have e : val_main_v103 (F := Ideal) x0 x1 (ix3 b (token i j) ⟨h.val * 64 + d.val, by omega⟩)
      = val_main_v101 (F := Ideal) x0 x1 (ix5 b i j h d) := by
    pointwise [val_main_v103, val_main_v102, token]
  have e' : val_main_v101 (F := Ideal) x0 x1 (ix5 b i j h d)
      = ∑ a : Fin 8, ∑ c : Fin 16, val_main_v100 (F := Ideal) x0 x1 (ix6 b h i j a c) * val_main_v64 (F := Ideal) x0 (ix7 b i a j c h d) := by
    pointwise [val_main_v101]
  rw [e, e', sum_rows]
  unfold attended
  refine Finset.sum_congr rfl fun x _ => ?_
  rw [values_apply, weights_apply, sum_apply, exp_apply]
  have hx : (⟨x.val / 16 * 16 + x.val % 16, by omega⟩ : Fin 128) = x := Fin.ext (by simp only; omega)
  simp only [hx]

end

end Cert.NA
end
-- ==== Proof.NA.Array.lean ====
module

public import proofs.«01_k».proof.Proof.NA.Table
public import proofs.«01_k».proof.Proof.NA.Ref

/-! # The kernel's array

Every grid point writes back its block, and the blocks tile the array. -/

@[expose] public section

set_option maxRecDepth 16384

namespace Cert.NA

open Idealize.ShloMosaic Cert.KernelIdeal Cert.KernelIdeal.Gen

theorem index0 : ∀ t : Fin cfg0.N, win0_0.index t = ![(grid0.coords t 0).val, (grid0.coords t 1).val, 0] :=
  (by decide +kernel : ∀ t : Fin grid0.N, win0_0.index t = ![(grid0.coords t 0).val, (grid0.coords t 1).val, 0])

theorem index1 : ∀ t : Fin cfg0.N, win0_1.index t = ![(grid0.coords t 0).val, firstRow (grid0.coords t) * 64, 512] :=
  (by decide +kernel : ∀ t : Fin grid0.N, win0_1.index t = ![(grid0.coords t 0).val, firstRow (grid0.coords t) * 64, 512])

theorem index2 : ∀ t : Fin cfg0.N, win0_2.index t = ![(grid0.coords t 0).val, firstRow (grid0.coords t) * 64, 1024] :=
  (by decide +kernel : ∀ t : Fin grid0.N, win0_2.index t = ![(grid0.coords t 0).val, firstRow (grid0.coords t) * 64, 1024])

theorem index3 : ∀ t : Fin cfg0.N, win0_3.index t = ![0, 0, 0, 0] :=
  (by decide +kernel : ∀ t : Fin grid0.N, win0_3.index t = ![0, 0, 0, 0])

theorem index4 : ∀ t : Fin cfg0.N, win0_4.index t = ![(grid0.coords t 0).val, (grid0.coords t 1).val, 0] :=
  (by decide +kernel : ∀ t : Fin grid0.N, win0_4.index t = ![(grid0.coords t 0).val, (grid0.coords t 1).val, 0])

section
variable (m : (ℓ : Loc nD τ sig) → Buf (Elt Ideal) ℓ) (c : Dev nD) (t : Fin cfg0.N)

theorem block0_apply (r : Fin 512) (l : Fin 512) (T : Fin 4096) (L : Fin 1536) (hT : T.val = (grid0.coords t 1).val * 512 + r.val)
    (hL : L.val = l.val) :
    iblk m c 0 t (ix3 0 r l) = tokens (m ((c.tc : Thread nD τ).loc main_arg0)) (grid0.coords t 0) T L := by
  show V m c main_arg0 (((cfg0.win 0).blk t).view.emb (ix3 0 r l)) = m ((c.tc : Thread nD τ).loc main_arg0) (ix3 (grid0.coords t 0) T L)
  rw [V_main_arg0]
  blk_ext [index0 t]

theorem block1_apply (r : Fin 1024) (l : Fin 512) (T : Fin 4096) (L : Fin 1536) (hT : T.val = firstRow (grid0.coords t) * 64 + r.val)
    (hL : L.val = 512 + l.val) :
    iblk m c 1 t (ix3 0 r l) = tokens (m ((c.tc : Thread nD τ).loc main_arg0)) (grid0.coords t 0) T L := by
  show V m c main_arg0 (((cfg0.win 1).blk t).view.emb (ix3 0 r l)) = m ((c.tc : Thread nD τ).loc main_arg0) (ix3 (grid0.coords t 0) T L)
  rw [V_main_arg0]
  have e := index1 t
  refine congrArg (m ((c.tc : Thread nD τ).loc main_arg0)) (funext fun a => Fin.ext ?_)
  match a with
  | ⟨0, _⟩ =>
    refine Eq.trans (show _ = win0_1.index t 0 + 1 * 0 from rfl) ?_
    rw [e]; rfl
  | ⟨1, _⟩ =>
    refine Eq.trans (show _ = win0_1.index t 1 + 1 * r.val from rfl) ?_
    rw [e]; show firstRow (grid0.coords t) * 64 + 1 * r.val = T.val; omega
  | ⟨2, _⟩ =>
    refine Eq.trans (show _ = win0_1.index t 2 + 1 * l.val from rfl) ?_
    rw [e]; show 512 + 1 * l.val = L.val; omega

theorem block2_apply (r : Fin 1024) (l : Fin 512) (T : Fin 4096) (L : Fin 1536) (hT : T.val = firstRow (grid0.coords t) * 64 + r.val)
    (hL : L.val = 1024 + l.val) :
    iblk m c 2 t (ix3 0 r l) = tokens (m ((c.tc : Thread nD τ).loc main_arg0)) (grid0.coords t 0) T L := by
  show V m c main_arg0 (((cfg0.win 2).blk t).view.emb (ix3 0 r l)) = m ((c.tc : Thread nD τ).loc main_arg0) (ix3 (grid0.coords t 0) T L)
  rw [V_main_arg0]
  have e := index2 t
  refine congrArg (m ((c.tc : Thread nD τ).loc main_arg0)) (funext fun a => Fin.ext ?_)
  match a with
  | ⟨0, _⟩ =>
    refine Eq.trans (show _ = win0_2.index t 0 + 1 * 0 from rfl) ?_
    rw [e]; rfl
  | ⟨1, _⟩ =>
    refine Eq.trans (show _ = win0_2.index t 1 + 1 * r.val from rfl) ?_
    rw [e]; show firstRow (grid0.coords t) * 64 + 1 * r.val = T.val; omega
  | ⟨2, _⟩ =>
    refine Eq.trans (show _ = win0_2.index t 2 + 1 * l.val from rfl) ?_
    rw [e]; show 1024 + 1 * l.val = L.val; omega

theorem block3_apply (hp : Fin 4) (r : Fin 14) (x y : Fin 128) :
    iblk m c 3 t (ix4 hp r x y) = pairTable (spread (m ((c.tc : Thread nD τ).loc main_arg1))) (ix4 hp r x y) := by
  show V m c main_v39 (((cfg0.win 3).blk t).view.emb (ix4 hp r x y)) = _
  rw [V_table]
  blk_ext [index3 t]

/-- The head of lane `g` of pair `hp`. -/
def headOf (hp : Fin 4) (g : Fin 2) : Fin 8 := ⟨hp.val * 2 + g.val, by omega⟩

theorem congr3 {α : Type} {n0 n1 n2 : Nat} (z : (⟨3, ![n0, n1, n2]⟩ : Shape).Idx → α) {a a' : Fin n0} {b b' : Fin n1} {c c' : Fin n2}
    (ha : a.val = a'.val) (hb : b.val = b'.val) (hc : c.val = c'.val) : z (ix3 a b c) = z (ix3 a' b' c') := by
  obtain rfl := Fin.ext ha; obtain rfl := Fin.ext hb; obtain rfl := Fin.ext hc; rfl

theorem bias_eq (T : (⟨S8x15x31, .f32⟩ : BufTy).Contents (Elt Ideal)) (i : grid0.Coords) (il : Fin 8) (j : Fin 64) (hp : Fin 4) (g : Fin 2) (k : Fin 512) :
    pairTable (spread T) (ix4 hp (tile i il ⟨k.val / 128, by omega⟩) (pairLane g j) ⟨k.val % 128, by omega⟩)
      = bias (biases T) (headOf hp g) (blockRow i il) j k := by
  rw [pairTable_apply, spread_apply]
  have hr := rowStart_le (blockRow i il)
  have hi := (blockRow i il).isLt
  unfold bias biases headOf
  have e : k.val % 128 % 64 = k.val % 64 := by omega
  simp only [e]
  split
  · refine congr3 T rfl ?_ rfl
    simp only [tile]
    unfold rowStart at *
    omega
  · rfl

theorem keyToken_val (i : grid0.Coords) (il : Fin 8) (k : Fin 512) :
    (keyToken (blockRow i il) k).val = firstRow i * 64 + (keyOff i il + k.val) := by
  have h : (i 1).val < 8 := (i 1).isLt
  have h' : (blockRow i il).val = (i 1).val * 8 + il.val := rfl
  simp only [keyToken, keyOff]
  unfold firstRow rowStart
  omega

theorem blockScore_eq (il : Fin 8) (j : Fin 64) (hp : Fin 4) (g : Fin 2) :
    blockScore (grid0.coords t) (iblk m c 0 t) (iblk m c 1 t) (iblk m c 3 t) il j hp g
      = score (tokens (m ((c.tc : Thread nD τ).loc main_arg0))) (biases (m ((c.tc : Thread nD τ).loc main_arg1)))
          (grid0.coords t 0) (headOf hp g) (blockRow (grid0.coords t) il) j := by
  funext k
  unfold blockScore score
  rw [block3_apply, bias_eq]
  refine congrArg (· + _) (Finset.sum_congr rfl fun d _ => ?_)
  rw [block0_apply m c t _ _ (token (blockRow (grid0.coords t) il) j) (lane 0 (headOf hp g) d)
      (by simp only [token, blockRow]; omega) (by simp only [lane, headOf, headLane, pairLane]; omega),
    block1_apply m c t _ _ (keyToken (blockRow (grid0.coords t) il) k) (lane 512 (headOf hp g) d)
      (keyToken_val _ il k) (by simp only [lane, headOf, headLane, pairLane]; omega)]

theorem blockAt_eq (il : Fin 8) (j : Fin 64) (hp : Fin 4) (g : Fin 2) (d : Fin 64) :
    blockAt (grid0.coords t) (iblk m c 0 t) (iblk m c 1 t) (iblk m c 2 t) (iblk m c 3 t) il j hp g d
      = attendedMasked (tokens (m ((c.tc : Thread nD τ).loc main_arg0))) (biases (m ((c.tc : Thread nD τ).loc main_arg1)))
          (grid0.coords t 0) (headOf hp g) (blockRow (grid0.coords t) il) j d := by
  unfold blockAt attendedMasked
  rw [blockScore_eq]
  refine Finset.sum_congr rfl fun k _ => ?_
  rw [block2_apply m c t _ _ (keyToken (blockRow (grid0.coords t) il) k) (lane 1024 (headOf hp g) d)
      (keyToken_val _ il k) (by simp only [lane, headOf, headLane, pairLane]; omega)]

end

/-- The result, by the array's own index. -/
noncomputable def attendedArray (A : Fin 16 → Fin 4096 → Fin 1536 → EReal) (T : Fin 8 → Fin 15 → Fin 31 → EReal) (x : S16x4096x512.Idx) : EReal :=
  have h1 : (x 1).val < 4096 := (x 1).isLt
  have h2 : (x 2).val < 512 := (x 2).isLt
  attendedMasked A T (x 0) ⟨(x 2).val / 64, by omega⟩ ⟨(x 1).val / 64, by omega⟩ ⟨(x 1).val % 64, by omega⟩ ⟨(x 2).val % 64, by omega⟩

theorem attendedMasked_congr (A : Fin 16 → Fin 4096 → Fin 1536 → EReal) (T : Fin 8 → Fin 15 → Fin 31 → EReal) {b b' : Fin 16} {h h' : Fin 8}
    {i i' j j' d d' : Fin 64} (hb : b.val = b'.val) (hh : h.val = h'.val) (hi : i.val = i'.val) (hj : j.val = j'.val) (hd : d.val = d'.val) :
    attendedMasked A T b h i j d = attendedMasked A T b' h' i' j' d' := by
  obtain rfl := Fin.ext hb; obtain rfl := Fin.ext hh; obtain rfl := Fin.ext hi; obtain rfl := Fin.ext hj; obtain rfl := Fin.ext hd; rfl

/-- The kernel's result. -/
theorem array_eq (m : (ℓ : Loc nD τ sig) → Buf (Elt Ideal) ℓ) (c : Dev nD) :
    (dats m 0 c).arrAt 4 cfg0.N
      = attendedArray (tokens (m ((c.tc : Thread nD τ).loc main_arg0))) (biases (m ((c.tc : Thread nD τ).loc main_arg1))) := by
  refine (dats m 0 c).arrAt_eq_of_covers 4 _ (by decide +kernel) fun t hf y => ?_
  blk_simp
  rw [after0_4]
  unfold outsAt0
  rw [out_apply]
  unfold blockOut
  simp only [blockAt_eq]
  have y0 : (y 0).val < 1 := (y 0).isLt
  have y1 : (y 1).val < 512 := (y 1).isLt
  have y2 : (y 2).val < 512 := (y 2).isLt
  have e0 : ((((cfg0.win 4).blk t).view.emb y) 0 : ℕ) = (grid0.coords t 0).val := by
    blk_simp [index4 t]
  have e1 : ((((cfg0.win 4).blk t).view.emb y) 1 : ℕ) = (grid0.coords t 1).val * 512 + (y 1).val := by
    blk_simp [index4 t]
  have e2 : ((((cfg0.win 4).blk t).view.emb y) 2 : ℕ) = (y 2).val := by
    blk_simp [index4 t]
  unfold attendedArray
  refine attendedMasked_congr _ _ e0.symm ?_ ?_ ?_ ?_
  · show (y 2).val / 128 * 2 + (y 2).val % 128 / 64 = ((((cfg0.win 4).blk t).view.emb y) 2 : ℕ) / 64
    rw [e2]; omega
  · show (grid0.coords t 1).val * 8 + (y 1).val / 64 = ((((cfg0.win 4).blk t).view.emb y) 1 : ℕ) / 64
    rw [e1]; omega
  · show (y 1).val % 64 = ((((cfg0.win 4).blk t).view.emb y) 1 : ℕ) % 64
    rw [e1]; omega
  · show (y 2).val % 64 = ((((cfg0.win 4).blk t).view.emb y) 2 : ℕ) % 64
    rw [e2]

end Cert.NA
end
-- ==== Proof.NA.Finish.lean ====
module

public import proofs.«01_k».proof.Defs
public import proofs.«01_k».proof.Proof.NA.Array
public import proofs.«01_k».proof.Proof.NA.Softmax
public import proofs.«01_k».proof.Proof.Gen.ReferenceIdeal.Run
public import Idealize.ShloMosaic.Lib.Claim

/-! # The kernel's array is the reference's -/

@[expose] public section

set_option maxRecDepth 16384

namespace Cert.NA

open Idealize.ShloMosaic Idealize.SL.Sem

/-- The side conditions of the precondition's operations. -/
theorem pre_facts : Cert.Pre_finite.Facts where
  slices_S16x4096x1536_S16x4096x1024_0_0_0 := by decide
  bcast_S_S16x4096x1024 := by decide
  bcast_S_S8x15x31 := by decide

theorem posInf_bits : Ideal.ofBits .f32 0x7F800000#32 = ⊤ := by
  simp [Ideal.ofBits, Ideal.ieee]

theorem posInf_bits16 : Ideal.ofBits .bf16 0x7F80#16 = ⊤ := by
  simp [Ideal.ofBits, Ideal.ieee]

theorem negInf_bits16 : Ideal.ofBits .bf16 0xFF80#16 = ⊥ := by
  simp [Ideal.ofBits, Ideal.ieee]

/-- A number strictly between the infinities is real. -/
theorem real_of_between (x : EReal) (h : (BitVec.ofBool (decide (⊥ < x)) &&& BitVec.ofBool (decide (x < ⊤))) = 1#1) : ∃ r : ℝ, x = r := by
  by_cases h1 : ⊥ < x
  · by_cases h2 : x < ⊤
    · exact ⟨x.toReal, (EReal.coe_toReal h2.ne h1.ne').symm⟩
    · simp [h1, h2] at h
  · simp [h1] at h

section
variable [hPre : Cert.Pre_finite.Facts] (x0 : FVec Ideal Cert.Pre_finite.S16x4096x1536 .bf16) (x1 : FVec Ideal Cert.Pre_finite.S8x15x31 .f32)

theorem tokens_real (h : (Cert.Pre_finite.fn (F := Ideal) x0 x1).1 = fun _ => 1#1) (b : Fin 16) (t : Fin 4096) (c : Fin 1536) (hc : c.val < 1024) :
    ∃ r : ℝ, tokens x0 b t c = r := by
  have e := congrFun h (ix3 b t ⟨c.val, hc⟩)
  revert e
  pointwise [Cert.Pre_finite.fn]
  intro e
  rw [negInf_bits16, posInf_bits16] at e
  exact real_of_between _ e

theorem biases_real (h : (Cert.Pre_finite.fn (F := Ideal) x0 x1).2 = fun _ => 1#1) (a : Fin 8) (r : Fin 15) (q : Fin 31) :
    ∃ y : ℝ, biases x1 a r q = y := by
  have e := congrFun h (ix3 a r q)
  revert e
  pointwise [Cert.Pre_finite.fn]
  intro e
  rw [negInf_bits, posInf_bits] at e
  exact real_of_between _ e

/-- Lane `d` of head `h` of the result. -/
def resultLane (h : Fin 8) (d : Fin 64) : Fin 512 := ⟨h.val * 64 + d.val, by omega⟩

/-- The two results agree. -/
theorem results_eq (h : (Cert.Pre_finite.fn (F := Ideal) x0 x1).1 = fun _ => 1#1) (h' : (Cert.Pre_finite.fn (F := Ideal) x0 x1).2 = fun _ => 1#1) :
    attendedArray (tokens x0) (biases x1) = Cert.ReferenceIdeal.Read.val_main_v103 (F := Ideal) x0 x1 := by
  funext x
  have h1 : (x 1).val < 4096 := (x 1).isLt
  have h2 : (x 2).val < 512 := (x 2).isLt
  obtain ⟨b, i, j, hd, d, rfl⟩ : ∃ (b : Fin 16) (i j : Fin 64) (hd : Fin 8) (d : Fin 64),
      x = ix3 (n0 := 16) (n1 := 4096) (n2 := 512) b (token i j) (resultLane hd d) := by
    refine ⟨x 0, ⟨(x 1).val / 64, by omega⟩, ⟨(x 1).val % 64, by omega⟩, ⟨(x 2).val / 64, by omega⟩, ⟨(x 2).val % 64, by omega⟩, ?_⟩
    funext a
    match a with
    | ⟨0, _⟩ => rfl
    | ⟨1, _⟩ => exact Fin.ext (show (x 1).val = (x 1).val / 64 * 64 + (x 1).val % 64 by omega)
    | ⟨2, _⟩ => exact Fin.ext (show (x 2).val = (x 2).val / 64 * 64 + (x 2).val % 64 by omega)
  refine Eq.trans ?_ (reference_apply x0 x1 b hd i j d).symm
  rw [← attendedMasked_eq _ _ b hd i j d (fun t c hc => tokens_real x0 x1 h b t c hc) (fun a q => biases_real x0 x1 h' hd a q)]
  unfold attendedArray
  refine attendedMasked_congr _ _ rfl ?_ ?_ ?_ ?_
  · show (hd.val * 64 + d.val) / 64 = hd.val; omega
  · show (i.val * 64 + j.val) / 64 = i.val; omega
  · show (i.val * 64 + j.val) % 64 = j.val; omega
  · show (hd.val * 64 + d.val) % 64 = d.val; omega

end

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hagree
  have := pre_facts
  refine ⟨fun c => (Cert.KernelIdeal.Gen.dats m 0 c).arrAt 4 Cert.KernelIdeal.cfg0.N, Cert.KernelIdeal.Value.run_blocks m g, ?_⟩
  refine (θ_run _ _ _).mono (fun r h c => ?_) (Cert.ReferenceIdeal.Value.run m' g')
  refine ⟨(h c).1.trans ?_, (h c).2⟩
  rw [Cert.ReferenceIdeal.Read.val_main_v103_eq]
  refine Eq.trans ?_ (array_eq m c).symm
  have e := hagree c
  have p := hpre c
  refine Eq.trans ?_ (results_eq _ _ p.1 p.2).symm
  rw [e.1, e.2]

theorem reference_quiescent : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

end Cert.NA
end
-- ==== Proof.FF.Spec.lean ====
module

public import Idealize.ShloMosaic.PureOps.Ideal
public import Idealize.ShloMosaic.Lib.Pointwise

/-! # The feed-forward part, one token at a time

What both programs compute of one token's vector: the RMS norm, the SwiGLU network with its residual, and the gate of the
per-layer embedding. -/

@[expose] public section

namespace Cert.FF

open Idealize.ShloMosaic

/-- The token's vector divided by its root mean square and scaled by `g`. -/
noncomputable def normed (x g : Fin 1024 → EReal) (c : Fin 1024) : EReal :=
  x c * Ideal.rsqrt (Ideal.div (∑ k, x k * x k) (Ideal.ofBits .f32 0x44800000#32) + Ideal.ofBits .f32 0x358637BD#32) * g c

/-- The product of a vector with a matrix. -/
noncomputable def through {n p : Nat} (x : Fin n → EReal) (w : Fin n → Fin p → EReal) (d : Fin p) : EReal := ∑ k, x k * w k d

/-- The gated hidden vector: `silu(x Wg) * (x Wu)`. -/
noncomputable def hidden (x : Fin 1024 → EReal) (wg wu : Fin 1024 → Fin 2816 → EReal) (f : Fin 2816) : EReal :=
  through x wg f * Ideal.logistic (through x wg f) * through x wu f

/-- The feed-forward part with its residual: `x + 0.5 * SwiGLU(RMSNorm x)`. -/
noncomputable def fed (x g : Fin 1024 → EReal) (wg wu : Fin 1024 → Fin 2816 → EReal) (wd : Fin 2816 → Fin 1024 → EReal) (d : Fin 1024) : EReal :=
  x d + Ideal.ofBits .f32 0x3F000000#32 * through (hidden (normed x g) wg wu) wd d

/-- The gated embedding with its residual: `h + sigmoid(RMSNorm(h) Wgate) * (p Wple)`. -/
noncomputable def embedded (h : Fin 1024 → EReal) (p : Fin 256 → EReal) (pn : Fin 1024 → EReal) (pg : Fin 1024 → Fin 1024 → EReal)
    (pu : Fin 256 → Fin 1024 → EReal) (d : Fin 1024) : EReal :=
  h d + Ideal.logistic (through (normed h pn) pg d) * through p pu d

/-- The last layer's end: feed-forward, gated embedding, final norm. -/
noncomputable def finished (x : Fin 1024 → EReal) (p : Fin 256 → EReal) (g : Fin 1024 → EReal) (wg wu : Fin 1024 → Fin 2816 → EReal)
    (wd : Fin 2816 → Fin 1024 → EReal) (pn : Fin 1024 → EReal) (pg : Fin 1024 → Fin 1024 → EReal) (pu : Fin 256 → Fin 1024 → EReal)
    (fn : Fin 1024 → EReal) : Fin 1024 → EReal :=
  normed (embedded (fed x g wg wu wd) p pn pg pu) fn

/-- The kernel's sigmoid, `1 / (1 + exp(0 - z))`. -/
theorem logistic_sub (z : EReal) : Ideal.logistic z = Ideal.div 1 (1 + Ideal.exp (0 - z)) := by
  rw [zero_sub]; rfl

/-- Row `R` of the flattened tokens is token `t` of sequence `b`. -/
theorem tokens_apply {α : Type} {n0 n1 n2 n : Nat} (x : (⟨3, ![n0, n1, n2]⟩ : Shape).Idx → α)
    (h : (⟨3, ![n0, n1, n2]⟩ : Shape).ShapeCasts ⟨2, ![n, n2]⟩) (R : Fin n) (k : Fin n2) (b : Fin n0) (t : Fin n1)
    (e : R.val = b.val * n1 + t.val) : shapeCast ⟨2, ![n, n2]⟩ x h (ix2 R k) = x (ix3 b t k) := by
  unfold shapeCast
  refine congrArg x (Shape.reshapeEquiv_eq_of_vals h _ _ _ _ (rowMajor_val3 _ (n1 * n2) n2 rfl rfl) (rowMajor_val2 _ n2 rfl) ?_)
  show b.val * (n1 * n2) + t.val * n2 + k.val = R.val * n2 + k.val
  rw [e]; ring

/-- The same in one of `l` layers. -/
theorem layer_tokens_apply {α : Type} {l n0 n1 n2 n : Nat} (x : (⟨4, ![l, n0, n1, n2]⟩ : Shape).Idx → α)
    (h : (⟨4, ![l, n0, n1, n2]⟩ : Shape).ShapeCasts ⟨3, ![l, n, n2]⟩) (i : Fin l) (R : Fin n) (k : Fin n2) (b : Fin n0) (t : Fin n1)
    (hn : n = n0 * n1) (e : R.val = b.val * n1 + t.val) : shapeCast ⟨3, ![l, n, n2]⟩ x h (ix3 i R k) = x (ix4 i b t k) := by
  unfold shapeCast
  refine congrArg x (Shape.reshapeEquiv_eq_of_vals h _ _ _ _ (rowMajor_val4 _ (n0 * (n1 * n2)) (n1 * n2) n2 rfl rfl rfl) (rowMajor_val3 _ (n * n2) n2 rfl rfl) ?_)
  show i.val * (n0 * (n1 * n2)) + b.val * (n1 * n2) + t.val * n2 + k.val = i.val * (n * n2) + R.val * n2 + k.val
  rw [e, hn]; ring

end Cert.FF
end
-- ==== Proof.FF.First.lean ====
module

public import proofs.«01_k».proof.Proof.FF.Spec
public import proofs.«01_k».proof.Proof.Gen.Kernel4Ideal.Value
public import Idealize.ShloMosaic.Lib.Pointwise
public import Idealize.ShloMosaic.Lib.Pipeline.ReadBack

/-! # The first feed-forward call: what a grid point writes

A grid point holds 512 tokens and computes them in two halves of 256. -/

@[expose] public section

set_option maxRecDepth 16384

namespace Cert.FF

open Idealize.ShloMosaic Cert.Kernel4Ideal Cert.Kernel4Ideal.Gen

theorem eta2 {n0 n1 : Nat} (x : (⟨2, ![n0, n1]⟩ : Shape).Idx) : x = ix2 (n0 := n0) (n1 := n1) (x 0) (x 1) := by
  funext a
  match a with
  | ⟨0, _⟩ => rfl
  | ⟨1, _⟩ => rfl

section
variable (v : Vec Ideal S256x1024 .f32) (g : Vec Ideal S1x1024 .f32) (r : Fin 256)

theorem norm_low (c : Fin 1024) : k0_pay2 v g (ix2 r c) = normed (fun k => v (ix2 r k)) (fun k => g (ix2 0 k)) c := by
  pointwise [k0_pay2, normed]

theorem norm_high (c : Fin 1024) : k0_pay3 v g (ix2 r c) = normed (fun k => v (ix2 r k)) (fun k => g (ix2 0 k)) c := by
  pointwise [k0_pay3, normed]

theorem gate_low (w : Vec Ideal S1024x2816 .bf16) (f : Fin 2816) :
    k0_pay4 v g w (ix2 r f) = through (normed (fun k => v (ix2 r k)) (fun k => g (ix2 0 k))) (fun k f => w (ix2 k f)) f := by
  have e : k0_pay4 v g w (ix2 r f) = ∑ k : Fin 1024, k0_pay2 v g (ix2 r k) * w (ix2 k f) := by
    pointwise [k0_pay4]
  rw [e]
  simp only [norm_low]
  rfl

variable (x : FVec Ideal S256x1024 .bf16) (wg wu : Vec Ideal S1024x2816 .bf16) (wd : Vec Ideal S2816x1024 .bf16)

theorem down_low (a : FVec Ideal S256x2816 .f32) (c : Fin 1024) :
    k0_pay7 x a wu wd v (ix2 r c) = v (ix2 r c) + Ideal.ofBits .f32 0x3F000000#32 *
      ∑ f : Fin 2816, a (ix2 r f) * Ideal.logistic (a (ix2 r f)) * (∑ k : Fin 1024, x (ix2 r k) * wu (ix2 k f)) * wd (ix2 f c) := by
  simp only [logistic_sub]
  pointwise [k0_pay7]

theorem down_high (c : Fin 1024) :
    k0_pay1 (k0_pay6 x (k0_pay5 wg) (constant S256x2816 .f32 0x00000000#32) wu wd) v (ix2 r c)
      = v (ix2 r c) + Ideal.ofBits .f32 0x3F000000#32 *
        through (hidden (fun k => x (ix2 r k)) (fun k f => wg (ix2 k f)) (fun k f => wu (ix2 k f))) (fun f c => wd (ix2 f c)) c := by
  unfold through hidden through
  simp only [logistic_sub]
  pointwise [k0_pay1, k0_pay6, k0_pay5]

end

section
variable (x0 : Vec Ideal S512x1024 .f32) (x1 : Vec Ideal S1x1024 .f32) (x2 x3 : Vec Ideal S1024x2816 .bf16) (x4 : Vec Ideal S2816x1024 .bf16)

/-- What a grid point leaves at row `r` of its block. -/
noncomputable def fedBlock (y : S512x1024.Idx) : EReal :=
  fed (fun k => x0 (ix2 (n0 := 512) (n1 := 1024) (y 0) k)) (fun k => x1 (ix2 0 k)) (fun k f => x2 (ix2 k f)) (fun k f => x3 (ix2 k f)) (fun f c => x4 (ix2 f c)) (y 1)

theorem load_low (r : Fin 256) (k : Fin 1024) : View.ld x0 r0_0 (ix2 r k) = x0 (ix2 ⟨r.val, by omega⟩ k) :=
  congrArg x0 (funext fun a => Fin.ext (match a with
    | ⟨0, _⟩ => (show 0 + 1 * r.val = r.val by omega)
    | ⟨1, _⟩ => (show 0 + 1 * k.val = k.val by omega)))

theorem load_high (r : Fin 256) (k : Fin 1024) : View.ld x0 r0_2 (ix2 r k) = x0 (ix2 ⟨256 + r.val, by omega⟩ k) :=
  congrArg x0 (funext fun a => Fin.ext (match a with
    | ⟨0, _⟩ => (show 256 + 1 * r.val = 256 + r.val by omega)
    | ⟨1, _⟩ => (show 0 + 1 * k.val = k.val by omega)))

variable (v : Vec Ideal S256x1024 .f32)

/-- The tokens of the second half. -/
theorem high_apply (hv : ∀ (r : Fin 256) (k : Fin 1024), v (ix2 r k) = x0 (ix2 ⟨256 + r.val, by omega⟩ k)) (r : Fin 256) (c : Fin 1024) :
    k0_pay1 (k0_pay6 (k0_pay3 v x1) (k0_pay5 x2) (constant S256x2816 .f32 0x00000000#32) x3 x4) v (ix2 r c)
      = fedBlock x0 x1 x2 x3 x4 (ix2 ⟨256 + r.val, by omega⟩ c) := by
  refine (down_high v r _ _ _ _ c).trans ?_
  simp only [norm_high, hv]
  rfl

/-- The tokens of the first half. -/
theorem low_apply (hv : ∀ (r : Fin 256) (k : Fin 1024), v (ix2 r k) = x0 (ix2 ⟨r.val, by omega⟩ k)) (r : Fin 256) (c : Fin 1024) :
    k0_pay7 (k0_pay2 v x1) (k0_pay4 v x1 x2) x3 x4 v (ix2 r c) = fedBlock x0 x1 x2 x3 x4 (ix2 ⟨r.val, by omega⟩ c) := by
  refine (down_low v r _ _ _ _ c).trans ?_
  simp only [norm_low, gate_low, hv]
  rfl

theorem fedBlock_apply (y : S512x1024.Idx) : out0_5 x0 x1 x2 x3 x4 y = fedBlock x0 x1 x2 x3 x4 y := by
  have l1 : View.ld x1 r0_1 = x1 := View.ld_unit_zero (by decide) _ x1
  have l2 : View.ld x2 r0_3 = x2 := View.ld_unit_zero (by decide) _ x2
  have l3 : View.ld x3 r0_3 = x3 := View.ld_unit_zero (by decide) _ x3
  have l4 : View.ld x4 r0_4 = x4 := View.ld_unit_zero (by decide) _ x4
  unfold out0_5
  rw [l1, l2, l3, l4]
  refine View.canon_apply_of_pieces (Val := Elt Ideal) (fedBlock x0 x1 x2 x3 x4) _ (fun p hp => ?_) y (cover0_5 _ _ y)
  refine View.PiecesOf.mem (L := [_, _]) ?_ p hp
  refine ⟨fun x => ?_, fun x => ?_, trivial⟩
  · refine ((congrArg _ (eta2 (n0 := 256) (n1 := 1024) x)).trans (high_apply x0 x1 x2 x3 x4 _ (load_high x0) (x 0) (x 1))).trans
      (congrArg (fedBlock x0 x1 x2 x3 x4) (funext fun a => Fin.ext ?_))
    match a with
    | ⟨0, _⟩ => show 256 + (x 0).val = 256 + 1 * (x 0).val; omega
    | ⟨1, _⟩ => show (x 1).val = 0 + 1 * (x 1).val; omega
  · refine ((congrArg _ (eta2 (n0 := 256) (n1 := 1024) x)).trans (low_apply x0 x1 x2 x3 x4 _ (load_low x0) (x 0) (x 1))).trans
      (congrArg (fedBlock x0 x1 x2 x3 x4) (funext fun a => Fin.ext ?_))
    match a with
    | ⟨0, _⟩ => show (x 0).val = 0 + 1 * (x 0).val; omega
    | ⟨1, _⟩ => show (x 1).val = 0 + 1 * (x 1).val; omega

end

end Cert.FF
end
-- ==== Proof.FF.FirstArray.lean ====
module

public import proofs.«01_k».proof.Proof.FF.First
public import Idealize.ShloMosaic.Lib.Pipeline.ValueKit
public import Idealize.ShloMosaic.Lib.StableHlo.RunRead

/-! # The first feed-forward call: its array -/

@[expose] public section

set_option maxRecDepth 16384

namespace Cert.FF

open Idealize.ShloMosaic Cert.Kernel4Ideal Cert.Kernel4Ideal.Gen

theorem first_index0 : ∀ t : Fin cfg0.N, win0_0.index t = ![t.val, 0] :=
  (by decide +kernel : ∀ t : Fin grid0.N, win0_0.index t = ![t.val, 0])

theorem first_index1 : ∀ t : Fin cfg0.N, win0_1.index t = ![0, 0] := (by decide +kernel : ∀ t : Fin grid0.N, win0_1.index t = ![0, 0])
theorem first_index2 : ∀ t : Fin cfg0.N, win0_2.index t = ![0, 0] := (by decide +kernel : ∀ t : Fin grid0.N, win0_2.index t = ![0, 0])
theorem first_index3 : ∀ t : Fin cfg0.N, win0_3.index t = ![0, 0] := (by decide +kernel : ∀ t : Fin grid0.N, win0_3.index t = ![0, 0])
theorem first_index4 : ∀ t : Fin cfg0.N, win0_4.index t = ![0, 0] := (by decide +kernel : ∀ t : Fin grid0.N, win0_4.index t = ![0, 0])

theorem first_index5 : ∀ t : Fin cfg0.N, win0_5.index t = ![t.val, 0] :=
  (by decide +kernel : ∀ t : Fin grid0.N, win0_5.index t = ![t.val, 0])

section
variable (m : (ℓ : Loc nD τ sig) → Buf (Elt Ideal) ℓ) (c : Dev nD) (t : Fin cfg0.N)

theorem V_x : V m c main_v0 = shapeCast S65536x1024 (m ((c.tc : Thread nD τ).loc main_arg0)) shapeCasts_S16x4096x1024_S65536x1024 := by
  unfold_abbrev_sides
  after_reads_simp
  rfl

theorem V_norm : V m c main_v1 = shapeCast S1x1024 (m ((c.tc : Thread nD τ).loc main_arg1)) shapeCasts_S1024_S1x1024 := by
  unfold_abbrev_sides
  after_reads_simp
  rfl

theorem V_gate : V m c main_v2 = m ((c.tc : Thread nD τ).loc main_arg2) := by
  unfold_abbrev_sides
  after_reads_simp
  rfl

theorem V_up : V m c main_v3 = m ((c.tc : Thread nD τ).loc main_arg3) := by
  unfold_abbrev_sides
  after_reads_simp
  rfl

theorem V_down : V m c main_v4 = m ((c.tc : Thread nD τ).loc main_arg4) := by
  unfold_abbrev_sides
  after_reads_simp
  rfl

theorem first_block0 (r : Fin 512) (k : Fin 1024) (R : Fin 65536) (hR : R.val = t.val * 512 + r.val) :
    iblk m c 0 t (ix2 r k) = m ((c.tc : Thread nD τ).loc main_arg0) (ix3 (n0 := 16) (n1 := 4096) (n2 := 1024) ⟨R.val / 4096, by omega⟩ ⟨R.val % 4096, by omega⟩ k) := by
  have e : iblk m c 0 t (ix2 r k) = shapeCast S65536x1024 (m ((c.tc : Thread nD τ).loc main_arg0)) shapeCasts_S16x4096x1024_S65536x1024 (ix2 R k) := by
    show V m c main_v0 (((cfg0.win 0).blk t).view.emb (ix2 r k)) = _
    rw [V_x]
    blk_ext [first_index0 t]
  rw [e]
  exact tokens_apply _ _ R k _ _ (by show R.val = R.val / 4096 * 4096 + R.val % 4096; omega)

theorem first_block1 (k : Fin 1024) : iblk m c 1 t (ix2 0 k) = m ((c.tc : Thread nD τ).loc main_arg1) (ix1 (n0 := 1024) k) := by
  have e : iblk m c 1 t (ix2 0 k) = shapeCast S1x1024 (m ((c.tc : Thread nD τ).loc main_arg1)) shapeCasts_S1024_S1x1024 (ix2 0 k) := by
    show V m c main_v1 (((cfg0.win 1).blk t).view.emb (ix2 0 k)) = _
    rw [V_norm]
    blk_ext [first_index1 t]
  rw [e]
  pointwise

theorem first_block2 (k : Fin 1024) (f : Fin 2816) : iblk m c 2 t (ix2 k f) = m ((c.tc : Thread nD τ).loc main_arg2) (ix2 (n0 := 1024) (n1 := 2816) k f) := by
  show V m c main_v2 (((cfg0.win 2).blk t).view.emb (ix2 k f)) = _
  rw [V_gate]
  blk_ext [first_index2 t]

theorem first_block3 (k : Fin 1024) (f : Fin 2816) : iblk m c 3 t (ix2 k f) = m ((c.tc : Thread nD τ).loc main_arg3) (ix2 (n0 := 1024) (n1 := 2816) k f) := by
  show V m c main_v3 (((cfg0.win 3).blk t).view.emb (ix2 k f)) = _
  rw [V_up]
  blk_ext [first_index3 t]

theorem first_block4 (f : Fin 2816) (k : Fin 1024) : iblk m c 4 t (ix2 f k) = m ((c.tc : Thread nD τ).loc main_arg4) (ix2 (n0 := 2816) (n1 := 1024) f k) := by
  show V m c main_v4 (((cfg0.win 4).blk t).view.emb (ix2 f k)) = _
  rw [V_down]
  blk_ext [first_index4 t]

end

/-- The result at row `R` and column `d`: the token of that row, through the feed-forward part. -/
noncomputable def fedArray (x : (⟨3, ![16, 4096, 1024]⟩ : Shape).Idx → EReal) (g : (⟨1, ![1024]⟩ : Shape).Idx → EReal)
    (wg wu : (⟨2, ![1024, 2816]⟩ : Shape).Idx → EReal) (wd : (⟨2, ![2816, 1024]⟩ : Shape).Idx → EReal) (R : Fin 65536) (d : Fin 1024) : EReal :=
  fed (fun k => x (ix3 ⟨R.val / 4096, by omega⟩ ⟨R.val % 4096, by omega⟩ k)) (fun k => g (ix1 k)) (fun k f => wg (ix2 k f)) (fun k f => wu (ix2 k f))
    (fun f k => wd (ix2 f k)) d

/-- The kernel's result. -/
theorem first_array (m : (ℓ : Loc nD τ sig) → Buf (Elt Ideal) ℓ) (c : Dev nD) :
    (dats m 0 c).arrAt 5 cfg0.N = fun y : S65536x1024.Idx =>
      fedArray (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (y 0) (y 1) := by
  refine (dats m 0 c).arrAt_eq_of_covers 5 _ (by decide +kernel) fun t hf y => ?_
  blk_simp
  rw [after0_5]
  rw [fedBlock_apply]
  have y0 : (y 0).val < 512 := (y 0).isLt
  have y1 : (y 1).val < 1024 := (y 1).isLt
  have e0 : ((((cfg0.win 5).blk t).view.emb y) 0 : ℕ) = t.val * 512 + (y 0).val := by
    blk_simp [first_index5 t]
  have e1 : (((cfg0.win 5).blk t).view.emb y) 1 = (y 1 : Fin 1024) := by
    refine Fin.ext ?_
    blk_simp [first_index5 t]
  unfold fedBlock fedArray
  simp only [first_block0 m c t (y 0) _ ((((cfg0.win 5).blk t).view.emb y) 0) e0, first_block1, first_block2, first_block3, first_block4]
  rw [e1]

end Cert.FF
end
-- ==== Proof.FF.RefPrompt.lean ====
module

public import proofs.«01_k».proof.Proof.FF.Spec
public import proofs.«01_k».proof.Proof.Gen.Reference2Ideal.Read
public import proofs.«01_k».proof.Proof.Gen.Reference4Ideal.Read

/-! # The references of the prompt batch at an index -/

@[expose] public section

set_option maxRecDepth 16384

namespace Cert.FF.Prompt

open Idealize.ShloMosaic Cert.Reference2Ideal Cert.Reference2Ideal.Read

section
variable (x : FVec Ideal S16x4096x1024 .f32) (p : FVec Ideal S2x16x4096x256 .f32) (g pn fn : FVec Ideal S1024 .f32) (wg wu : FVec Ideal S1024x2816 .f32)
  (wd : FVec Ideal S2816x1024 .f32) (pg : FVec Ideal S1024x1024 .f32) (pu : FVec Ideal S256x1024 .f32) (b : Fin 16) (t : Fin 4096)

theorem norm_apply (c : Fin 1024) :
    val_main_v12 (F := Ideal) x g (ix3 b t c) = normed (fun k => x (ix3 b t k)) (fun k => g (ix1 k)) c := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, normed]

theorem gate_apply (f : Fin 2816) :
    val_main_v13 (F := Ideal) x g wg (ix3 b t f)
      = through (normed (fun k => x (ix3 b t k)) (fun k => g (ix1 k))) (fun k f => wg (ix2 k f)) f := by
  unfold through
  simp only [← norm_apply]
  pointwise [val_main_v13]

theorem hidden_apply (f : Fin 2816) :
    val_main_v16 (F := Ideal) x g wg wu (ix3 b t f)
      = hidden (normed (fun k => x (ix3 b t k)) (fun k => g (ix1 k))) (fun k f => wg (ix2 k f)) (fun k f => wu (ix2 k f)) f := by
  unfold hidden
  rw [← gate_apply, ← gate_apply, show val_main_v13 (F := Ideal) x g wu = val_main_v15 (F := Ideal) x g wu from rfl]
  unfold Ideal.logistic
  pointwise [val_main_v16, val_main_v14, val_main_call0_v5, val_main_call0_v4, val_main_call0_cst_0, val_main_call0_v3,
    val_main_call0_v2, val_main_call0_cst, val_main_call0_v1, val_main_call0_v0]

theorem fed_apply (c : Fin 1024) :
    val_main_v20 (F := Ideal) x g wg wu wd (ix3 b t c)
      = fed (fun k => x (ix3 b t k)) (fun k => g (ix1 k)) (fun k f => wg (ix2 k f)) (fun k f => wu (ix2 k f)) (fun f c => wd (ix2 f c)) c := by
  unfold fed through
  simp only [← hidden_apply]
  pointwise [val_main_v20, val_main_v19, val_main_v18, val_main_cst_2, val_main_v17]

theorem sigmoid_apply (c : Fin 1024) :
    val_main_v40 (F := Ideal) x g wg wu wd pn pg (ix3 b t c)
      = Ideal.logistic (through (normed (fun k => val_main_v20 (F := Ideal) x g wg wu wd (ix3 b t k)) (fun k => pn (ix1 k))) (fun k f => pg (ix2 k f)) c) := by
  unfold through
  simp only [← norm_apply, show val_main_v12 (F := Ideal) (val_main_v20 (F := Ideal) x g wg wu wd) pn = val_main_v33 (F := Ideal) x g wg wu wd pn from rfl]
  unfold Ideal.logistic
  pointwise [val_main_v40, val_main_v39, val_main_cst_7, val_main_v38, val_main_v37, val_main_cst_6, val_main_v36, val_main_v35, val_main_v34]

theorem embedded_apply (c : Fin 1024) :
    val_main_v45 (F := Ideal) x p g wg wu wd pn pg pu (ix3 b t c)
      = embedded (fun k => val_main_v20 (F := Ideal) x g wg wu wd (ix3 b t k)) (fun k => p (ix4 1 b t k)) (fun k => pn (ix1 k))
          (fun k f => pg (ix2 k f)) (fun k f => pu (ix2 k f)) c := by
  unfold embedded
  rw [← sigmoid_apply]
  unfold through
  pointwise [val_main_v45, val_main_v44, val_main_v43, val_main_v42, val_main_v41]

theorem finished_apply (c : Fin 1024) :
    val_main_v58 (F := Ideal) x p g wg wu wd pn pg pu fn (ix3 b t c)
      = finished (fun k => x (ix3 b t k)) (fun k => p (ix4 1 b t k)) (fun k => g (ix1 k)) (fun k f => wg (ix2 k f)) (fun k f => wu (ix2 k f))
          (fun f c => wd (ix2 f c)) (fun k => pn (ix1 k)) (fun k f => pg (ix2 k f)) (fun k f => pu (ix2 k f)) (fun k => fn (ix1 k)) c := by
  rw [show val_main_v58 (F := Ideal) x p g wg wu wd pn pg pu fn
    = val_main_v12 (F := Ideal) (val_main_v45 (F := Ideal) x p g wg wu wd pn pg pu) fn from rfl, norm_apply]
  simp only [embedded_apply, fed_apply]
  rfl

/-- The last layer's result. -/
theorem last_apply (R : Fin 65536) (hb : R.val = b.val * 4096 + t.val) (c : Fin 1024) :
    val_main_v59 (F := Ideal) x p g wg wu wd pn pg pu fn (ix2 R c)
      = finished (fun k => x (ix3 b t k)) (fun k => p (ix4 1 b t k)) (fun k => g (ix1 k)) (fun k f => wg (ix2 k f)) (fun k f => wu (ix2 k f))
          (fun f c => wd (ix2 f c)) (fun k => pn (ix1 k)) (fun k f => pg (ix2 k f)) (fun k f => pu (ix2 k f)) (fun k => fn (ix1 k)) c :=
  (tokens_apply _ _ R c b t hb).trans (finished_apply x p g pn fn wg wu wd pg pu b t c)

/-- The result of the first feed-forward part. -/
theorem first_apply (R : Fin 65536) (hb : R.val = b.val * 4096 + t.val) (c : Fin 1024) :
    Cert.Reference4Ideal.Read.val_main_v21 (F := Ideal) x g wg wu wd (ix2 R c)
      = fed (fun k => x (ix3 b t k)) (fun k => g (ix1 k)) (fun k f => wg (ix2 k f)) (fun k f => wu (ix2 k f)) (fun f c => wd (ix2 f c)) c :=
  (tokens_apply _ _ R c b t hb).trans
    ((show Cert.Reference4Ideal.Read.val_main_v20 (F := Ideal) x g wg wu wd (ix3 b t c) = val_main_v20 (F := Ideal) x g wg wu wd (ix3 b t c) from rfl).trans
      (fed_apply x g wg wu wd b t c))

end

end Cert.FF.Prompt
end
-- ==== Proof.FF.FirstFinish.lean ====
module

public import proofs.«01_k».proof.Defs
public import proofs.«01_k».proof.Proof.FF.FirstArray
public import proofs.«01_k».proof.Proof.FF.RefPrompt
public import proofs.«01_k».proof.Proof.Gen.Reference4Ideal.Run
public import Idealize.ShloMosaic.Lib.Claim

/-! # The first feed-forward call: the kernel's array is the reference's -/

@[expose] public section

set_option maxRecDepth 16384

namespace Cert.FF.First

open Idealize.ShloMosaic Idealize.SL.Sem

theorem results_eq (x : FVec Ideal Cert.Kernel4Ideal.S16x4096x1024 .f32) (g : FVec Ideal Cert.Kernel4Ideal.S1024 .f32)
    (wg wu : FVec Ideal Cert.Kernel4Ideal.S1024x2816 .f32) (wd : FVec Ideal Cert.Kernel4Ideal.S2816x1024 .f32) :
    Cert.Reference4Ideal.Read.val_main_v21 (F := Ideal) x g wg wu wd
      = fun y : Cert.Kernel4Ideal.S65536x1024.Idx => fedArray x g wg wu wd (y 0) (y 1) := by
  funext y
  have h : (y 0).val < 65536 := (y 0).isLt
  refine (congrArg _ (eta2 (n0 := 65536) (n1 := 1024) y)).trans
    (Cert.FF.Prompt.first_apply x g wg wu wd ⟨(y 0).val / 4096, by omega⟩ ⟨(y 0).val % 4096, by omega⟩ (y 0) ?_ (y 1))
  show (y 0).val = (y 0).val / 4096 * 4096 + (y 0).val % 4096
  omega

theorem algebraic : Cert.algebraic_Kernel4Ideal_Reference4Ideal (hKernel4Ideal := Cert.Kernel4Ideal.Gen.facts)
    (hReference4Ideal := Cert.Reference4Ideal.Gen.facts) := by
  intro m g m' g' hpre hagree
  refine ⟨fun c => (Cert.Kernel4Ideal.Gen.dats m 0 c).arrAt 5 Cert.Kernel4Ideal.cfg0.N, Cert.Kernel4Ideal.Value.run_blocks m g, ?_⟩
  refine (θ_run _ _ _).mono (fun r h c => ?_) (Cert.Reference4Ideal.Value.run m' g')
  refine ⟨(h c).1.trans ?_, (h c).2⟩
  rw [Cert.Reference4Ideal.Read.val_main_v21_eq]
  refine Eq.trans ?_ (first_array m c).symm
  obtain ⟨e0, e1, e2, e3, e4⟩ := hagree c
  refine Eq.trans ?_ (results_eq _ _ _ _ _)
  rw [e0, e1, e2, e3, e4]

theorem reference_quiescent : Cert.quiescent_Reference4Ideal (hReference4Ideal := Cert.Reference4Ideal.Gen.facts) := by
  intro m g _
  exact (θ_run Cert.Reference4Ideal.defs _ _).mono
    (fun r h => ⟨fun c => (h c).2, sem_eq_zero_of_no_sems (by decide) r.2⟩) (Cert.Reference4Ideal.Value.run m g)

end Cert.FF.First
end
-- ==== Proof.FF.Last.lean ====
module

public import proofs.«01_k».proof.Proof.FF.First
public import proofs.«01_k».proof.Proof.Gen.Kernel2Ideal.Value

/-! # The last feed-forward call: what a grid point writes

Its feed-forward part is the first call's; the gated embedding and the final norm follow. -/

@[expose] public section

set_option maxRecDepth 16384

namespace Cert.FF.Last

open Idealize.ShloMosaic Cert.Kernel2Ideal Cert.Kernel2Ideal.Gen

section
variable (h a e s v : FVec Ideal S256x1024 .f32) (pn fn : FVec Ideal S1x1024 .f32) (pg : FVec Ideal S1024x1024 .bf16) (q : FVec Ideal S1x256x256 .f32)
  (pu : FVec Ideal S256x1024 .bf16) (r : Fin 256)

/-- The norm of a half's row, as the kernel writes it in one piece. -/
theorem normed_eq (c : Fin 1024) : k0_pay2 e fn (ix2 r c) = normed (fun k => e (ix2 r k)) (fun k => fn (ix2 0 k)) c := by
  pointwise [k0_pay2, normed]

/-- The same, cut into parts. -/
theorem normed_parts (c : Fin 1024) :
    k0_pay1 (k0_pay13 h s q pu) (k0_pay15 fn) (k0_pay16 h s q pu) (k0_pay17 (F := Ideal)) (ix2 r c)
      = normed (fun k => k0_pay13 h s q pu (ix2 r k)) (fun k => fn (ix2 0 k)) c := by
  rw [← normed_eq]
  rfl

theorem sigmoid_low (c : Fin 1024) :
    k0_pay10 h pn pg (ix2 r c) = Ideal.logistic (through (normed (fun k => h (ix2 r k)) (fun k => pn (ix2 0 k))) (fun k f => pg (ix2 k f)) c) := by
  unfold through normed
  rw [logistic_sub]
  pointwise [k0_pay10]

theorem embedded_low (c : Fin 1024) :
    k0_pay13 h (k0_pay10 h pn pg) q pu (ix2 r c)
      = embedded (fun k => h (ix2 r k)) (fun k => q (ix3 0 r k)) (fun k => pn (ix2 0 k)) (fun k f => pg (ix2 k f)) (fun k f => pu (ix2 k f)) c := by
  unfold embedded
  rw [← sigmoid_low]
  unfold through
  pointwise [k0_pay13]

theorem embedded_high (c : Fin 1024) :
    k0_pay14 (k0_pay9 a v) (k0_pay11 pn) (k0_pay12 a v) pg q pu (ix2 r c)
      = embedded (fun k => k0_pay9 a v (ix2 r k)) (fun k => q (ix3 0 r k)) (fun k => pn (ix2 0 k)) (fun k f => pg (ix2 k f)) (fun k f => pu (ix2 k f)) c := by
  rw [← embedded_low]
  rfl

end

section
variable (x0 : Vec Ideal S512x1024 .f32) (x1 : Vec Ideal S1x1024 .f32) (x2 x3 : Vec Ideal S1024x2816 .bf16) (x4 : Vec Ideal S2816x1024 .bf16)
  (x5 : Vec Ideal S1x512x256 .f32) (x6 : Vec Ideal S1x1024 .f32) (x7 : Vec Ideal S1024x1024 .bf16) (x8 : Vec Ideal S256x1024 .bf16) (x9 : Vec Ideal S1x1024 .f32)

/-- What a grid point leaves at row `r` of its block. -/
noncomputable def lastBlock (y : S512x1024.Idx) : EReal :=
  finished (fun k => x0 (ix2 (n0 := 512) (n1 := 1024) (y 0) k)) (fun k => x5 (ix3 (n0 := 1) (n1 := 512) (n2 := 256) 0 (y 0) k)) (fun k => x1 (ix2 0 k))
    (fun k f => x2 (ix2 k f)) (fun k f => x3 (ix2 k f)) (fun f c => x4 (ix2 f c)) (fun k => x6 (ix2 0 k)) (fun k f => x7 (ix2 k f))
    (fun k f => x8 (ix2 k f)) (fun k => x9 (ix2 0 k)) (y 1)

theorem load_p_low (r k : Fin 256) : View.ld x5 r0_6 (ix3 0 r k) = x5 (ix3 0 ⟨r.val, by omega⟩ k) :=
  congrArg x5 (funext fun a => Fin.ext (match a with
    | ⟨0, _⟩ => rfl
    | ⟨1, _⟩ => (show 0 + 1 * r.val = r.val by omega)
    | ⟨2, _⟩ => (show 0 + 1 * k.val = k.val by omega)))

theorem load_p_high (r k : Fin 256) : View.ld x5 r0_8 (ix3 0 r k) = x5 (ix3 0 ⟨256 + r.val, by omega⟩ k) :=
  congrArg x5 (funext fun a => Fin.ext (match a with
    | ⟨0, _⟩ => rfl
    | ⟨1, _⟩ => (show 256 + 1 * r.val = 256 + r.val by omega)
    | ⟨2, _⟩ => (show 0 + 1 * k.val = k.val by omega)))

variable (v : Vec Ideal S256x1024 .f32) (q : Vec Ideal S1x256x256 .f32)

theorem fed_low (hv : ∀ (r : Fin 256) (k : Fin 1024), v (ix2 r k) = x0 (ix2 ⟨r.val, by omega⟩ k)) (r : Fin 256) (c : Fin 1024) :
    k0_pay8 (k0_pay3 v x1) (k0_pay5 v x1 x2) x3 x4 v (ix2 r c) = fedBlock x0 x1 x2 x3 x4 (ix2 ⟨r.val, by omega⟩ c) :=
  low_apply x0 x1 x2 x3 x4 v hv r c

theorem fed_high (hv : ∀ (r : Fin 256) (k : Fin 1024), v (ix2 r k) = x0 (ix2 ⟨256 + r.val, by omega⟩ k)) (r : Fin 256) (c : Fin 1024) :
    k0_pay9 (k0_pay7 (k0_pay4 v x1) (k0_pay6 x2) (constant S256x2816 .f32 0x00000000#32) x3 x4) v (ix2 r c)
      = fedBlock x0 x1 x2 x3 x4 (ix2 ⟨256 + r.val, by omega⟩ c) :=
  high_apply x0 x1 x2 x3 x4 v hv r c

/-- The tokens of the first half. -/
theorem low (hv : ∀ (r : Fin 256) (k : Fin 1024), v (ix2 r k) = x0 (ix2 ⟨r.val, by omega⟩ k))
    (hq : ∀ r k : Fin 256, q (ix3 0 r k) = x5 (ix3 0 ⟨r.val, by omega⟩ k)) (h : FVec Ideal S256x1024 .f32)
    (hh : h = k0_pay8 (k0_pay3 v x1) (k0_pay5 v x1 x2) x3 x4 v) (r : Fin 256) (c : Fin 1024) :
    k0_pay1 (k0_pay13 h (k0_pay10 h x6 x7) q x8) (k0_pay15 x9) (k0_pay16 h (k0_pay10 h x6 x7) q x8) (k0_pay17 (F := Ideal)) (ix2 r c)
      = lastBlock x0 x1 x2 x3 x4 x5 x6 x7 x8 x9 (ix2 ⟨r.val, by omega⟩ c) := by
  rw [normed_parts]
  subst hh
  simp only [embedded_low, fed_low x0 x1 x2 x3 x4 v hv, hq]
  rfl

/-- The tokens of the second half. -/
theorem high (hv : ∀ (r : Fin 256) (k : Fin 1024), v (ix2 r k) = x0 (ix2 ⟨256 + r.val, by omega⟩ k))
    (hq : ∀ r k : Fin 256, q (ix3 0 r k) = x5 (ix3 0 ⟨256 + r.val, by omega⟩ k)) (a : FVec Ideal S256x1024 .f32)
    (ha : a = k0_pay7 (k0_pay4 v x1) (k0_pay6 x2) (constant S256x2816 .f32 0x00000000#32) x3 x4) (r : Fin 256) (c : Fin 1024) :
    k0_pay2 (k0_pay14 (k0_pay9 a v) (k0_pay11 x6) (k0_pay12 a v) x7 q x8) x9 (ix2 r c)
      = lastBlock x0 x1 x2 x3 x4 x5 x6 x7 x8 x9 (ix2 ⟨256 + r.val, by omega⟩ c) := by
  rw [normed_eq]
  subst ha
  simp only [embedded_high, fed_high x0 x1 x2 x3 x4 v hv, hq]
  rfl

theorem lastBlock_apply (y : S512x1024.Idx) : out0_10 x0 x1 x2 x3 x4 x5 x6 x7 x8 x9 y = lastBlock x0 x1 x2 x3 x4 x5 x6 x7 x8 x9 y := by
  have l1 : View.ld x1 r0_1 = x1 := View.ld_unit_zero (by decide) _ x1
  have l2 : View.ld x2 r0_3 = x2 := View.ld_unit_zero (by decide) _ x2
  have l3 : View.ld x3 r0_3 = x3 := View.ld_unit_zero (by decide) _ x3
  have l4 : View.ld x4 r0_4 = x4 := View.ld_unit_zero (by decide) _ x4
  have l6 : View.ld x6 r0_1 = x6 := View.ld_unit_zero (by decide) _ x6
  have l7 : View.ld x7 r0_5 = x7 := View.ld_unit_zero (by decide) _ x7
  have l8 : View.ld x8 r0_7 = x8 := View.ld_unit_zero (by decide) _ x8
  have l9 : View.ld x9 r0_1 = x9 := View.ld_unit_zero (by decide) _ x9
  unfold out0_10 k0_pay20
  rw [l6, l7, l8, l9]
  refine View.canon_apply_of_pieces (Val := Elt Ideal) (lastBlock x0 x1 x2 x3 x4 x5 x6 x7 x8 x9) _ (fun p hp => ?_) y (cover0_10 _ _ y)
  refine View.PiecesOf.mem (L := [_, _]) ?_ p hp
  refine ⟨fun x => ?_, fun x => ?_, trivial⟩
  · refine ((congrArg _ (eta2 (n0 := 256) (n1 := 1024) x)).trans
      (high x0 x1 x2 x3 x4 x5 x6 x7 x8 x9 _ _ (load_high x0) (load_p_high x5) _ (by unfold k0_pay18; rw [l1, l2, l3, l4]) (x 0) (x 1))).trans
      (congrArg (lastBlock x0 x1 x2 x3 x4 x5 x6 x7 x8 x9) (funext fun a => Fin.ext ?_))
    match a with
    | ⟨0, _⟩ => show 256 + (x 0).val = 256 + 1 * (x 0).val; omega
    | ⟨1, _⟩ => show (x 1).val = 0 + 1 * (x 1).val; omega
  · refine ((congrArg _ (eta2 (n0 := 256) (n1 := 1024) x)).trans
      (low x0 x1 x2 x3 x4 x5 x6 x7 x8 x9 _ _ (load_low x0) (load_p_low x5) _ (by unfold k0_pay19; rw [l1, l2, l3, l4]) (x 0) (x 1))).trans
      (congrArg (lastBlock x0 x1 x2 x3 x4 x5 x6 x7 x8 x9) (funext fun a => Fin.ext ?_))
    match a with
    | ⟨0, _⟩ => show (x 0).val = 0 + 1 * (x 0).val; omega
    | ⟨1, _⟩ => show (x 1).val = 0 + 1 * (x 1).val; omega

end

end Cert.FF.Last
end
-- ==== Proof.FF.LastPrompt.lean ====
module

public import proofs.«01_k».proof.Defs
public import proofs.«01_k».proof.Proof.FF.Last
public import proofs.«01_k».proof.Proof.FF.RefPrompt
public import proofs.«01_k».proof.Proof.Gen.Kernel2Ideal.Value
public import proofs.«01_k».proof.Proof.Gen.Reference2Ideal.Run
public import Idealize.ShloMosaic.Lib.Claim
public import Idealize.ShloMosaic.Lib.Pipeline.ValueKit
public import Idealize.ShloMosaic.Lib.StableHlo.RunRead

/-! # The last feed-forward call, prompt batch: its array is the reference's -/

@[expose] public section

set_option maxRecDepth 16384

namespace Cert.FF.Prompt

open Idealize.ShloMosaic Idealize.SL.Sem Cert.Kernel2Ideal Cert.Kernel2Ideal.Gen

theorem row_index0 : ∀ t : Fin cfg0.N, win0_0.index t = ![t.val, 0] := (by decide +kernel : ∀ t : Fin grid0.N, win0_0.index t = ![t.val, 0])
theorem row_index5 : ∀ t : Fin cfg0.N, win0_5.index t = ![1, t.val, 0] := (by decide +kernel : ∀ t : Fin grid0.N, win0_5.index t = ![1, t.val, 0])
theorem row_index10 : ∀ t : Fin cfg0.N, win0_10.index t = ![t.val, 0] := (by decide +kernel : ∀ t : Fin grid0.N, win0_10.index t = ![t.val, 0])

theorem whole_index : ∀ t : Fin cfg0.N, win0_1.index t = ![0, 0] ∧ win0_2.index t = ![0, 0] ∧ win0_3.index t = ![0, 0] ∧ win0_4.index t = ![0, 0]
    ∧ win0_6.index t = ![0, 0] ∧ win0_7.index t = ![0, 0] ∧ win0_8.index t = ![0, 0] ∧ win0_9.index t = ![0, 0] :=
  (by decide +kernel : ∀ t : Fin grid0.N, win0_1.index t = ![0, 0] ∧ win0_2.index t = ![0, 0] ∧ win0_3.index t = ![0, 0] ∧ win0_4.index t = ![0, 0]
    ∧ win0_6.index t = ![0, 0] ∧ win0_7.index t = ![0, 0] ∧ win0_8.index t = ![0, 0] ∧ win0_9.index t = ![0, 0])

section
variable (m : (ℓ : Loc nD τ sig) → Buf (Elt Ideal) ℓ) (c : Dev nD) (t : Fin cfg0.N)

/-- The host code flattens the tokens, gives the vectors a leading axis and casts the matrices. -/
theorem V_x : V m c main_v0 = shapeCast S65536x1024 (m ((c.tc : Thread nD τ).loc main_arg0)) shapeCasts_S16x4096x1024_S65536x1024 := by
  unfold_abbrev_sides
  after_reads_simp
  rfl

theorem V_p : V m c main_v5 = shapeCast S2x65536x256 (m ((c.tc : Thread nD τ).loc main_arg1)) shapeCasts_S2x16x4096x256_S2x65536x256 := by
  unfold_abbrev_sides
  after_reads_simp
  rfl

theorem block0 (r : Fin 512) (k : Fin 1024) (R : Fin 65536) (hR : R.val = t.val * 512 + r.val) :
    iblk m c 0 t (ix2 r k)
      = m ((c.tc : Thread nD τ).loc main_arg0) (ix3 (n0 := 16) (n1 := 4096) (n2 := 1024) ⟨R.val / 4096, by omega⟩ ⟨R.val % 4096, by omega⟩ k) := by
  have e : iblk m c 0 t (ix2 r k) = shapeCast S65536x1024 (m ((c.tc : Thread nD τ).loc main_arg0)) shapeCasts_S16x4096x1024_S65536x1024 (ix2 R k) := by
    show V m c main_v0 (((cfg0.win 0).blk t).view.emb (ix2 r k)) = _
    rw [V_x]
    blk_ext [row_index0 t]
  rw [e]
  exact tokens_apply _ _ R k _ _ (by show R.val = R.val / 4096 * 4096 + R.val % 4096; omega)

theorem block5 (r : Fin 512) (k : Fin 256) (R : Fin 65536) (hR : R.val = t.val * 512 + r.val) :
    iblk m c 5 t (ix3 0 r k)
      = m ((c.tc : Thread nD τ).loc main_arg1) (ix4 (n0 := 2) (n1 := 16) (n2 := 4096) (n3 := 256) 1 ⟨R.val / 4096, by omega⟩ ⟨R.val % 4096, by omega⟩ k) := by
  have e : iblk m c 5 t (ix3 0 r k)
      = shapeCast S2x65536x256 (m ((c.tc : Thread nD τ).loc main_arg1)) shapeCasts_S2x16x4096x256_S2x65536x256 (ix3 1 R k) := by
    show V m c main_v5 (((cfg0.win 5).blk t).view.emb (ix3 0 r k)) = _
    rw [V_p]
    blk_ext [row_index5 t]
  rw [e]
  exact layer_tokens_apply _ _ 1 R k _ _ rfl (by show R.val = R.val / 4096 * 4096 + R.val % 4096; omega)

theorem block1 (k : Fin 1024) : iblk m c 1 t (ix2 0 k) = m ((c.tc : Thread nD τ).loc main_arg2) (ix1 (n0 := 1024) k) := by
  have e : V m c main_v1 = shapeCast S1x1024 (m ((c.tc : Thread nD τ).loc main_arg2)) shapeCasts_S1024_S1x1024 := by
    unfold_abbrev_sides
    after_reads_simp
    rfl
  have e' : iblk m c 1 t (ix2 0 k) = shapeCast S1x1024 (m ((c.tc : Thread nD τ).loc main_arg2)) shapeCasts_S1024_S1x1024 (ix2 0 k) := by
    show V m c main_v1 (((cfg0.win 1).blk t).view.emb (ix2 0 k)) = _
    rw [e]
    blk_ext [(whole_index t).1]
  rw [e']
  pointwise

theorem block2 (k : Fin 1024) (f : Fin 2816) :
    iblk m c 2 t (ix2 k f) = m ((c.tc : Thread nD τ).loc main_arg3) (ix2 (n0 := 1024) (n1 := 2816) k f) := by
  have e : V m c main_v2 = m ((c.tc : Thread nD τ).loc main_arg3) := by
    unfold_abbrev_sides
    after_reads_simp
    rfl
  show V m c main_v2 (((cfg0.win 2).blk t).view.emb (ix2 k f)) = _
  rw [e]
  blk_ext [(whole_index t).2.1]

theorem block3 (k : Fin 1024) (f : Fin 2816) :
    iblk m c 3 t (ix2 k f) = m ((c.tc : Thread nD τ).loc main_arg4) (ix2 (n0 := 1024) (n1 := 2816) k f) := by
  have e : V m c main_v3 = m ((c.tc : Thread nD τ).loc main_arg4) := by
    unfold_abbrev_sides
    after_reads_simp
    rfl
  show V m c main_v3 (((cfg0.win 3).blk t).view.emb (ix2 k f)) = _
  rw [e]
  blk_ext [(whole_index t).2.2.1]

theorem block4 (k : Fin 2816) (f : Fin 1024) :
    iblk m c 4 t (ix2 k f) = m ((c.tc : Thread nD τ).loc main_arg5) (ix2 (n0 := 2816) (n1 := 1024) k f) := by
  have e : V m c main_v4 = m ((c.tc : Thread nD τ).loc main_arg5) := by
    unfold_abbrev_sides
    after_reads_simp
    rfl
  show V m c main_v4 (((cfg0.win 4).blk t).view.emb (ix2 k f)) = _
  rw [e]
  blk_ext [(whole_index t).2.2.2.1]

theorem block6 (k : Fin 1024) : iblk m c 6 t (ix2 0 k) = m ((c.tc : Thread nD τ).loc main_arg6) (ix1 (n0 := 1024) k) := by
  have e : V m c main_v6 = shapeCast S1x1024 (m ((c.tc : Thread nD τ).loc main_arg6)) shapeCasts_S1024_S1x1024 := by
    unfold_abbrev_sides
    after_reads_simp
    rfl
  have e' : iblk m c 6 t (ix2 0 k) = shapeCast S1x1024 (m ((c.tc : Thread nD τ).loc main_arg6)) shapeCasts_S1024_S1x1024 (ix2 0 k) := by
    show V m c main_v6 (((cfg0.win 6).blk t).view.emb (ix2 0 k)) = _
    rw [e]
    blk_ext [(whole_index t).2.2.2.2.1]
  rw [e']
  pointwise

theorem block7 (k : Fin 1024) (f : Fin 1024) :
    iblk m c 7 t (ix2 k f) = m ((c.tc : Thread nD τ).loc main_arg7) (ix2 (n0 := 1024) (n1 := 1024) k f) := by
  have e : V m c main_v7 = m ((c.tc : Thread nD τ).loc main_arg7) := by
    unfold_abbrev_sides
    after_reads_simp
    rfl
  show V m c main_v7 (((cfg0.win 7).blk t).view.emb (ix2 k f)) = _
  rw [e]
  blk_ext [(whole_index t).2.2.2.2.2.1]

theorem block8 (k : Fin 256) (f : Fin 1024) :
    iblk m c 8 t (ix2 k f) = m ((c.tc : Thread nD τ).loc main_arg8) (ix2 (n0 := 256) (n1 := 1024) k f) := by
  have e : V m c main_v8 = m ((c.tc : Thread nD τ).loc main_arg8) := by
    unfold_abbrev_sides
    after_reads_simp
    rfl
  show V m c main_v8 (((cfg0.win 8).blk t).view.emb (ix2 k f)) = _
  rw [e]
  blk_ext [(whole_index t).2.2.2.2.2.2.1]

theorem block9 (k : Fin 1024) : iblk m c 9 t (ix2 0 k) = m ((c.tc : Thread nD τ).loc main_arg9) (ix1 (n0 := 1024) k) := by
  have e : V m c main_v9 = shapeCast S1x1024 (m ((c.tc : Thread nD τ).loc main_arg9)) shapeCasts_S1024_S1x1024 := by
    unfold_abbrev_sides
    after_reads_simp
    rfl
  have e' : iblk m c 9 t (ix2 0 k) = shapeCast S1x1024 (m ((c.tc : Thread nD τ).loc main_arg9)) shapeCasts_S1024_S1x1024 (ix2 0 k) := by
    show V m c main_v9 (((cfg0.win 9).blk t).view.emb (ix2 0 k)) = _
    rw [e]
    blk_ext [(whole_index t).2.2.2.2.2.2.2]
  rw [e']
  pointwise

end

/-- The result at row `R` and column `d`: the token of that row, through the layer's end. -/
noncomputable def lastArray (x : (⟨3, ![16, 4096, 1024]⟩ : Shape).Idx → EReal) (p : (⟨4, ![2, 16, 4096, 256]⟩ : Shape).Idx → EReal)
    (g : (⟨1, ![1024]⟩ : Shape).Idx → EReal) (wg wu : (⟨2, ![1024, 2816]⟩ : Shape).Idx → EReal) (wd : (⟨2, ![2816, 1024]⟩ : Shape).Idx → EReal)
    (pn : (⟨1, ![1024]⟩ : Shape).Idx → EReal) (pg : (⟨2, ![1024, 1024]⟩ : Shape).Idx → EReal) (pu : (⟨2, ![256, 1024]⟩ : Shape).Idx → EReal)
    (fn : (⟨1, ![1024]⟩ : Shape).Idx → EReal) (R : Fin 65536) (d : Fin 1024) : EReal :=
  finished (fun k => x (ix3 ⟨R.val / 4096, by omega⟩ ⟨R.val % 4096, by omega⟩ k)) (fun k => p (ix4 1 ⟨R.val / 4096, by omega⟩ ⟨R.val % 4096, by omega⟩ k))
    (fun k => g (ix1 k)) (fun k f => wg (ix2 k f)) (fun k f => wu (ix2 k f)) (fun f k => wd (ix2 f k)) (fun k => pn (ix1 k)) (fun k f => pg (ix2 k f))
    (fun k f => pu (ix2 k f)) (fun k => fn (ix1 k)) d

/-- The kernel's result. -/
theorem array_eq (m : (ℓ : Loc nD τ sig) → Buf (Elt Ideal) ℓ) (c : Dev nD) :
    (dats m 0 c).arrAt 10 cfg0.N = fun y : S65536x1024.Idx =>
      lastArray (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (y 0) (y 1) := by
  refine (dats m 0 c).arrAt_eq_of_covers 10 _ (by decide +kernel) fun t hf y => ?_
  blk_simp
  rw [after0_10]
  refine (Last.lastBlock_apply _ _ _ _ _ _ _ _ _ _ y).trans ?_
  have y0 : (y 0).val < 512 := (y 0).isLt
  have y1 : (y 1).val < 1024 := (y 1).isLt
  have e0 : ((((cfg0.win 10).blk t).view.emb y) 0 : ℕ) = t.val * 512 + (y 0).val := by
    blk_simp [row_index10 t]
  have e1 : (((cfg0.win 10).blk t).view.emb y) 1 = (y 1 : Fin 1024) := by
    refine Fin.ext ?_
    blk_simp [row_index10 t]
  unfold Last.lastBlock lastArray
  simp only [block0 m c t (y 0) _ ((((cfg0.win 10).blk t).view.emb y) 0) e0, block5 m c t (y 0) _ ((((cfg0.win 10).blk t).view.emb y) 0) e0,
    block1, block2, block3, block4, block6, block7, block8, block9]
  rw [e1]

theorem results_eq (x : FVec Ideal S16x4096x1024 .f32) (p : FVec Ideal S2x16x4096x256 .f32) (g pn fn : FVec Ideal S1024 .f32) (wg wu : FVec Ideal S1024x2816 .f32)
    (wd : FVec Ideal S2816x1024 .f32) (pg : FVec Ideal S1024x1024 .f32) (pu : FVec Ideal S256x1024 .f32) :
    Cert.Reference2Ideal.Read.val_main_v59 (F := Ideal) x p g wg wu wd pn pg pu fn
      = fun y : S65536x1024.Idx => lastArray x p g wg wu wd pn pg pu fn (y 0) (y 1) := by
  funext y
  have h : (y 0).val < 65536 := (y 0).isLt
  refine (congrArg _ (eta2 (n0 := 65536) (n1 := 1024) y)).trans
    (last_apply x p g pn fn wg wu wd pg pu ⟨(y 0).val / 4096, by omega⟩ ⟨(y 0).val % 4096, by omega⟩ (y 0) ?_ (y 1))
  show (y 0).val = (y 0).val / 4096 * 4096 + (y 0).val % 4096
  omega

theorem algebraic : Cert.algebraic_Kernel2Ideal_Reference2Ideal (hKernel2Ideal := Cert.Kernel2Ideal.Gen.facts) (hReference2Ideal := Cert.Reference2Ideal.Gen.facts) := by
  intro m g m' g' hpre hagree
  refine ⟨fun c => (dats m 0 c).arrAt 10 cfg0.N, Cert.Kernel2Ideal.Value.run_blocks m g, ?_⟩
  refine (θ_run _ _ _).mono (fun r h c => ?_) (Cert.Reference2Ideal.Value.run m' g')
  refine ⟨(h c).1.trans ?_, (h c).2⟩
  rw [Cert.Reference2Ideal.Read.val_main_v59_eq]
  refine Eq.trans ?_ (array_eq m c).symm
  obtain ⟨e0, e1, e2, e3, e4, e5, e6, e7, e8, e9⟩ := hagree c
  refine Eq.trans ?_ (results_eq _ _ _ _ _ _ _ _ _ _)
  rw [e0, e1, e2, e3, e4, e5, e6, e7, e8, e9]

theorem reference_quiescent : Cert.quiescent_Reference2Ideal (hReference2Ideal := Cert.Reference2Ideal.Gen.facts) := by
  intro m g _
  exact (θ_run Cert.Reference2Ideal.defs _ _).mono
    (fun r h => ⟨fun c => (h c).2, sem_eq_zero_of_no_sems (by decide) r.2⟩) (Cert.Reference2Ideal.Value.run m g)

end Cert.FF.Prompt
end
-- ==== Proof.FF.RefSample.lean ====
module

public import proofs.«01_k».proof.Proof.FF.Spec
public import proofs.«01_k».proof.Proof.Gen.Reference3Ideal.Read

/-! # The reference of the sample batch at an index -/

@[expose] public section

set_option maxRecDepth 16384

namespace Cert.FF.Sample

open Idealize.ShloMosaic Cert.Reference3Ideal Cert.Reference3Ideal.Read

section
variable (x : FVec Ideal S2x16384x1024 .f32) (p : FVec Ideal S2x2x16384x256 .f32) (g pn fn : FVec Ideal S1024 .f32) (wg wu : FVec Ideal S1024x2816 .f32)
  (wd : FVec Ideal S2816x1024 .f32) (pg : FVec Ideal S1024x1024 .f32) (pu : FVec Ideal S256x1024 .f32) (b : Fin 2) (t : Fin 16384)

theorem norm_apply (c : Fin 1024) :
    val_main_v12 (F := Ideal) x g (ix3 b t c) = normed (fun k => x (ix3 b t k)) (fun k => g (ix1 k)) c := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, normed]

theorem gate_apply (f : Fin 2816) :
    val_main_v13 (F := Ideal) x g wg (ix3 b t f)
      = through (normed (fun k => x (ix3 b t k)) (fun k => g (ix1 k))) (fun k f => wg (ix2 k f)) f := by
  unfold through
  simp only [← norm_apply]
  pointwise [val_main_v13]

theorem hidden_apply (f : Fin 2816) :
    val_main_v16 (F := Ideal) x g wg wu (ix3 b t f)
      = hidden (normed (fun k => x (ix3 b t k)) (fun k => g (ix1 k))) (fun k f => wg (ix2 k f)) (fun k f => wu (ix2 k f)) f := by
  unfold hidden
  rw [← gate_apply, ← gate_apply, show val_main_v13 (F := Ideal) x g wu = val_main_v15 (F := Ideal) x g wu from rfl]
  unfold Ideal.logistic
  pointwise [val_main_v16, val_main_v14, val_main_call0_v5, val_main_call0_v4, val_main_call0_cst_0, val_main_call0_v3,
    val_main_call0_v2, val_main_call0_cst, val_main_call0_v1, val_main_call0_v0]

theorem fed_apply (c : Fin 1024) :
    val_main_v20 (F := Ideal) x g wg wu wd (ix3 b t c)
      = fed (fun k => x (ix3 b t k)) (fun k => g (ix1 k)) (fun k f => wg (ix2 k f)) (fun k f => wu (ix2 k f)) (fun f c => wd (ix2 f c)) c := by
  unfold fed through
  simp only [← hidden_apply]
  pointwise [val_main_v20, val_main_v19, val_main_v18, val_main_cst_2, val_main_v17]

theorem sigmoid_apply (c : Fin 1024) :
    val_main_v40 (F := Ideal) x g wg wu wd pn pg (ix3 b t c)
      = Ideal.logistic (through (normed (fun k => val_main_v20 (F := Ideal) x g wg wu wd (ix3 b t k)) (fun k => pn (ix1 k))) (fun k f => pg (ix2 k f)) c) := by
  unfold through
  simp only [← norm_apply, show val_main_v12 (F := Ideal) (val_main_v20 (F := Ideal) x g wg wu wd) pn = val_main_v33 (F := Ideal) x g wg wu wd pn from rfl]
  unfold Ideal.logistic
  pointwise [val_main_v40, val_main_v39, val_main_cst_7, val_main_v38, val_main_v37, val_main_cst_6, val_main_v36, val_main_v35, val_main_v34]

theorem embedded_apply (c : Fin 1024) :
    val_main_v45 (F := Ideal) x p g wg wu wd pn pg pu (ix3 b t c)
      = embedded (fun k => val_main_v20 (F := Ideal) x g wg wu wd (ix3 b t k)) (fun k => p (ix4 1 b t k)) (fun k => pn (ix1 k))
          (fun k f => pg (ix2 k f)) (fun k f => pu (ix2 k f)) c := by
  unfold embedded
  rw [← sigmoid_apply]
  unfold through
  pointwise [val_main_v45, val_main_v44, val_main_v43, val_main_v42, val_main_v41]

theorem finished_apply (c : Fin 1024) :
    val_main_v58 (F := Ideal) x p g wg wu wd pn pg pu fn (ix3 b t c)
      = finished (fun k => x (ix3 b t k)) (fun k => p (ix4 1 b t k)) (fun k => g (ix1 k)) (fun k f => wg (ix2 k f)) (fun k f => wu (ix2 k f))
          (fun f c => wd (ix2 f c)) (fun k => pn (ix1 k)) (fun k f => pg (ix2 k f)) (fun k f => pu (ix2 k f)) (fun k => fn (ix1 k)) c := by
  rw [show val_main_v58 (F := Ideal) x p g wg wu wd pn pg pu fn
    = val_main_v12 (F := Ideal) (val_main_v45 (F := Ideal) x p g wg wu wd pn pg pu) fn from rfl, norm_apply]
  simp only [embedded_apply, fed_apply]
  rfl

/-- The last layer's result. -/
theorem last_apply (R : Fin 32768) (hb : R.val = b.val * 16384 + t.val) (c : Fin 1024) :
    val_main_v59 (F := Ideal) x p g wg wu wd pn pg pu fn (ix2 R c)
      = finished (fun k => x (ix3 b t k)) (fun k => p (ix4 1 b t k)) (fun k => g (ix1 k)) (fun k f => wg (ix2 k f)) (fun k f => wu (ix2 k f))
          (fun f c => wd (ix2 f c)) (fun k => pn (ix1 k)) (fun k f => pg (ix2 k f)) (fun k f => pu (ix2 k f)) (fun k => fn (ix1 k)) c :=
  (tokens_apply _ _ R c b t hb).trans (finished_apply x p g pn fn wg wu wd pg pu b t c)

end

end Cert.FF.Sample
end
-- ==== Proof.FF.LastSample.lean ====
module

public import proofs.«01_k».proof.Defs
public import proofs.«01_k».proof.Proof.FF.Last
public import proofs.«01_k».proof.Proof.FF.RefSample
public import proofs.«01_k».proof.Proof.Gen.Kernel3Ideal.Value
public import proofs.«01_k».proof.Proof.Gen.Reference3Ideal.Run
public import Idealize.ShloMosaic.Lib.Claim
public import Idealize.ShloMosaic.Lib.Pipeline.ValueKit
public import Idealize.ShloMosaic.Lib.StableHlo.RunRead

/-! # The last feed-forward call, sample batch: its array is the reference's -/

@[expose] public section

set_option maxRecDepth 16384

namespace Cert.FF.Sample

open Idealize.ShloMosaic Idealize.SL.Sem Cert.Kernel3Ideal Cert.Kernel3Ideal.Gen

theorem row_index0 : ∀ t : Fin cfg0.N, win0_0.index t = ![t.val, 0] := (by decide +kernel : ∀ t : Fin grid0.N, win0_0.index t = ![t.val, 0])
theorem row_index5 : ∀ t : Fin cfg0.N, win0_5.index t = ![1, t.val, 0] := (by decide +kernel : ∀ t : Fin grid0.N, win0_5.index t = ![1, t.val, 0])
theorem row_index10 : ∀ t : Fin cfg0.N, win0_10.index t = ![t.val, 0] := (by decide +kernel : ∀ t : Fin grid0.N, win0_10.index t = ![t.val, 0])

theorem whole_index : ∀ t : Fin cfg0.N, win0_1.index t = ![0, 0] ∧ win0_2.index t = ![0, 0] ∧ win0_3.index t = ![0, 0] ∧ win0_4.index t = ![0, 0]
    ∧ win0_6.index t = ![0, 0] ∧ win0_7.index t = ![0, 0] ∧ win0_8.index t = ![0, 0] ∧ win0_9.index t = ![0, 0] :=
  (by decide +kernel : ∀ t : Fin grid0.N, win0_1.index t = ![0, 0] ∧ win0_2.index t = ![0, 0] ∧ win0_3.index t = ![0, 0] ∧ win0_4.index t = ![0, 0]
    ∧ win0_6.index t = ![0, 0] ∧ win0_7.index t = ![0, 0] ∧ win0_8.index t = ![0, 0] ∧ win0_9.index t = ![0, 0])

section
variable (m : (ℓ : Loc nD τ sig) → Buf (Elt Ideal) ℓ) (c : Dev nD) (t : Fin cfg0.N)

/-- The host code flattens the tokens, gives the vectors a leading axis and casts the matrices. -/
theorem V_x : V m c main_v0 = shapeCast S32768x1024 (m ((c.tc : Thread nD τ).loc main_arg0)) shapeCasts_S2x16384x1024_S32768x1024 := by
  unfold_abbrev_sides
  after_reads_simp
  rfl

theorem V_p : V m c main_v5 = shapeCast S2x32768x256 (m ((c.tc : Thread nD τ).loc main_arg1)) shapeCasts_S2x2x16384x256_S2x32768x256 := by
  unfold_abbrev_sides
  after_reads_simp
  rfl

theorem block0 (r : Fin 512) (k : Fin 1024) (R : Fin 32768) (hR : R.val = t.val * 512 + r.val) :
    iblk m c 0 t (ix2 r k)
      = m ((c.tc : Thread nD τ).loc main_arg0) (ix3 (n0 := 2) (n1 := 16384) (n2 := 1024) ⟨R.val / 16384, by omega⟩ ⟨R.val % 16384, by omega⟩ k) := by
  have e : iblk m c 0 t (ix2 r k) = shapeCast S32768x1024 (m ((c.tc : Thread nD τ).loc main_arg0)) shapeCasts_S2x16384x1024_S32768x1024 (ix2 R k) := by
    show V m c main_v0 (((cfg0.win 0).blk t).view.emb (ix2 r k)) = _
    rw [V_x]
    blk_ext [row_index0 t]
  rw [e]
  exact tokens_apply _ _ R k _ _ (by show R.val = R.val / 16384 * 16384 + R.val % 16384; omega)

theorem block5 (r : Fin 512) (k : Fin 256) (R : Fin 32768) (hR : R.val = t.val * 512 + r.val) :
    iblk m c 5 t (ix3 0 r k)
      = m ((c.tc : Thread nD τ).loc main_arg1) (ix4 (n0 := 2) (n1 := 2) (n2 := 16384) (n3 := 256) 1 ⟨R.val / 16384, by omega⟩ ⟨R.val % 16384, by omega⟩ k) := by
  have e : iblk m c 5 t (ix3 0 r k)
      = shapeCast S2x32768x256 (m ((c.tc : Thread nD τ).loc main_arg1)) shapeCasts_S2x2x16384x256_S2x32768x256 (ix3 1 R k) := by
    show V m c main_v5 (((cfg0.win 5).blk t).view.emb (ix3 0 r k)) = _
    rw [V_p]
    blk_ext [row_index5 t]
  rw [e]
  exact layer_tokens_apply _ _ 1 R k _ _ rfl (by show R.val = R.val / 16384 * 16384 + R.val % 16384; omega)

theorem block1 (k : Fin 1024) : iblk m c 1 t (ix2 0 k) = m ((c.tc : Thread nD τ).loc main_arg2) (ix1 (n0 := 1024) k) := by
  have e : V m c main_v1 = shapeCast S1x1024 (m ((c.tc : Thread nD τ).loc main_arg2)) shapeCasts_S1024_S1x1024 := by
    unfold_abbrev_sides
    after_reads_simp
    rfl
  have e' : iblk m c 1 t (ix2 0 k) = shapeCast S1x1024 (m ((c.tc : Thread nD τ).loc main_arg2)) shapeCasts_S1024_S1x1024 (ix2 0 k) := by
    show V m c main_v1 (((cfg0.win 1).blk t).view.emb (ix2 0 k)) = _
    rw [e]
    blk_ext [(whole_index t).1]
  rw [e']
  pointwise

theorem block2 (k : Fin 1024) (f : Fin 2816) :
    iblk m c 2 t (ix2 k f) = m ((c.tc : Thread nD τ).loc main_arg3) (ix2 (n0 := 1024) (n1 := 2816) k f) := by
  have e : V m c main_v2 = m ((c.tc : Thread nD τ).loc main_arg3) := by
    unfold_abbrev_sides
    after_reads_simp
    rfl
  show V m c main_v2 (((cfg0.win 2).blk t).view.emb (ix2 k f)) = _
  rw [e]
  blk_ext [(whole_index t).2.1]

theorem block3 (k : Fin 1024) (f : Fin 2816) :
    iblk m c 3 t (ix2 k f) = m ((c.tc : Thread nD τ).loc main_arg4) (ix2 (n0 := 1024) (n1 := 2816) k f) := by
  have e : V m c main_v3 = m ((c.tc : Thread nD τ).loc main_arg4) := by
    unfold_abbrev_sides
    after_reads_simp
    rfl
  show V m c main_v3 (((cfg0.win 3).blk t).view.emb (ix2 k f)) = _
  rw [e]
  blk_ext [(whole_index t).2.2.1]

theorem block4 (k : Fin 2816) (f : Fin 1024) :
    iblk m c 4 t (ix2 k f) = m ((c.tc : Thread nD τ).loc main_arg5) (ix2 (n0 := 2816) (n1 := 1024) k f) := by
  have e : V m c main_v4 = m ((c.tc : Thread nD τ).loc main_arg5) := by
    unfold_abbrev_sides
    after_reads_simp
    rfl
  show V m c main_v4 (((cfg0.win 4).blk t).view.emb (ix2 k f)) = _
  rw [e]
  blk_ext [(whole_index t).2.2.2.1]

theorem block6 (k : Fin 1024) : iblk m c 6 t (ix2 0 k) = m ((c.tc : Thread nD τ).loc main_arg6) (ix1 (n0 := 1024) k) := by
  have e : V m c main_v6 = shapeCast S1x1024 (m ((c.tc : Thread nD τ).loc main_arg6)) shapeCasts_S1024_S1x1024 := by
    unfold_abbrev_sides
    after_reads_simp
    rfl
  have e' : iblk m c 6 t (ix2 0 k) = shapeCast S1x1024 (m ((c.tc : Thread nD τ).loc main_arg6)) shapeCasts_S1024_S1x1024 (ix2 0 k) := by
    show V m c main_v6 (((cfg0.win 6).blk t).view.emb (ix2 0 k)) = _
    rw [e]
    blk_ext [(whole_index t).2.2.2.2.1]
  rw [e']
  pointwise

theorem block7 (k : Fin 1024) (f : Fin 1024) :
    iblk m c 7 t (ix2 k f) = m ((c.tc : Thread nD τ).loc main_arg7) (ix2 (n0 := 1024) (n1 := 1024) k f) := by
  have e : V m c main_v7 = m ((c.tc : Thread nD τ).loc main_arg7) := by
    unfold_abbrev_sides
    after_reads_simp
    rfl
  show V m c main_v7 (((cfg0.win 7).blk t).view.emb (ix2 k f)) = _
  rw [e]
  blk_ext [(whole_index t).2.2.2.2.2.1]

theorem block8 (k : Fin 256) (f : Fin 1024) :
    iblk m c 8 t (ix2 k f) = m ((c.tc : Thread nD τ).loc main_arg8) (ix2 (n0 := 256) (n1 := 1024) k f) := by
  have e : V m c main_v8 = m ((c.tc : Thread nD τ).loc main_arg8) := by
    unfold_abbrev_sides
    after_reads_simp
    rfl
  show V m c main_v8 (((cfg0.win 8).blk t).view.emb (ix2 k f)) = _
  rw [e]
  blk_ext [(whole_index t).2.2.2.2.2.2.1]

theorem block9 (k : Fin 1024) : iblk m c 9 t (ix2 0 k) = m ((c.tc : Thread nD τ).loc main_arg9) (ix1 (n0 := 1024) k) := by
  have e : V m c main_v9 = shapeCast S1x1024 (m ((c.tc : Thread nD τ).loc main_arg9)) shapeCasts_S1024_S1x1024 := by
    unfold_abbrev_sides
    after_reads_simp
    rfl
  have e' : iblk m c 9 t (ix2 0 k) = shapeCast S1x1024 (m ((c.tc : Thread nD τ).loc main_arg9)) shapeCasts_S1024_S1x1024 (ix2 0 k) := by
    show V m c main_v9 (((cfg0.win 9).blk t).view.emb (ix2 0 k)) = _
    rw [e]
    blk_ext [(whole_index t).2.2.2.2.2.2.2]
  rw [e']
  pointwise

end

/-- The result at row `R` and column `d`: the token of that row, through the layer's end. -/
noncomputable def lastArray (x : (⟨3, ![2, 16384, 1024]⟩ : Shape).Idx → EReal) (p : (⟨4, ![2, 2, 16384, 256]⟩ : Shape).Idx → EReal)
    (g : (⟨1, ![1024]⟩ : Shape).Idx → EReal) (wg wu : (⟨2, ![1024, 2816]⟩ : Shape).Idx → EReal) (wd : (⟨2, ![2816, 1024]⟩ : Shape).Idx → EReal)
    (pn : (⟨1, ![1024]⟩ : Shape).Idx → EReal) (pg : (⟨2, ![1024, 1024]⟩ : Shape).Idx → EReal) (pu : (⟨2, ![256, 1024]⟩ : Shape).Idx → EReal)
    (fn : (⟨1, ![1024]⟩ : Shape).Idx → EReal) (R : Fin 32768) (d : Fin 1024) : EReal :=
  finished (fun k => x (ix3 ⟨R.val / 16384, by omega⟩ ⟨R.val % 16384, by omega⟩ k)) (fun k => p (ix4 1 ⟨R.val / 16384, by omega⟩ ⟨R.val % 16384, by omega⟩ k))
    (fun k => g (ix1 k)) (fun k f => wg (ix2 k f)) (fun k f => wu (ix2 k f)) (fun f k => wd (ix2 f k)) (fun k => pn (ix1 k)) (fun k f => pg (ix2 k f))
    (fun k f => pu (ix2 k f)) (fun k => fn (ix1 k)) d

/-- The kernel's result. -/
theorem array_eq (m : (ℓ : Loc nD τ sig) → Buf (Elt Ideal) ℓ) (c : Dev nD) :
    (dats m 0 c).arrAt 10 cfg0.N = fun y : S32768x1024.Idx =>
      lastArray (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (y 0) (y 1) := by
  refine (dats m 0 c).arrAt_eq_of_covers 10 _ (by decide +kernel) fun t hf y => ?_
  blk_simp
  rw [after0_10]
  refine (Last.lastBlock_apply _ _ _ _ _ _ _ _ _ _ y).trans ?_
  have y0 : (y 0).val < 512 := (y 0).isLt
  have y1 : (y 1).val < 1024 := (y 1).isLt
  have e0 : ((((cfg0.win 10).blk t).view.emb y) 0 : ℕ) = t.val * 512 + (y 0).val := by
    blk_simp [row_index10 t]
  have e1 : (((cfg0.win 10).blk t).view.emb y) 1 = (y 1 : Fin 1024) := by
    refine Fin.ext ?_
    blk_simp [row_index10 t]
  unfold Last.lastBlock lastArray
  simp only [block0 m c t (y 0) _ ((((cfg0.win 10).blk t).view.emb y) 0) e0, block5 m c t (y 0) _ ((((cfg0.win 10).blk t).view.emb y) 0) e0,
    block1, block2, block3, block4, block6, block7, block8, block9]
  rw [e1]

theorem results_eq (x : FVec Ideal S2x16384x1024 .f32) (p : FVec Ideal S2x2x16384x256 .f32) (g pn fn : FVec Ideal S1024 .f32) (wg wu : FVec Ideal S1024x2816 .f32)
    (wd : FVec Ideal S2816x1024 .f32) (pg : FVec Ideal S1024x1024 .f32) (pu : FVec Ideal S256x1024 .f32) :
    Cert.Reference3Ideal.Read.val_main_v59 (F := Ideal) x p g wg wu wd pn pg pu fn
      = fun y : S32768x1024.Idx => lastArray x p g wg wu wd pn pg pu fn (y 0) (y 1) := by
  funext y
  have h : (y 0).val < 32768 := (y 0).isLt
  refine (congrArg _ (eta2 (n0 := 32768) (n1 := 1024) y)).trans
    (last_apply x p g pn fn wg wu wd pg pu ⟨(y 0).val / 16384, by omega⟩ ⟨(y 0).val % 16384, by omega⟩ (y 0) ?_ (y 1))
  show (y 0).val = (y 0).val / 16384 * 16384 + (y 0).val % 16384
  omega

theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => (dats m 0 c).arrAt 10 cfg0.N, Cert.Kernel3Ideal.Value.run_blocks m g, ?_⟩
  refine (θ_run _ _ _).mono (fun r h c => ?_) (Cert.Reference3Ideal.Value.run m' g')
  refine ⟨(h c).1.trans ?_, (h c).2⟩
  rw [Cert.Reference3Ideal.Read.val_main_v59_eq]
  refine Eq.trans ?_ (array_eq m c).symm
  obtain ⟨e0, e1, e2, e3, e4, e5, e6, e7, e8, e9⟩ := hagree c
  refine Eq.trans ?_ (results_eq _ _ _ _ _ _ _ _ _ _)
  rw [e0, e1, e2, e3, e4, e5, e6, e7, e8, e9]

theorem reference_quiescent : Cert.quiescent_Reference3Ideal (hReference3Ideal := Cert.Reference3Ideal.Gen.facts) := by
  intro m g _
  exact (θ_run Cert.Reference3Ideal.defs _ _).mono
    (fun r h => ⟨fun c => (h c).2, sem_eq_zero_of_no_sems (by decide) r.2⟩) (Cert.Reference3Ideal.Value.run m g)

end Cert.FF.Sample
end
-- ==== Proof.IP.Spec.lean ====
module

public import proofs.«01_k».proof.Proof.FF.Spec

/-! # The input projection, one token at a time

The queries, keys and values of a token, the queries scaled by 1/8, and the recurrence's columns mixed with those of the
two neighbouring tokens. -/

@[expose] public section

namespace Cert.IP

open Idealize.ShloMosaic Cert.FF

/-- Entry `d` of the projected queries, keys and values: the first 512 are queries and are scaled. -/
noncomputable def scaled (x g : Fin 1024 → EReal) (w : Fin 1024 → Fin 1536 → EReal) (d : Fin 1536) : EReal :=
  if d.val < 512 then through (normed x g) w d * Ideal.ofBits .f32 0x3E000000#32 else through (normed x g) w d

/-- A value `u` moved towards the mean of its neighbours `p` and `n` by the factor `mu`. -/
noncomputable def moved (mu u p n : EReal) : EReal := u + mu * (Ideal.ofBits .f32 0x3F000000#32 * (p + n) - u)

end Cert.IP
end
-- ==== Proof.IP.Half.lean ====
module

public import proofs.«01_k».proof.Proof.IP.Spec
public import proofs.«01_k».proof.Proof.Gen.Kernel5Ideal.Value
public import Idealize.ShloMosaic.Lib.Pointwise
public import Idealize.ShloMosaic.Lib.Pipeline.ReadBack
public import Idealize.ShloMosaic.Lib.KernelVsHost

/-! # The input projection: half a block

A half holds 256 tokens. Eight tokens before it and eight after it are projected with it, so that a rotation brings each
token the projections of its neighbours. -/

@[expose] public section

set_option maxRecDepth 16384

namespace Cert.IP

open Idealize.ShloMosaic Cert.FF Cert.Kernel5Ideal Cert.Kernel5Ideal.Gen

section
variable (v : Vec Ideal S256x1024 .f32) (v8 : Vec Ideal S8x1024 .f32) (g : Vec Ideal S1x1024 .f32) (r : Fin 256) (s : Fin 8) (c : Fin 1024)

theorem norm5 : k0_pay5 (F := Ideal) g v (ix2 r c) = normed (fun k => v (ix2 r k)) (fun k => g (ix2 0 k)) c := by
  pointwise [k0_pay5, normed]
theorem norm6 : k0_pay6 g v (ix2 r c) = normed (fun k => v (ix2 r k)) (fun k => g (ix2 0 k)) c := by
  pointwise [k0_pay6, normed]
theorem norm7 : k0_pay7 g v8 (ix2 s c) = normed (fun k => v8 (ix2 s k)) (fun k => g (ix2 0 k)) c := by
  pointwise [k0_pay7, normed]
theorem norm9 : k0_pay9 (F := Ideal) g v8 (ix2 s c) = normed (fun k => v8 (ix2 s k)) (fun k => g (ix2 0 k)) c := by
  pointwise [k0_pay9, normed]
theorem norm10 : k0_pay10 g v8 (ix2 s c) = normed (fun k => v8 (ix2 s k)) (fun k => g (ix2 0 k)) c := by
  pointwise [k0_pay10, normed]
theorem norm11 : k0_pay11 g v8 (ix2 s c) = normed (fun k => v8 (ix2 s k)) (fun k => g (ix2 0 k)) c := by
  pointwise [k0_pay11, normed]

end

section
variable (x : FVec Ideal S256x1024 .bf16) (w : Vec Ideal S1024x1536 .bf16) (r : Fin 256) (d : Fin 1536)

theorem scale_apply : (k0_pay3 (F := Ideal)) (ix2 0 d) = if d.val < 512 then Ideal.ofBits .f32 0x3E000000#32 else 1 := by
  have e : (k0_pay3 (F := Ideal)) (ix2 0 d)
      = Scalar.select (IntOp.cmpi CmpIPredicate.slt (BitVec.ofNat 32 d.val) 512#32) (Ideal.ofBits .f32 0x3E000000#32) 1 := by
    pointwise [k0_pay3]
  have h : ∀ d : Fin 1536, IntOp.cmpi CmpIPredicate.slt (BitVec.ofNat 32 d.val) 512#32 = BitVec.ofBool (decide (d.val < 512)) := by
    decide +kernel
  rw [e, h]
  pointwise

theorem qkv_low : k0_pay13 k0_pay3 x w (ix2 r d) = (∑ k : Fin 1024, x (ix2 r k) * w (ix2 k d)) * (k0_pay3 (F := Ideal)) (ix2 0 d) := by
  pointwise [k0_pay13]

theorem qkv_high : k0_pay15 k0_pay3 x w (ix2 r d) = (∑ k : Fin 1024, x (ix2 r k) * w (ix2 k d)) * (k0_pay3 (F := Ideal)) (ix2 0 d) := by
  pointwise [k0_pay15]

end

/-- A half with the eight tokens before it and the eight after it. -/
noncomputable def joined (a z : FVec Ideal S8x1024 .bf16) (x : FVec Ideal S256x1024 .bf16) : FVec Ideal S272x1024 .bf16 :=
  concatenate S272x1024 0 [⟨S8x1024, a⟩, ⟨S256x1024, x⟩, ⟨S8x1024, z⟩] concatenates_S8x1024_S256x1024_S8x1024_S272x1024_d0

/-- Its projection. -/
noncomputable def projected (e : FVec Ideal S272x1024 .bf16) (w : Vec Ideal S1024x1920 .bf16) : FVec Ideal S272x1920 .f32 :=
  matmul dot_S272x1024_S1024x1920_S272x1920_1_0_0_1_n_n none e (φ₂ := .bf16) (shapeCast S1024x1920 w shapeCasts_S1024x1920_S1024x1920) (constant S272x1920 .f32 0x00000000#32)

/-- The projection with the eight first rows or the eight last ones replaced by zero where a sequence begins or ends. -/
noncomputable def masked (b0 b1 : BitVec 1) (u : FVec Ideal S272x1920 .f32) : FVec Ideal S272x1920 .f32 :=
  concatenate S272x1920 0
    [⟨S8x1920, Scalar.select b0 (extractStridedSlice S8x1920 ![0, 0] u slices_S272x1920_o0_0_S8x1920) (broadcast S8x1920 (Scalar.ofBits .f32 0x00000000#32))⟩,
     ⟨S256x1920, extractStridedSlice S256x1920 ![8, 0] u slices_S272x1920_o8_0_S256x1920⟩,
     ⟨S8x1920, Scalar.select b1 (extractStridedSlice S8x1920 ![264, 0] u slices_S272x1920_o264_0_S8x1920) (broadcast S8x1920 (Scalar.ofBits .f32 0x00000000#32))⟩]
    concatenates_S8x1920_S256x1920_S8x1920_S272x1920_d0

/-- Every row of the half moved towards the mean of its neighbours, which two rotations bring. -/
noncomputable def shifted (u : FVec Ideal S272x1920 .f32) (mu : Vec Ideal S1x1920 .f32) : FVec Ideal S256x1920 .f32 :=
  addf (extractStridedSlice S256x1920 ![8, 0] u slices_S272x1920_o8_0_S256x1920)
    (mulf (broadcastTo S256x1920 (shapeCast S1x1920 mu shapeCasts_S1x1920_S1x1920) broadcasts_S1x1920_S256x1920)
      (subf (mulf (broadcast S256x1920 (Scalar.ofBits .f32 0x3F000000#32))
          (extractStridedSlice S256x1920 ![8, 0] (addf (dynamicRotate 0 1#32 none u rotates_S272x1920_d0) (dynamicRotate 0 271#32 none u rotates_S272x1920_d0))
            slices_S272x1920_o8_0_S256x1920))
        (extractStridedSlice S256x1920 ![8, 0] u slices_S272x1920_o8_0_S256x1920)))

section
variable (b0 b1 : BitVec 1) (a z : FVec Ideal S8x1024 .bf16) (x : FVec Ideal S256x1024 .bf16) (w : Vec Ideal S1024x1920 .bf16) (mu : Vec Ideal S1x1920 .f32)
  (u : FVec Ideal S272x1920 .f32) (r : Fin 256) (k : Fin 1024) (c : Fin 1920)

theorem low_eq : k0_pay14 b0 x a z w mu = shifted (masked b0 1#1 (projected (joined a z x) w)) mu := rfl
theorem high_eq : k0_pay1 b1 x a z w mu = shifted (masked 1#1 b1 (projected (joined a z x) w)) mu := rfl

theorem joined_before : joined a z x (ix2 7 k) = a (ix2 7 k) := by
  pointwise [joined]
theorem joined_after : joined a z x (ix2 264 k) = z (ix2 0 k) := by
  pointwise [joined]
theorem joined_mid (j : Fin 272) (hj : j.val = 8 + r.val) : joined a z x (ix2 j k) = x (ix2 r k) := by
  have e : joined a z x (ix2 j k) = if h : j.val < 8 then a (ix2 ⟨j.val, h⟩ k)
      else if h : j.val - 8 < 256 then x (ix2 ⟨j.val - 8, h⟩ k) else z (ix2 ⟨j.val - 8 - 256, by omega⟩ k) := by
    pointwise [joined]
  rw [e, dif_neg (by omega), dif_pos (by omega)]
  exact congrArg (fun q => x (ix2 q k)) (Fin.ext (by show j.val - 8 = r.val; omega))

theorem projected_apply (e : FVec Ideal S272x1024 .bf16) (j : Fin 272) : projected e w (ix2 j c) = ∑ k : Fin 1024, e (ix2 j k) * w (ix2 k c) := by
  pointwise [projected]

theorem masked_before : masked b0 b1 u (ix2 7 c) = Scalar.select b0 (u (ix2 7 c)) 0 := by
  pointwise [masked]
theorem masked_after : masked b0 b1 u (ix2 264 c) = Scalar.select b1 (u (ix2 264 c)) 0 := by
  pointwise [masked]
theorem masked_mid (j : Fin 272) (hj : j.val = 8 + r.val) : masked b0 b1 u (ix2 j c) = u (ix2 j c) := by
  have e : masked b0 b1 u (ix2 j c) = if h : j.val < 8 then Scalar.select b0 (u (ix2 j c)) 0
      else if h : j.val - 8 < 256 then u (ix2 ⟨8 + (j.val - 8), by omega⟩ c)
      else Scalar.select b1 (u (ix2 ⟨264 + (j.val - 8 - 256), by omega⟩ c)) 0 := by
    pointwise [masked]
  rw [e, dif_neg (by omega), dif_pos (by omega)]
  exact congrArg (fun q => u (ix2 q c)) (Fin.ext (by show 8 + (j.val - 8) = j.val; omega))

theorem rotate_one (j j' : Fin 272) (h : j.val = j'.val + 1) : dynamicRotate 0 1#32 none u rotates_S272x1920_d0 (ix2 j c) = u (ix2 j' c) := by
  refine dynamicRotate_apply (s := S272x1920) (0 : Fin 2) 1#32 _ _ _ _ ?_
  intro b
  match b with
  | ⟨0, _⟩ => simp; show j'.val = (j.val + 272 - 1 % 272) % 272; omega
  | ⟨1, _⟩ => rfl

theorem rotate_back (j j' : Fin 272) (h : j'.val = j.val + 1) : dynamicRotate 0 271#32 none u rotates_S272x1920_d0 (ix2 j c) = u (ix2 j' c) := by
  refine dynamicRotate_apply (s := S272x1920) (0 : Fin 2) 271#32 _ _ _ _ ?_
  intro b
  match b with
  | ⟨0, _⟩ => simp; show j'.val = (j.val + 272 - 271 % 272) % 272; omega
  | ⟨1, _⟩ => rfl

theorem shifted_apply : shifted u mu (ix2 r c)
    = moved (mu (ix2 0 c)) (u (ix2 ⟨8 + r.val, by omega⟩ c)) (u (ix2 ⟨7 + r.val, by omega⟩ c)) (u (ix2 ⟨9 + r.val, by omega⟩ c)) := by
  rw [← rotate_one u c ⟨8 + r.val, by omega⟩ ⟨7 + r.val, by omega⟩ (by show 8 + r.val = 7 + r.val + 1; omega),
    ← rotate_back u c ⟨8 + r.val, by omega⟩ ⟨9 + r.val, by omega⟩ (by show 9 + r.val = 8 + r.val + 1; omega)]
  unfold moved shifted
  generalize dynamicRotate 0 1#32 none u rotates_S272x1920_d0 = u1
  generalize dynamicRotate 0 271#32 none u rotates_S272x1920_d0 = u2
  pointwise

/-- A row of the half: its projection moved towards the mean of `P` and `N`, where `P` is the projection of the row before
    (of the last of the eight tokens before, or zero, for the first row) and `N` that of the row after. -/
theorem half_apply (P N : EReal)
    (hP : r.val = 0 → P = Scalar.select b0 (∑ k : Fin 1024, a (ix2 7 k) * w (ix2 k c)) 0)
    (hP' : ∀ q : Fin 256, r.val = q.val + 1 → P = ∑ k : Fin 1024, x (ix2 q k) * w (ix2 k c))
    (hN : r.val = 255 → N = Scalar.select b1 (∑ k : Fin 1024, z (ix2 0 k) * w (ix2 k c)) 0)
    (hN' : ∀ q : Fin 256, q.val = r.val + 1 → N = ∑ k : Fin 1024, x (ix2 q k) * w (ix2 k c)) :
    shifted (masked b0 b1 (projected (joined a z x) w)) mu (ix2 r c)
      = moved (mu (ix2 0 c)) (∑ k : Fin 1024, x (ix2 r k) * w (ix2 k c)) P N := by
  have mid : ∀ (q : Fin 256) (j : Fin 272), j.val = 8 + q.val → masked b0 b1 (projected (joined a z x) w) (ix2 j c)
      = ∑ k : Fin 1024, x (ix2 q k) * w (ix2 k c) := fun q j hj => by
    rw [masked_mid b0 b1 _ q c j hj, projected_apply]
    exact Finset.sum_congr rfl fun k _ => by rw [joined_mid a z x q k j hj]
  rw [shifted_apply, mid r _ rfl]
  congr 1
  · by_cases h : r.val = 0
    · have e : (⟨7 + r.val, by omega⟩ : Fin 272) = 7 := Fin.ext (by show 7 + r.val = 7; omega)
      rw [e, masked_before, projected_apply, hP h]
      simp only [joined_before]
    · rw [mid ⟨r.val - 1, by omega⟩ _ (by show 7 + r.val = 8 + (r.val - 1); omega), hP' ⟨r.val - 1, by omega⟩ (by show r.val = r.val - 1 + 1; omega)]
  · by_cases h : r.val = 255
    · have e : (⟨9 + r.val, by omega⟩ : Fin 272) = 264 := Fin.ext (by show 9 + r.val = 264; omega)
      rw [e, masked_after, projected_apply, hN h]
      simp only [joined_after]
    · rw [mid ⟨r.val + 1, by omega⟩ _ (by show 9 + r.val = 8 + (r.val + 1); omega), hN' ⟨r.val + 1, by omega⟩ rfl]

end

end Cert.IP
end
-- ==== Proof.IP.Block.lean ====
module

public import proofs.«01_k».proof.Proof.IP.Half

/-! # The input projection: what a grid point writes -/

@[expose] public section

set_option maxRecDepth 16384

namespace Cert.IP

open Idealize.ShloMosaic Cert.FF Cert.Kernel5Ideal Cert.Kernel5Ideal.Gen

theorem eta2 {n0 n1 : Nat} (x : (⟨2, ![n0, n1]⟩ : Shape).Idx) : x = ix2 (n0 := n0) (n1 := n1) (x 0) (x 1) := by
  funext a
  match a with
  | ⟨0, _⟩ => rfl
  | ⟨1, _⟩ => rfl

section
variable (i : grid0.Coords) (x0 : Vec Ideal S512x1024 .f32) (x1 x2 : Vec Ideal S8x1024 .f32) (x3 : Vec Ideal S1x1024 .f32)
  (x4 : Vec Ideal S1024x1536 .bf16) (x5 : Vec Ideal S1024x1920 .bf16) (x6 : Vec Ideal S1x1920 .f32)

/-- The queries, keys and values that a grid point leaves at an index of its block. -/
noncomputable def qkvBlock (y : S512x1536.Idx) : EReal :=
  scaled (fun k => x0 (ix2 (n0 := 512) (n1 := 1024) (y 0) k)) (fun k => x3 (ix2 0 k)) (fun k d => x4 (ix2 k d)) (y 1)

/-- Column `c` of the projection of a token. -/
noncomputable def column (v : Fin 1024 → EReal) (c : Fin 1920) : EReal :=
  through (normed v (fun k => x3 (ix2 0 k))) (fun k d => x5 (ix2 k d)) c

/-- The row before row `r` of the block: at the block's start it is the last of the eight rows before the block, or zero
    where a sequence starts. -/
noncomputable def rowBefore (r : Fin 512) (c : Fin 1920) : EReal :=
  if r.val = 0 then (if (i 0).val % 8 = 0 then 0 else column x3 x5 (fun k => x1 (ix2 7 k)) c)
  else column x3 x5 (fun k => x0 (ix2 ⟨r.val - 1, by omega⟩ k)) c

/-- The row after row `r` of the block. -/
noncomputable def rowAfter (r : Fin 512) (c : Fin 1920) : EReal :=
  if h : r.val = 511 then (if ((i 0).val + 1) % 8 = 0 then 0 else column x3 x5 (fun k => x2 (ix2 0 k)) c)
  else column x3 x5 (fun k => x0 (ix2 ⟨r.val + 1, by omega⟩ k)) c

/-- The recurrence's columns that a grid point leaves at an index of its block. -/
noncomputable def movedBlock (y : S512x1920.Idx) : EReal :=
  moved (x6 (ix2 0 (y 1 : Fin 1920))) (column x3 x5 (fun k => x0 (ix2 (n0 := 512) (n1 := 1024) (y 0) k)) (y 1))
    (rowBefore i x0 x1 x3 x5 (y 0) (y 1)) (rowAfter i x0 x2 x3 x5 (y 0) (y 1))

/-! ## The loads -/

theorem load_low (r : Fin 256) (k : Fin 1024) : View.ld x0 r0_1 (ix2 r k) = x0 (ix2 ⟨r.val, by omega⟩ k) :=
  congrArg x0 (funext fun a => Fin.ext (match a with
    | ⟨0, _⟩ => (show 0 + 1 * r.val = r.val by omega)
    | ⟨1, _⟩ => (show 0 + 1 * k.val = k.val by omega)))

theorem load_high (r : Fin 256) (k : Fin 1024) : View.ld x0 r0_2 (ix2 r k) = x0 (ix2 ⟨256 + r.val, by omega⟩ k) :=
  congrArg x0 (funext fun a => Fin.ext (match a with
    | ⟨0, _⟩ => (show 256 + 1 * r.val = 256 + r.val by omega)
    | ⟨1, _⟩ => (show 0 + 1 * k.val = k.val by omega)))

theorem load_middle_before (s : Fin 8) (k : Fin 1024) : View.ld x0 r0_4 (ix2 s k) = x0 (ix2 ⟨248 + s.val, by omega⟩ k) :=
  congrArg x0 (funext fun a => Fin.ext (match a with
    | ⟨0, _⟩ => (show 248 + 1 * s.val = 248 + s.val by omega)
    | ⟨1, _⟩ => (show 0 + 1 * k.val = k.val by omega)))

theorem load_middle_after (s : Fin 8) (k : Fin 1024) : View.ld x0 r0_5 (ix2 s k) = x0 (ix2 ⟨256 + s.val, by omega⟩ k) :=
  congrArg x0 (funext fun a => Fin.ext (match a with
    | ⟨0, _⟩ => (show 256 + 1 * s.val = 256 + s.val by omega)
    | ⟨1, _⟩ => (show 0 + 1 * k.val = k.val by omega)))

theorem pay2_eq (g : Vec Ideal S1x1024 .f32) : k0_pay2 g = g := shapeCast_self _ _
theorem pay4_eq (v : Vec Ideal S256x1024 .f32) : k0_pay4 v = v := shapeCast_self _ _
theorem pay8_eq (v : Vec Ideal S8x1024 .f32) : k0_pay8 v = v := shapeCast_self _ _
theorem pay12_eq (w : Vec Ideal S1024x1536 .bf16) : k0_pay12 w = w := shapeCast_self _ _

/-! ## Queries, keys and values -/

theorem qkv_low_apply (v : Vec Ideal S256x1024 .f32) (hv : ∀ (r : Fin 256) (k : Fin 1024), v (ix2 r k) = x0 (ix2 ⟨r.val, by omega⟩ k)) (r : Fin 256) (d : Fin 1536) :
    k0_pay13 (F := Ideal) k0_pay3 (k0_pay5 (F := Ideal) x3 v) x4 (ix2 r d) = qkvBlock x0 x3 x4 (ix2 ⟨r.val, by omega⟩ d) := by
  refine (qkv_low _ _ r d).trans ?_
  rw [scale_apply]
  simp only [norm5, hv]
  refine (mul_ite _ _ _ _).trans ?_
  rw [mul_one]
  rfl

theorem qkv_high_apply (v : Vec Ideal S256x1024 .f32) (hv : ∀ (r : Fin 256) (k : Fin 1024), v (ix2 r k) = x0 (ix2 ⟨256 + r.val, by omega⟩ k)) (r : Fin 256) (d : Fin 1536) :
    k0_pay15 (F := Ideal) k0_pay3 (k0_pay6 (F := Ideal) x3 v) x4 (ix2 r d) = qkvBlock x0 x3 x4 (ix2 ⟨256 + r.val, by omega⟩ d) := by
  refine (qkv_high _ _ r d).trans ?_
  rw [scale_apply]
  simp only [norm6, hv]
  refine (mul_ite _ _ _ _).trans ?_
  rw [mul_one]
  rfl

theorem qkvBlock_apply (y : S512x1536.Idx) : out0_7 i x0 x1 x2 x3 x4 x5 x6 y = qkvBlock x0 x3 x4 y := by
  have l3 : View.ld x3 r0_0 = x3 := View.ld_unit_zero (by decide) _ x3
  have l4 : View.ld x4 r0_6 = x4 := View.ld_unit_zero (by decide) _ x4
  unfold_out out0_7
  rw [l3, l4, pay2_eq, pay4_eq, pay12_eq]
  refine View.canon_apply_of_pieces (Val := Elt Ideal) (qkvBlock x0 x3 x4) _ (fun p hp => ?_) y (cover0_7 _ _ y)
  refine View.PiecesOf.mem (L := [_, _]) ?_ p hp
  refine ⟨fun x => ?_, fun x => ?_, trivial⟩
  · refine ((congrArg _ (eta2 (n0 := 256) (n1 := 1536) x)).trans (qkv_high_apply x0 x3 x4 _ (load_high x0) (x 0) (x 1))).trans
      (congrArg (qkvBlock x0 x3 x4) (funext fun a => Fin.ext ?_))
    match a with
    | ⟨0, _⟩ => show 256 + (x 0).val = 256 + 1 * (x 0).val; omega
    | ⟨1, _⟩ => show (x 1).val = 0 + 1 * (x 1).val; omega
  · refine ((congrArg _ (eta2 (n0 := 256) (n1 := 1536) x)).trans (qkv_low_apply x0 x3 x4 _ (load_low x0) (x 0) (x 1))).trans
      (congrArg (qkvBlock x0 x3 x4) (funext fun a => Fin.ext ?_))
    match a with
    | ⟨0, _⟩ => show (x 0).val = 0 + 1 * (x 0).val; omega
    | ⟨1, _⟩ => show (x 1).val = 0 + 1 * (x 1).val; omega

/-! ## The recurrence's columns -/

theorem moved_low_apply (b : BitVec 1) (hb : b = if (i 0).val % 8 = 0 then 0#1 else 1#1) (v : Vec Ideal S256x1024 .f32) (v' : Vec Ideal S8x1024 .f32)
    (hv : ∀ (r : Fin 256) (k : Fin 1024), v (ix2 r k) = x0 (ix2 ⟨r.val, by omega⟩ k))
    (hv' : ∀ (s : Fin 8) (k : Fin 1024), v' (ix2 s k) = x0 (ix2 ⟨256 + s.val, by omega⟩ k)) (r : Fin 256) (c : Fin 1920) :
    k0_pay14 (F := Ideal) b (k0_pay5 (F := Ideal) x3 v) (k0_pay7 (F := Ideal) x3 x1) (k0_pay10 (F := Ideal) x3 v') x5 x6 (ix2 r c) = movedBlock i x0 x1 x2 x3 x5 x6 (ix2 ⟨r.val, by omega⟩ c) := by
  rw [low_eq]
  refine (half_apply b 1#1 _ _ _ x5 x6 r c (rowBefore i x0 x1 x3 x5 ⟨r.val, by omega⟩ c) (rowAfter i x0 x2 x3 x5 ⟨r.val, by omega⟩ c) ?_ ?_ ?_ ?_).trans ?_
  · intro h
    unfold rowBefore
    rw [if_pos h, hb]
    simp only [norm7]
    by_cases e : (i 0).val % 8 = 0
    · rw [if_pos e, if_pos e]; rfl
    · rw [if_neg e, if_neg e]; rfl
  · intro q h
    unfold rowBefore
    rw [if_neg (by show ¬ r.val = 0; omega)]
    simp only [norm5, hv]
    have e : (⟨r.val - 1, by omega⟩ : Fin 512) = ⟨q.val, by omega⟩ := Fin.ext (by show r.val - 1 = q.val; omega)
    show column x3 x5 (fun k => x0 (ix2 ⟨r.val - 1, _⟩ k)) c = _
    rw [e]; rfl
  · intro h
    unfold rowAfter
    rw [dif_neg (by show ¬ r.val = 511; omega)]
    simp only [norm10, hv']
    have e : (⟨r.val + 1, by omega⟩ : Fin 512) = ⟨256 + (0 : Fin 8).val, by decide⟩ := Fin.ext (by show r.val + 1 = 256 + 0; omega)
    show column x3 x5 (fun k => x0 (ix2 ⟨r.val + 1, _⟩ k)) c = _
    rw [e]; rfl
  · intro q h
    unfold rowAfter
    rw [dif_neg (by show ¬ r.val = 511; omega)]
    simp only [norm5, hv]
    have e : (⟨r.val + 1, by omega⟩ : Fin 512) = ⟨q.val, by omega⟩ := Fin.ext (by show r.val + 1 = q.val; omega)
    show column x3 x5 (fun k => x0 (ix2 ⟨r.val + 1, _⟩ k)) c = _
    rw [e]; rfl
  · simp only [norm5, hv]
    rfl

theorem moved_high_apply (b : BitVec 1) (hb : b = if ((i 0).val + 1) % 8 = 0 then 0#1 else 1#1) (v : Vec Ideal S256x1024 .f32) (v' : Vec Ideal S8x1024 .f32)
    (hv : ∀ (r : Fin 256) (k : Fin 1024), v (ix2 r k) = x0 (ix2 ⟨256 + r.val, by omega⟩ k))
    (hv' : ∀ (s : Fin 8) (k : Fin 1024), v' (ix2 s k) = x0 (ix2 ⟨248 + s.val, by omega⟩ k)) (r : Fin 256) (c : Fin 1920) :
    k0_pay1 (F := Ideal) b (k0_pay6 (F := Ideal) x3 v) (k0_pay9 (F := Ideal) x3 v') (k0_pay11 (F := Ideal) x3 x2) x5 x6 (ix2 r c) = movedBlock i x0 x1 x2 x3 x5 x6 (ix2 ⟨256 + r.val, by omega⟩ c) := by
  rw [high_eq]
  refine (half_apply 1#1 b _ _ _ x5 x6 r c (rowBefore i x0 x1 x3 x5 ⟨256 + r.val, by omega⟩ c) (rowAfter i x0 x2 x3 x5 ⟨256 + r.val, by omega⟩ c) ?_ ?_ ?_ ?_).trans ?_
  · intro h
    unfold rowBefore
    rw [if_neg (by show ¬ 256 + r.val = 0; omega)]
    simp only [norm9, hv']
    have e : (⟨256 + r.val - 1, by omega⟩ : Fin 512) = ⟨248 + (7 : Fin 8).val, by decide⟩ := Fin.ext (by show 256 + r.val - 1 = 248 + 7; omega)
    show column x3 x5 (fun k => x0 (ix2 ⟨256 + r.val - 1, _⟩ k)) c = _
    rw [e]; rfl
  · intro q h
    unfold rowBefore
    rw [if_neg (by show ¬ 256 + r.val = 0; omega)]
    simp only [norm6, hv]
    have e : (⟨256 + r.val - 1, by omega⟩ : Fin 512) = ⟨256 + q.val, by omega⟩ := Fin.ext (by show 256 + r.val - 1 = 256 + q.val; omega)
    show column x3 x5 (fun k => x0 (ix2 ⟨256 + r.val - 1, _⟩ k)) c = _
    rw [e]; rfl
  · intro h
    unfold rowAfter
    rw [dif_pos (by show 256 + r.val = 511; omega), hb]
    simp only [norm11]
    by_cases e : ((i 0).val + 1) % 8 = 0
    · rw [if_pos e, if_pos e]; rfl
    · rw [if_neg e, if_neg e]; rfl
  · intro q h
    unfold rowAfter
    rw [dif_neg (by show ¬ 256 + r.val = 511; omega)]
    simp only [norm6, hv]
    have e : (⟨256 + r.val + 1, by omega⟩ : Fin 512) = ⟨256 + q.val, by omega⟩ := Fin.ext (by show 256 + r.val + 1 = 256 + q.val; omega)
    show column x3 x5 (fun k => x0 (ix2 ⟨256 + r.val + 1, _⟩ k)) c = _
    rw [e]; rfl
  · simp only [norm6, hv]
    rfl

theorem movedBlock_apply (y : S512x1920.Idx) : out0_8 i x0 x1 x2 x3 x4 x5 x6 y = movedBlock i x0 x1 x2 x3 x5 x6 y := by
  have l1 : View.ld x1 r0_3 = x1 := View.ld_unit_zero (by decide) _ x1
  have l2 : View.ld x2 r0_3 = x2 := View.ld_unit_zero (by decide) _ x2
  have l3 : View.ld x3 r0_0 = x3 := View.ld_unit_zero (by decide) _ x3
  have l5 : View.ld x5 r0_8 = x5 := View.ld_unit_zero (by decide) _ x5
  have l6 : View.ld x6 r0_9 = x6 := View.ld_unit_zero (by decide) _ x6
  unfold_out out0_8
  rw [l1, l2, l3, l5, l6, pay2_eq, pay4_eq, pay8_eq]
  refine View.canon_apply_of_pieces (Val := Elt Ideal) (movedBlock i x0 x1 x2 x3 x5 x6) _ (fun p hp => ?_) y (cover0_8 _ _ y)
  refine View.PiecesOf.mem (L := [_, _]) ?_ p hp
  refine ⟨fun x => ?_, fun x => ?_, trivial⟩
  · refine ((congrArg _ (eta2 (n0 := 256) (n1 := 1920) x)).trans (moved_high_apply i x0 x1 x2 x3 x5 x6 _ ?_ _ _ (load_high x0) (load_middle_before x0) (x 0) (x 1))).trans
      (congrArg (movedBlock i x0 x1 x2 x3 x5 x6) (funext fun a => Fin.ext ?_))
    · generalize (i 0) = j
      revert j
      show ∀ j : Fin 128, _
      decide +kernel
    match a with
    | ⟨0, _⟩ => show 256 + (x 0).val = 256 + 1 * (x 0).val; omega
    | ⟨1, _⟩ => show (x 1).val = 0 + 1 * (x 1).val; omega
  · refine ((congrArg _ (eta2 (n0 := 256) (n1 := 1920) x)).trans (moved_low_apply i x0 x1 x2 x3 x5 x6 _ ?_ _ _ (load_low x0) (load_middle_after x0) (x 0) (x 1))).trans
      (congrArg (movedBlock i x0 x1 x2 x3 x5 x6) (funext fun a => Fin.ext ?_))
    · generalize (i 0) = j
      revert j
      show ∀ j : Fin 128, _
      decide +kernel
    match a with
    | ⟨0, _⟩ => show (x 0).val = 0 + 1 * (x 0).val; omega
    | ⟨1, _⟩ => show (x 1).val = 0 + 1 * (x 1).val; omega

end

end Cert.IP
end
-- ==== Proof.IP.Array.lean ====
module

public import proofs.«01_k».proof.Proof.IP.Block
public import Idealize.ShloMosaic.Lib.Pipeline.ValueKit
public import Idealize.ShloMosaic.Lib.StableHlo.RunRead

/-! # The input projection: its arrays -/

@[expose] public section

set_option maxRecDepth 16384

namespace Cert.IP

open Idealize.ShloMosaic Cert.FF Cert.Kernel5Ideal Cert.Kernel5Ideal.Gen

theorem index0 : ∀ t : Fin cfg0.N, win0_0.index t = ![t.val, 0] := (by decide +kernel : ∀ t : Fin grid0.N, win0_0.index t = ![t.val, 0])
theorem index1 : ∀ t : Fin cfg0.N, win0_1.index t = ![t.val * 64 - 1, 0] :=
  (by decide +kernel : ∀ t : Fin grid0.N, win0_1.index t = ![t.val * 64 - 1, 0])
theorem index2 : ∀ t : Fin cfg0.N, win0_2.index t = ![min ((t.val + 1) * 64) 8191, 0] :=
  (by decide +kernel : ∀ t : Fin grid0.N, win0_2.index t = ![min ((t.val + 1) * 64) 8191, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem point_val : ∀ t : Fin cfg0.N, (grid0.coords t 0).val = t.val := (by decide +kernel : ∀ t : Fin grid0.N, (grid0.coords t 0).val = t.val)

/-! ## The arrays' elements, of the arguments -/

section
variable (x : (⟨3, ![16, 4096, 1024]⟩ : Shape).Idx → EReal) (g : (⟨1, ![1024]⟩ : Shape).Idx → EReal)
  (w : (⟨2, ![1024, 3456]⟩ : Shape).Idx → EReal) (mu : (⟨1, ![1920]⟩ : Shape).Idx → EReal) (b : Fin 16) (s : Fin 4096)

/-- A query, key or value of token `s` of sequence `b`. -/
noncomputable def qkvAt (d : Fin 1536) : EReal :=
  scaled (fun k => x (ix3 b s k)) (fun k => g (ix1 k)) (fun k d => w (ix2 k ⟨d.val, by omega⟩)) d

/-- One of the recurrence's columns of a token before the shift. -/
noncomputable def columnAt (c : Fin 1920) : EReal :=
  through (normed (fun k => x (ix3 b s k)) (fun k => g (ix1 k))) (fun k (d : Fin 1920) => w (ix2 k ⟨1536 + d.val, by omega⟩)) c

/-- The same of the token before, zero before the first. -/
noncomputable def beforeAt (c : Fin 1920) : EReal := if s.val = 0 then 0 else columnAt x g w b ⟨s.val - 1, by omega⟩ c

/-- The same of the token after, zero after the last. -/
noncomputable def afterAt (c : Fin 1920) : EReal := if h : s.val = 4095 then 0 else columnAt x g w b ⟨s.val + 1, by omega⟩ c

/-- One of the recurrence's columns of a token, moved towards the mean of its neighbours. -/
noncomputable def movedAt (c : Fin 1920) : EReal := moved (mu (ix1 c)) (columnAt x g w b s c) (beforeAt x g w b s c) (afterAt x g w b s c)

end

section
variable (m : (ℓ : Loc nD τ sig) → Buf (Elt Ideal) ℓ) (c : Dev nD) (t : Fin cfg0.N)

theorem V_x : V m c main_v1 = shapeCast S65536x1024 (m ((c.tc : Thread nD τ).loc main_arg0)) shapeCasts_S16x4096x1024_S65536x1024 := by
  unfold_abbrev_sides
  after_reads_simp
  rfl

theorem V_norm : V m c main_v2 = shapeCast S1x1024 (m ((c.tc : Thread nD τ).loc main_arg1)) shapeCasts_S1024_S1x1024 := by
  unfold_abbrev_sides
  after_reads_simp
  rfl

theorem V_qkv : V m c main_v3 = extractStridedSlice S1024x1536 ![0, 0] (m ((c.tc : Thread nD τ).loc main_arg2)) slices_S1024x3456_S1024x1536_0_0 := by
  unfold_abbrev_sides
  after_reads_simp
  rfl

theorem V_rest : V m c main_v4 = extractStridedSlice S1024x1920 ![0, 1536] (m ((c.tc : Thread nD τ).loc main_arg2)) slices_S1024x3456_S1024x1920_0_1536 := by
  unfold_abbrev_sides
  after_reads_simp
  rfl

theorem V_mu : V m c main_v5 = shapeCast S1x1920 (m ((c.tc : Thread nD τ).loc main_arg3)) shapeCasts_S1920_S1x1920 := by
  unfold_abbrev_sides
  after_reads_simp
  rfl

theorem block0 (r : Fin 512) (k : Fin 1024) (b : Fin 16) (s : Fin 4096) (h : b.val * 4096 + s.val = t.val * 512 + r.val) :
    iblk m c 0 t (ix2 r k) = m ((c.tc : Thread nD τ).loc main_arg0) (ix3 (n0 := 16) (n1 := 4096) (n2 := 1024) b s k) := by
  have e : iblk m c 0 t (ix2 r k) = shapeCast S65536x1024 (m ((c.tc : Thread nD τ).loc main_arg0)) shapeCasts_S16x4096x1024_S65536x1024
      (ix2 ⟨b.val * 4096 + s.val, by omega⟩ k) := by
    show V m c main_v1 (((cfg0.win 0).blk t).view.emb (ix2 r k)) = _
    rw [V_x]
    blk_ext [index0 t]
  rw [e]
  exact tokens_apply _ _ _ k b s rfl

theorem block1 (k : Fin 1024) (b : Fin 16) (s : Fin 4096) (h : b.val * 4096 + s.val + 1 = t.val * 512) :
    iblk m c 1 t (ix2 7 k) = m ((c.tc : Thread nD τ).loc main_arg0) (ix3 (n0 := 16) (n1 := 4096) (n2 := 1024) b s k) := by
  have e : iblk m c 1 t (ix2 7 k) = shapeCast S65536x1024 (m ((c.tc : Thread nD τ).loc main_arg0)) shapeCasts_S16x4096x1024_S65536x1024
      (ix2 ⟨b.val * 4096 + s.val, by omega⟩ k) := by
    show V m c main_v1 (((cfg0.win 1).blk t).view.emb (ix2 7 k)) = _
    rw [V_x]
    blk_ext [index1 t]
  rw [e]
  exact tokens_apply _ _ _ k b s rfl

theorem block2 (k : Fin 1024) (b : Fin 16) (s : Fin 4096) (h : b.val * 4096 + s.val = (t.val + 1) * 512) :
    iblk m c 2 t (ix2 0 k) = m ((c.tc : Thread nD τ).loc main_arg0) (ix3 (n0 := 16) (n1 := 4096) (n2 := 1024) b s k) := by
  have e : iblk m c 2 t (ix2 0 k) = shapeCast S65536x1024 (m ((c.tc : Thread nD τ).loc main_arg0)) shapeCasts_S16x4096x1024_S65536x1024
      (ix2 ⟨b.val * 4096 + s.val, by omega⟩ k) := by
    show V m c main_v1 (((cfg0.win 2).blk t).view.emb (ix2 0 k)) = _
    rw [V_x]
    blk_ext [index2 t]
  rw [e]
  exact tokens_apply _ _ _ k b s rfl

theorem block3 (k : Fin 1024) : iblk m c 3 t (ix2 0 k) = m ((c.tc : Thread nD τ).loc main_arg1) (ix1 (n0 := 1024) k) := by
  have e : iblk m c 3 t (ix2 0 k) = shapeCast S1x1024 (m ((c.tc : Thread nD τ).loc main_arg1)) shapeCasts_S1024_S1x1024 (ix2 0 k) := by
    show V m c main_v2 (((cfg0.win 3).blk t).view.emb (ix2 0 k)) = _
    rw [V_norm]
    blk_ext [index3 t]
  rw [e]
  pointwise

theorem block4 (k : Fin 1024) (d : Fin 1536) :
    iblk m c 4 t (ix2 k d) = m ((c.tc : Thread nD τ).loc main_arg2) (ix2 (n0 := 1024) (n1 := 3456) k ⟨d.val, by omega⟩) := by
  have e : iblk m c 4 t (ix2 k d) = extractStridedSlice S1024x1536 ![0, 0] (m ((c.tc : Thread nD τ).loc main_arg2)) slices_S1024x3456_S1024x1536_0_0 (ix2 k d) := by
    show V m c main_v3 (((cfg0.win 4).blk t).view.emb (ix2 k d)) = _
    rw [V_qkv]
    blk_ext [index4 t]
  rw [e]
  pointwise

theorem block5 (k : Fin 1024) (d : Fin 1920) :
    iblk m c 5 t (ix2 k d) = m ((c.tc : Thread nD τ).loc main_arg2) (ix2 (n0 := 1024) (n1 := 3456) k ⟨1536 + d.val, by omega⟩) := by
  have e : iblk m c 5 t (ix2 k d) = extractStridedSlice S1024x1920 ![0, 1536] (m ((c.tc : Thread nD τ).loc main_arg2)) slices_S1024x3456_S1024x1920_0_1536 (ix2 k d) := by
    show V m c main_v4 (((cfg0.win 5).blk t).view.emb (ix2 k d)) = _
    rw [V_rest]
    blk_ext [index5 t]
  rw [e]
  pointwise

theorem block6 (d : Fin 1920) : iblk m c 6 t (ix2 0 d) = m ((c.tc : Thread nD τ).loc main_arg3) (ix1 (n0 := 1920) d) := by
  have e : iblk m c 6 t (ix2 0 d) = shapeCast S1x1920 (m ((c.tc : Thread nD τ).loc main_arg3)) shapeCasts_S1920_S1x1920 (ix2 0 d) := by
    show V m c main_v5 (((cfg0.win 6).blk t).view.emb (ix2 0 d)) = _
    rw [V_mu]
    blk_ext [index6 t]
  rw [e]
  pointwise

/-- A grid point's queries, keys and values, of the arguments. -/
theorem qkv_point (r : Fin 512) (d : Fin 1536) (b : Fin 16) (s : Fin 4096) (h : b.val * 4096 + s.val = t.val * 512 + r.val) :
    qkvBlock (iblk m c 0 t) (iblk m c 3 t) (iblk m c 4 t) (ix2 r d)
      = qkvAt (m ((c.tc : Thread nD τ).loc main_arg0)) (m ((c.tc : Thread nD τ).loc main_arg1)) (m ((c.tc : Thread nD τ).loc main_arg2)) b s d := by
  show scaled (fun k => iblk m c 0 t (ix2 r k)) (fun k => iblk m c 3 t (ix2 0 k)) (fun k d => iblk m c 4 t (ix2 k d)) d = _
  simp only [block0 m c t r _ b s h, block3, block4]
  rfl

/-- The projection by a grid point's copies of the norm and the weights. -/
theorem column_point (v : Fin 1024 → EReal) (d : Fin 1920) (b : Fin 16) (s : Fin 4096)
    (h : ∀ k, v k = m ((c.tc : Thread nD τ).loc main_arg0) (ix3 (n0 := 16) (n1 := 4096) (n2 := 1024) b s k)) :
    column (iblk m c 3 t) (iblk m c 5 t) v d
      = columnAt (m ((c.tc : Thread nD τ).loc main_arg0)) (m ((c.tc : Thread nD τ).loc main_arg1)) (m ((c.tc : Thread nD τ).loc main_arg2)) b s d := by
  show through (normed v (fun k => iblk m c 3 t (ix2 0 k))) (fun k d => iblk m c 5 t (ix2 k d)) d = _
  simp only [block3, block5]
  rw [show v = _ from funext h]
  rfl

theorem before_point (r : Fin 512) (d : Fin 1920) (b : Fin 16) (s : Fin 4096) (h : b.val * 4096 + s.val = t.val * 512 + r.val) :
    rowBefore (grid0.coords t) (iblk m c 0 t) (iblk m c 1 t) (iblk m c 3 t) (iblk m c 5 t) r d
      = beforeAt (m ((c.tc : Thread nD τ).loc main_arg0)) (m ((c.tc : Thread nD τ).loc main_arg1)) (m ((c.tc : Thread nD τ).loc main_arg2)) b s d := by
  unfold rowBefore beforeAt
  rw [point_val]
  by_cases hs : s.val = 0
  · rw [if_pos hs, if_pos (by omega), if_pos (by omega)]
  · rw [if_neg hs]
    by_cases hr : r.val = 0
    · rw [if_pos hr, if_neg (by omega)]
      exact column_point m c t _ d b _ (fun k => block1 m c t k b _ (by show b.val * 4096 + (s.val - 1) + 1 = t.val * 512; omega))
    · rw [if_neg hr]
      exact column_point m c t _ d b _ (fun k => block0 m c t _ k b _ (by show b.val * 4096 + (s.val - 1) = t.val * 512 + (r.val - 1); omega))

theorem after_point (r : Fin 512) (d : Fin 1920) (b : Fin 16) (s : Fin 4096) (h : b.val * 4096 + s.val = t.val * 512 + r.val) :
    rowAfter (grid0.coords t) (iblk m c 0 t) (iblk m c 2 t) (iblk m c 3 t) (iblk m c 5 t) r d
      = afterAt (m ((c.tc : Thread nD τ).loc main_arg0)) (m ((c.tc : Thread nD τ).loc main_arg1)) (m ((c.tc : Thread nD τ).loc main_arg2)) b s d := by
  unfold rowAfter afterAt
  rw [point_val]
  by_cases hs : s.val = 4095
  · rw [dif_pos hs, dif_pos (by omega), if_pos (by omega)]
  · rw [dif_neg hs]
    by_cases hr : r.val = 511
    · rw [dif_pos hr, if_neg (by omega)]
      exact column_point m c t _ d b _ (fun k => block2 m c t k b _ (by show b.val * 4096 + (s.val + 1) = (t.val + 1) * 512; omega))
    · rw [dif_neg hr]
      exact column_point m c t _ d b _ (fun k => block0 m c t _ k b _ (by show b.val * 4096 + (s.val + 1) = t.val * 512 + (r.val + 1); omega))

/-- A grid point's columns of the recurrence, of the arguments. -/
theorem moved_point (r : Fin 512) (d : Fin 1920) (b : Fin 16) (s : Fin 4096) (h : b.val * 4096 + s.val = t.val * 512 + r.val) :
    movedBlock (grid0.coords t) (iblk m c 0 t) (iblk m c 1 t) (iblk m c 2 t) (iblk m c 3 t) (iblk m c 5 t) (iblk m c 6 t) (ix2 r d)
      = movedAt (m ((c.tc : Thread nD τ).loc main_arg0)) (m ((c.tc : Thread nD τ).loc main_arg1)) (m ((c.tc : Thread nD τ).loc main_arg2))
          (m ((c.tc : Thread nD τ).loc main_arg3)) b s d := by
  show moved (iblk m c 6 t (ix2 0 d)) (column (iblk m c 3 t) (iblk m c 5 t) (fun k => iblk m c 0 t (ix2 r k)) d)
    (rowBefore (grid0.coords t) (iblk m c 0 t) (iblk m c 1 t) (iblk m c 3 t) (iblk m c 5 t) r d)
    (rowAfter (grid0.coords t) (iblk m c 0 t) (iblk m c 2 t) (iblk m c 3 t) (iblk m c 5 t) r d) = _
  rw [before_point m c t r d b s h, after_point m c t r d b s h, block6,
    column_point m c t _ d b s (fun k => block0 m c t r k b s h)]
  rfl

end

/-- The first result: queries, keys and values. -/
theorem qkv_array (m : (ℓ : Loc nD τ sig) → Buf (Elt Ideal) ℓ) (c : Dev nD) :
    (dats m 0 c).arrAt 7 cfg0.N = fun y : S65536x1536.Idx =>
      qkvAt (m ((c.tc : Thread nD τ).loc main_arg0)) (m ((c.tc : Thread nD τ).loc main_arg1)) (m ((c.tc : Thread nD τ).loc main_arg2))
        ⟨(y 0).val / 4096, by have : (y 0).val < 65536 := (y 0).isLt; omega⟩ ⟨(y 0).val % 4096, by omega⟩ (y 1) := by
  refine (dats m 0 c).arrAt_eq_of_covers 7 _ (by decide +kernel) fun t hf y => ?_
  blk_simp
  rw [after0_7]
  rw [qkvBlock_apply]
  have y0 : (y 0).val < 512 := (y 0).isLt
  have y1 : (y 1).val < 1536 := (y 1).isLt
  have e0 : ((((cfg0.win 7).blk t).view.emb y) 0 : ℕ) = t.val * 512 + (y 0).val := by
    blk_simp [index7 t]
  have e1 : (((cfg0.win 7).blk t).view.emb y) 1 = (y 1 : Fin 1536) := by
    refine Fin.ext ?_
    blk_simp [index7 t]
  rw [e1]
  refine (congrArg _ (eta2 (n0 := 512) (n1 := 1536) y)).trans (qkv_point m c t (y 0) (y 1) _ _ ?_)
  have i0 : win0_7.index t 0 = t.val := by rw [index7]; rfl
  show (win0_7.index t 0 * 512 + (y 0).val) / 4096 * 4096 + (win0_7.index t 0 * 512 + (y 0).val) % 4096 = t.val * 512 + (y 0).val
  rw [i0]
  omega

/-- The second result: the recurrence's columns. -/
theorem moved_array (m : (ℓ : Loc nD τ sig) → Buf (Elt Ideal) ℓ) (c : Dev nD) :
    (dats m 0 c).arrAt 8 cfg0.N = fun y : S65536x1920.Idx =>
      movedAt (m ((c.tc : Thread nD τ).loc main_arg0)) (m ((c.tc : Thread nD τ).loc main_arg1)) (m ((c.tc : Thread nD τ).loc main_arg2))
        (m ((c.tc : Thread nD τ).loc main_arg3))
        ⟨(y 0).val / 4096, by have : (y 0).val < 65536 := (y 0).isLt; omega⟩ ⟨(y 0).val % 4096, by omega⟩ (y 1) := by
  refine (dats m 0 c).arrAt_eq_of_covers 8 _ (by decide +kernel) fun t hf y => ?_
  blk_simp
  rw [after0_8]
  rw [movedBlock_apply]
  have y0 : (y 0).val < 512 := (y 0).isLt
  have y1 : (y 1).val < 1920 := (y 1).isLt
  have e0 : ((((cfg0.win 8).blk t).view.emb y) 0 : ℕ) = t.val * 512 + (y 0).val := by
    blk_simp [index8 t]
  have e1 : (((cfg0.win 8).blk t).view.emb y) 1 = (y 1 : Fin 1920) := by
    refine Fin.ext ?_
    blk_simp [index8 t]
  rw [e1]
  refine (congrArg _ (eta2 (n0 := 512) (n1 := 1920) y)).trans (moved_point m c t (y 0) (y 1) _ _ ?_)
  have i0 : win0_8.index t 0 = t.val := by rw [index8]; rfl
  show (win0_8.index t 0 * 512 + (y 0).val) / 4096 * 4096 + (win0_8.index t 0 * 512 + (y 0).val) % 4096 = t.val * 512 + (y 0).val
  rw [i0]
  omega

end Cert.IP
end
-- ==== Proof.IP.Ref.lean ====
module

public import proofs.«01_k».proof.Proof.IP.Array
public import proofs.«01_k».proof.Proof.Gen.Reference5Ideal.Read
public import Idealize.ShloMosaic.Lib.KernelVsHost

/-! # The input projection's reference at an index -/

@[expose] public section

set_option maxRecDepth 16384

namespace Cert.IP.Ref

open Idealize.ShloMosaic Cert.FF Cert.IP Cert.Reference5Ideal Cert.Reference5Ideal.Read

section
variable (x : FVec Ideal S16x4096x1024 .f32) (g : FVec Ideal S1024 .f32) (w : FVec Ideal S1024x3456 .f32) (mu : FVec Ideal S1920 .f32)
  (b : Fin 16) (s : Fin 4096)

theorem norm_apply (c : Fin 1024) :
    val_main_v12 (F := Ideal) x g (ix3 b s c) = normed (fun k => x (ix3 b s k)) (fun k => g (ix1 k)) c := by
  pointwise [val_main_v12, val_main_v11, val_main_v10, val_main_v9, val_main_v8, val_main_v7, val_main_v6, val_main_v5, val_main_cst_1,
    val_main_v4, val_main_v3, val_main_cst_0, val_main_v2, val_main_v1, val_main_cst, val_main_v0, normed]

theorem projection_apply (f : Fin 3456) :
    val_main_v13 (F := Ideal) x g w (ix3 b s f)
      = through (normed (fun k => x (ix3 b s k)) (fun k => g (ix1 k))) (fun k f => w (ix2 k f)) f := by
  unfold through
  simp only [← norm_apply]
  pointwise [val_main_v13]

theorem query_apply (d : Fin 512) :
    val_main_v16 (F := Ideal) x g w (ix3 b s d) = qkvAt x g w b s ⟨d.val, by omega⟩ := by
  have e : val_main_v16 (F := Ideal) x g w (ix3 b s d) = val_main_v13 (F := Ideal) x g w (ix3 b s ⟨d.val, by omega⟩) * Ideal.ofBits .f32 0x3E000000#32 := by
    pointwise [val_main_v16, val_main_v15, val_main_v14, val_main_cst_2]
  rw [e, projection_apply]
  unfold qkvAt scaled
  rw [if_pos (by show d.val < 512; omega)]
  rfl

theorem key_apply (d : Fin 512) :
    val_main_v17 (F := Ideal) x g w (ix3 b s d) = qkvAt x g w b s ⟨512 + d.val, by omega⟩ := by
  have e : val_main_v17 (F := Ideal) x g w (ix3 b s d) = val_main_v13 (F := Ideal) x g w (ix3 b s ⟨512 + d.val, by omega⟩) := by
    pointwise [val_main_v17]
  rw [e, projection_apply]
  unfold qkvAt scaled
  rw [if_neg (by show ¬ 512 + d.val < 512; omega)]
  rfl

theorem value_apply (d : Fin 512) :
    val_main_v18 (F := Ideal) x g w (ix3 b s d) = qkvAt x g w b s ⟨1024 + d.val, by omega⟩ := by
  have e : val_main_v18 (F := Ideal) x g w (ix3 b s d) = val_main_v13 (F := Ideal) x g w (ix3 b s ⟨1024 + d.val, by omega⟩) := by
    pointwise [val_main_v18]
  rw [e, projection_apply]
  unfold qkvAt scaled
  rw [if_neg (by show ¬ 1024 + d.val < 512; omega)]
  rfl

theorem joined_apply (d : Fin 1536) : val_main_v33 (F := Ideal) x g w (ix3 b s d) = qkvAt x g w b s d := by
  show val_main_v32 (F := Ideal) x g w (ix3 b s d) = _
  unfold val_main_v32
  by_cases h : d.val < 512
  · refine (concatenate_apply_piece (t := S16x4096x1536) (2 : Fin 3)
      [⟨S16x4096x512, val_main_v16 (F := Ideal) x g w⟩, ⟨S16x4096x512, val_main_v17 (F := Ideal) x g w⟩, ⟨S16x4096x512, val_main_v18 (F := Ideal) x g w⟩] _
      (ix3 b s d) 0 (by exact (by decide : 0 < 3)) S16x4096x512 (val_main_v16 (F := Ideal) x g w) rfl rfl 0 rfl
      (ix3 b s ⟨d.val, h⟩) ?_ ?_).trans (query_apply x g w b s ⟨d.val, h⟩)
    · intro a ha
      match a with
      | ⟨0, _⟩ => rfl
      | ⟨1, _⟩ => rfl
      | ⟨2, _⟩ => exact absurd rfl ha
    · show 0 + d.val = d.val
      omega
  by_cases h' : d.val < 1024
  · refine (concatenate_apply_piece (t := S16x4096x1536) (2 : Fin 3)
      [⟨S16x4096x512, val_main_v16 (F := Ideal) x g w⟩, ⟨S16x4096x512, val_main_v17 (F := Ideal) x g w⟩, ⟨S16x4096x512, val_main_v18 (F := Ideal) x g w⟩] _
      (ix3 b s d) 1 (by exact (by decide : 1 < 3)) S16x4096x512 (val_main_v17 (F := Ideal) x g w) rfl rfl 512 rfl
      (ix3 b s ⟨d.val - 512, by omega⟩) ?_ ?_).trans ((key_apply x g w b s ⟨d.val - 512, by omega⟩).trans
        (congrArg (qkvAt x g w b s) (Fin.ext (by show 512 + (d.val - 512) = d.val; omega))))
    · intro a ha
      match a with
      | ⟨0, _⟩ => rfl
      | ⟨1, _⟩ => rfl
      | ⟨2, _⟩ => exact absurd rfl ha
    · show 512 + (d.val - 512) = d.val
      omega
  · refine (concatenate_apply_piece (t := S16x4096x1536) (2 : Fin 3)
      [⟨S16x4096x512, val_main_v16 (F := Ideal) x g w⟩, ⟨S16x4096x512, val_main_v17 (F := Ideal) x g w⟩, ⟨S16x4096x512, val_main_v18 (F := Ideal) x g w⟩] _
      (ix3 b s d) 2 (by exact (by decide : 2 < 3)) S16x4096x512 (val_main_v18 (F := Ideal) x g w) rfl rfl 1024 rfl
      (ix3 b s ⟨d.val - 1024, by omega⟩) ?_ ?_).trans ((value_apply x g w b s ⟨d.val - 1024, by omega⟩).trans
        (congrArg (qkvAt x g w b s) (Fin.ext (by show 1024 + (d.val - 1024) = d.val; omega))))
    · intro a ha
      match a with
      | ⟨0, _⟩ => rfl
      | ⟨1, _⟩ => rfl
      | ⟨2, _⟩ => exact absurd rfl ha
    · show 1024 + (d.val - 1024) = d.val
      omega

theorem column_apply (c : Fin 1920) : val_main_v19 (F := Ideal) x g w (ix3 b s c) = columnAt x g w b s c := by
  have e : val_main_v19 (F := Ideal) x g w (ix3 b s c) = val_main_v13 (F := Ideal) x g w (ix3 b s ⟨1536 + c.val, by omega⟩) := by
    pointwise [val_main_v19]
  rw [e, projection_apply]
  rfl

/-- The integer zero as a real. -/
theorem zero_word : (FloatOps.sitofp (F := Ideal) FTy.f32 (0#32) : EReal) = 0 := by
  show (((0#32 : BitVec 32).toInt : ℝ) : EReal) = 0
  simp

theorem before_apply (c : Fin 1920) : val_main_v21 (F := Ideal) x g w (ix3 b s c) = beforeAt x g w b s c := by
  unfold beforeAt
  by_cases h : s.val = 0
  · rw [if_pos h]
    obtain rfl : s = 0 := Fin.ext h
    pointwise [val_main_v21, val_main_call0_v0, val_main_c]
    exact zero_word
  · rw [if_neg h, ← column_apply]
    unfold val_main_v21
    refine (pad_apply_of_inside _ _ _ _ _ _ _ (ix3 b s c) (ix3 (n0 := 16) (n1 := 4095) (n2 := 1920) b ⟨s.val - 1, by omega⟩ c) ?_).trans ?_
    · intro a
      match a with
      | ⟨0, _⟩ => show b.val = 0 + b.val * (0 + 1); omega
      | ⟨1, _⟩ => show s.val = 1 + (s.val - 1) * (0 + 1); omega
      | ⟨2, _⟩ => show c.val = 0 + c.val * (0 + 1); omega
    · pointwise [val_main_v20]

theorem after_apply (c : Fin 1920) : val_main_v23 (F := Ideal) x g w (ix3 b s c) = afterAt x g w b s c := by
  unfold afterAt
  by_cases h : s.val = 4095
  · rw [dif_pos h]
    obtain rfl : s = 4095 := Fin.ext h
    pointwise [val_main_v23, val_main_call1_v0, val_main_c_3]
    exact zero_word
  · rw [dif_neg h, ← column_apply]
    unfold val_main_v23
    refine (pad_apply_of_inside _ _ _ _ _ _ _ (ix3 b s c) (ix3 (n0 := 16) (n1 := 4095) (n2 := 1920) b ⟨s.val, by omega⟩ c) ?_).trans ?_
    · intro a
      match a with
      | ⟨0, _⟩ => show b.val = 0 + b.val * (0 + 1); omega
      | ⟨1, _⟩ => show s.val = 0 + s.val * (0 + 1); omega
      | ⟨2, _⟩ => show c.val = 0 + c.val * (0 + 1); omega
    · pointwise [val_main_v22]
      exact congrArg (fun q => val_main_v19 (F := Ideal) x g w (ix3 b q c)) (Fin.ext (Nat.add_comm _ _))

theorem moved_apply (c : Fin 1920) : val_main_v31 (F := Ideal) x g w mu (ix3 b s c) = movedAt x g w mu b s c := by
  unfold movedAt moved
  rw [← column_apply, ← before_apply, ← after_apply]
  pointwise [val_main_v31, val_main_v30, val_main_v29, val_main_v28, val_main_v27, val_main_v26, val_main_v25, val_main_cst_4, val_main_v24]

/-- The first result. -/
theorem first_apply (R : Fin 65536) (h : R.val = b.val * 4096 + s.val) (d : Fin 1536) :
    val_main_v34 (F := Ideal) x g w (ix2 R d) = qkvAt x g w b s d :=
  (tokens_apply _ _ R d b s h).trans (joined_apply x g w b s d)

/-- The second result. -/
theorem second_apply (R : Fin 65536) (h : R.val = b.val * 4096 + s.val) (c : Fin 1920) :
    val_main_v35 (F := Ideal) x g w mu (ix2 R c) = movedAt x g w mu b s c :=
  (tokens_apply _ _ R c b s h).trans (moved_apply x g w mu b s c)

end

end Cert.IP.Ref
end
-- ==== Proof.IP.Finish.lean ====
module

public import proofs.«01_k».proof.Defs
public import proofs.«01_k».proof.Proof.IP.Ref
public import proofs.«01_k».proof.Proof.Gen.Kernel5Ideal.Value
public import proofs.«01_k».proof.Proof.Gen.Reference5Ideal.Run
public import Idealize.ShloMosaic.Lib.Claim

/-! # The input projection: the kernel's arrays are the reference's -/

@[expose] public section

set_option maxRecDepth 16384

namespace Cert.IP

open Idealize.ShloMosaic Idealize.SL.Sem Cert.FF

section
variable (x : FVec Ideal Cert.Kernel5Ideal.S16x4096x1024 .f32) (g : FVec Ideal Cert.Kernel5Ideal.S1024 .f32)
  (w : FVec Ideal Cert.Kernel5Ideal.S1024x3456 .f32) (mu : FVec Ideal Cert.Kernel5Ideal.S1920 .f32)

theorem first_eq : Cert.Reference5Ideal.Read.val_main_v34 (F := Ideal) x g w
    = fun y : Cert.Kernel5Ideal.S65536x1536.Idx =>
      qkvAt x g w ⟨(y 0).val / 4096, by have : (y 0).val < 65536 := (y 0).isLt; omega⟩ ⟨(y 0).val % 4096, by omega⟩ (y 1) := by
  funext y
  refine (congrArg _ (eta2 (n0 := 65536) (n1 := 1536) y)).trans
    (Cert.IP.Ref.first_apply x g w ⟨(y 0).val / 4096, by have : (y 0).val < 65536 := (y 0).isLt; omega⟩ ⟨(y 0).val % 4096, by omega⟩ (y 0) ?_ (y 1))
  show (y 0).val = (y 0).val / 4096 * 4096 + (y 0).val % 4096
  omega

theorem second_eq : Cert.Reference5Ideal.Read.val_main_v35 (F := Ideal) x g w mu
    = fun y : Cert.Kernel5Ideal.S65536x1920.Idx =>
      movedAt x g w mu ⟨(y 0).val / 4096, by have : (y 0).val < 65536 := (y 0).isLt; omega⟩ ⟨(y 0).val % 4096, by omega⟩ (y 1) := by
  funext y
  refine (congrArg _ (eta2 (n0 := 65536) (n1 := 1920) y)).trans
    (Cert.IP.Ref.second_apply x g w mu ⟨(y 0).val / 4096, by have : (y 0).val < 65536 := (y 0).isLt; omega⟩ ⟨(y 0).val % 4096, by omega⟩ (y 0) ?_ (y 1))
  show (y 0).val = (y 0).val / 4096 * 4096 + (y 0).val % 4096
  omega

end

theorem algebraic : Cert.algebraic_Kernel5Ideal_Reference5Ideal (hKernel5Ideal := Cert.Kernel5Ideal.Gen.facts)
    (hReference5Ideal := Cert.Reference5Ideal.Gen.facts) := by
  intro m g m' g' hpre hagree
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N, Cert.Kernel5Ideal.Value.run_blocks m g, ?_⟩
  refine (θ_run _ _ _).mono (fun r h c => ?_) (Cert.Reference5Ideal.Value.run m' g')
  obtain ⟨e0, e1, e2, e3⟩ := hagree c
  refine ⟨(h c).1.trans ?_, (h c).2.1.trans ?_, (h c).2.2⟩
  · rw [Cert.Reference5Ideal.Read.val_main_v34_eq]
    refine Eq.trans ?_ (qkv_array m c).symm
    refine Eq.trans ?_ (first_eq _ _ _)
    rw [e0, e1, e2]
  · rw [Cert.Reference5Ideal.Read.val_main_v35_eq]
    refine Eq.trans ?_ (moved_array m c).symm
    refine Eq.trans ?_ (second_eq _ _ _ _)
    rw [e0, e1, e2, e3]

theorem reference_quiescent : Cert.quiescent_Reference5Ideal (hReference5Ideal := Cert.Reference5Ideal.Gen.facts) := by
  intro m g _
  exact (θ_run Cert.Reference5Ideal.defs _ _).mono
    (fun r h => ⟨fun c => (h c).2.2, sem_eq_zero_of_no_sems (by decide) r.2⟩) (Cert.Reference5Ideal.Value.run m g)

end Cert.IP
end
-- ==== Proof.OP.Spec.lean ====
module

public import proofs.«01_k».proof.Proof.FF.Spec

/-! # The output projection, one token at a time

The head norm of the recurrence's two directions, the bonus, the gate, and the projection with its residual. -/

@[expose] public section

namespace Cert.OP

open Idealize.ShloMosaic Cert.FF

/-- Lane `i` of the head that column `c` lies in. -/
def sameHead (c : Fin 512) (i : Fin 64) : Fin 512 := ⟨c.val / 64 * 64 + i.val, by omega⟩

/-- The sum over the head that column `c` lies in. -/
noncomputable def headSum (f : Fin 512 → EReal) (c : Fin 512) : EReal := ∑ i : Fin 64, f (sameHead c i)

/-- A column less its head's mean. -/
noncomputable def centred (y : Fin 512 → EReal) (c : Fin 512) : EReal := y c - headSum y c * Ideal.ofBits .f32 0x3C800000#32

/-- The norm of every head, with scale and shift. -/
noncomputable def normedHeads (y lw lb : Fin 512 → EReal) (c : Fin 512) : EReal :=
  centred y c * Ideal.rsqrt (headSum (fun j => centred y j * centred y j) c * Ideal.ofBits .f32 0x3C800000#32 + Ideal.ofBits .f32 0x3A27C5AC#32) * lw c + lb c

/-- The rate of one direction. -/
noncomputable def rate {n : Nat} (a0 : Fin 512 → EReal) (al : Fin n → EReal) (aup : Fin n → Fin 512 → EReal) (c : Fin 512) : EReal :=
  Ideal.logistic (a0 c + through al aup c)

/-- The bonus of both directions at once, by the sum `a` of their rates. -/
noncomputable def bonusBoth (r k v a ka rk : Fin 512 → EReal) (c : Fin 512) : EReal :=
  headSum (fun j => r j * (k j * (Ideal.ofBits .f32 0x40000000#32 + (a j - Ideal.ofBits .f32 0x40000000#32) * ka j)) * rk j) c * v c

/-- The bonus of one direction. -/
noncomputable def bonusOne (r k v a ka rk : Fin 512 → EReal) (c : Fin 512) : EReal :=
  headSum (fun j => r j * (k j * (1 + (a j - 1) * ka j)) * rk j) c * v c

/-- The gate. -/
noncomputable def gate (gl : Fin 128 → EReal) (gup : Fin 128 → Fin 512 → EReal) (c : Fin 512) : EReal :=
  through (fun j => Ideal.logistic (gl j)) gup c

/-- Two vectors one after the other. -/
noncomputable def beside (a b : Fin 512 → EReal) (k : Fin 1024) : EReal :=
  if h : k.val < 512 then a ⟨k.val, h⟩ else b ⟨k.val - 512, by omega⟩

/-- The projection of the attention's and the recurrence's outputs with the residual. -/
noncomputable def projected (h : Fin 1024 → EReal) (yna y bonus g : Fin 512 → EReal) (w : Fin 1024 → Fin 1024 → EReal) (d : Fin 1024) : EReal :=
  h d + through (beside yna (fun c => (y c + bonus c) * g c)) w d

end Cert.OP
end
-- ==== Proof.OP.RunIdeal.lean ====
module

public import proofs.«01_k».proof.Proof.Gen.Kernel6Ideal.Frame.Runs

/-! # The output projection: one grid point's run

The two stores of a grid point, with their values as functions of the loads, and the proof that the body makes them. -/

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The value of the first half's store. -/
def lowValue (h : Vec F S256x1024 .f32) (yna : Vec F S256x512 .bf16) (y0 : Vec F S256x512 .f32) (y1 : Vec F S256x512 .f32) (r : Vec F S256x512 .f32) (k : Vec F S256x512 .f32) (v : Vec F S256x512 .f32) (al : Vec F S256x128 .f32) (gl : Vec F S256x128 .f32) (a00 : Vec F S1x512 .f32) (aup0 : Vec F S128x512 .bf16) (a01 : Vec F S1x512 .f32) (aup1 : Vec F S128x512 .bf16) (ka : Vec F S1x512 .f32) (rk : Vec F S1x512 .f32) (gup : Vec F S128x512 .bf16) (lw : Vec F S1x512 .f32) (lb : Vec F S1x512 .f32) (hm : Vec F S256x256 .bf16) (w : Vec F S1024x1024 .bf16) : FVec F S256x1024 .f32 :=
  k0_pay1 (k0_pay21 (k0_pay7 (k0_pay4 hm y0 y1) (k0_pay6 hm y0 y1) (Scalar.ofBits .f32 0x3C800000#32) lw lb) (k0_pay17 (k0_pay3 hm) (k0_pay15 (k0_pay11 (k0_pay9 a00) (k0_pay10 al) aup0 a01 al aup1) k ka) r rk v) gl gup yna) (k0_pay22 h) w

/-- The value of the second half's store. -/
def highValue (h : Vec F S256x1024 .f32) (yna : Vec F S256x512 .bf16) (y0 : Vec F S256x512 .f32) (y1 : Vec F S256x512 .f32) (r : Vec F S256x512 .f32) (k : Vec F S256x512 .f32) (v : Vec F S256x512 .f32) (al : Vec F S256x128 .f32) (gl : Vec F S256x128 .f32) (a00 : Vec F S1x512 .f32) (aup0 : Vec F S128x512 .bf16) (a01 : Vec F S1x512 .f32) (aup1 : Vec F S128x512 .bf16) (ka : Vec F S1x512 .f32) (rk : Vec F S1x512 .f32) (gup : Vec F S128x512 .bf16) (lw : Vec F S1x512 .f32) (lb : Vec F S1x512 .f32) (hm : Vec F S256x256 .bf16) (w : Vec F S1024x1024 .bf16) : FVec F S256x1024 .f32 :=
  k0_pay2 (k0_pay8 (k0_pay3 hm) (k0_pay5 hm y0 y1) lw lb) (k0_pay19 (k0_pay18 (k0_pay3 hm) (k0_pay14 (k0_pay12 al aup0) (k0_pay13 a00) a01 al aup1) (k0_pay16 k) ka r rk) v) (k0_pay20 gl gup) yna h w

/-- The two stores of a grid point, last first. -/
def kernelPieces (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S128x512 .bf16) (harg11 : arg11.IsWhole) (arg12 : Memref sig .tc .vmem S1x512 .f32) (harg12 : arg12.IsWhole) (arg13 : Memref sig .tc .vmem S128x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S256x256 .bf16) (harg19 : arg19.IsWhole) (arg20 : Memref sig .tc .vmem S1024x1024 .bf16) (harg20 : arg20.IsWhole)
    (x0 : Vec F S512x1024 .f32) (x1 : Vec F S512x512 .bf16) (x2 : Vec F S512x512 .f32) (x3 : Vec F S512x512 .f32) (x4 : Vec F S512x512 .f32) (x5 : Vec F S512x512 .f32) (x6 : Vec F S512x512 .f32) (x7 : Vec F S512x128 .f32) (x8 : Vec F S512x128 .f32) (x9 : Vec F S1x512 .f32) (x10 : Vec F S128x512 .bf16) (x11 : Vec F S1x512 .f32) (x12 : Vec F S128x512 .bf16) (x13 : Vec F S1x512 .f32) (x14 : Vec F S1x512 .f32) (x15 : Vec F S128x512 .bf16) (x16 : Vec F S1x512 .f32) (x17 : Vec F S1x512 .f32) (x18 : Vec F S256x256 .bf16) (x19 : Vec F S1024x1024 .bf16) : List (View.Piece (Elt F) S512x1024 .f32) :=
  [⟨Rect.unit (s := S512x1024) ![256, 0] S256x1024.size inb_S512x1024_S256x1024_256_0,
    highValue
      (View.readAt (Elt F) arg1.view (Rect.unit (s := S512x1024) ![256, 0] S256x1024.size inb_S512x1024_S256x1024_256_0).toLoadRect (harg1.unread x0))
      (View.readAt (Elt F) arg2.view (Rect.unit (s := S512x512) ![256, 0] S256x512.size inb_S512x512_S256x512_256_0).toLoadRect (harg2.unread x1))
      (View.readAt (Elt F) arg3.view (Rect.unit (s := S512x512) ![256, 0] S256x512.size inb_S512x512_S256x512_256_0).toLoadRect (harg3.unread x2))
      (View.readAt (Elt F) arg4.view (Rect.unit (s := S512x512) ![256, 0] S256x512.size inb_S512x512_S256x512_256_0).toLoadRect (harg4.unread x3))
      (View.readAt (Elt F) arg5.view (Rect.unit (s := S512x512) ![256, 0] S256x512.size inb_S512x512_S256x512_256_0).toLoadRect (harg5.unread x4))
      (View.readAt (Elt F) arg6.view (Rect.unit (s := S512x512) ![256, 0] S256x512.size inb_S512x512_S256x512_256_0).toLoadRect (harg6.unread x5))
      (View.readAt (Elt F) arg7.view (Rect.unit (s := S512x512) ![256, 0] S256x512.size inb_S512x512_S256x512_256_0).toLoadRect (harg7.unread x6))
      (View.readAt (Elt F) arg8.view (Rect.unit (s := S512x128) ![256, 0] S256x128.size inb_S512x128_S256x128_256_0).toLoadRect (harg8.unread x7))
      (View.readAt (Elt F) arg9.view (Rect.unit (s := S512x128) ![256, 0] S256x128.size inb_S512x128_S256x128_256_0).toLoadRect (harg9.unread x8))
      (View.readAt (Elt F) arg10.view (Rect.unit (s := S1x512) ![0, 0] S1x512.size inb_S1x512_S1x512_0_0).toLoadRect (harg10.unread x9))
      (View.readAt (Elt F) arg11.view (Rect.unit (s := S128x512) ![0, 0] S128x512.size inb_S128x512_S128x512_0_0).toLoadRect (harg11.unread x10))
      (View.readAt (Elt F) arg12.view (Rect.unit (s := S1x512) ![0, 0] S1x512.size inb_S1x512_S1x512_0_0).toLoadRect (harg12.unread x11))
      (View.readAt (Elt F) arg13.view (Rect.unit (s := S128x512) ![0, 0] S128x512.size inb_S128x512_S128x512_0_0).toLoadRect (harg13.unread x12))
      (View.readAt (Elt F) arg14.view (Rect.unit (s := S1x512) ![0, 0] S1x512.size inb_S1x512_S1x512_0_0).toLoadRect (harg14.unread x13))
      (View.readAt (Elt F) arg15.view (Rect.unit (s := S1x512) ![0, 0] S1x512.size inb_S1x512_S1x512_0_0).toLoadRect (harg15.unread x14))
      (View.readAt (Elt F) arg16.view (Rect.unit (s := S128x512) ![0, 0] S128x512.size inb_S128x512_S128x512_0_0).toLoadRect (harg16.unread x15))
      (View.readAt (Elt F) arg17.view (Rect.unit (s := S1x512) ![0, 0] S1x512.size inb_S1x512_S1x512_0_0).toLoadRect (harg17.unread x16))
      (View.readAt (Elt F) arg18.view (Rect.unit (s := S1x512) ![0, 0] S1x512.size inb_S1x512_S1x512_0_0).toLoadRect (harg18.unread x17))
      (View.readAt (Elt F) arg19.view (Rect.unit (s := S256x256) ![0, 0] S256x256.size inb_S256x256_S256x256_0_0).toLoadRect (harg19.unread x18))
      (View.readAt (Elt F) arg20.view (Rect.unit (s := S1024x1024) ![0, 0] S1024x1024.size inb_S1024x1024_S1024x1024_0_0).toLoadRect (harg20.unread x19))⟩,
   ⟨Rect.unit (s := S512x1024) ![0, 0] S256x1024.size inb_S512x1024_S256x1024_0_0,
    lowValue
      (View.readAt (Elt F) arg1.view (Rect.unit (s := S512x1024) ![0, 0] S256x1024.size inb_S512x1024_S256x1024_0_0).toLoadRect (harg1.unread x0))
      (View.readAt (Elt F) arg2.view (Rect.unit (s := S512x512) ![0, 0] S256x512.size inb_S512x512_S256x512_0_0).toLoadRect (harg2.unread x1))
      (View.readAt (Elt F) arg3.view (Rect.unit (s := S512x512) ![0, 0] S256x512.size inb_S512x512_S256x512_0_0).toLoadRect (harg3.unread x2))
      (View.readAt (Elt F) arg4.view (Rect.unit (s := S512x512) ![0, 0] S256x512.size inb_S512x512_S256x512_0_0).toLoadRect (harg4.unread x3))
      (View.readAt (Elt F) arg5.view (Rect.unit (s := S512x512) ![0, 0] S256x512.size inb_S512x512_S256x512_0_0).toLoadRect (harg5.unread x4))
      (View.readAt (Elt F) arg6.view (Rect.unit (s := S512x512) ![0, 0] S256x512.size inb_S512x512_S256x512_0_0).toLoadRect (harg6.unread x5))
      (View.readAt (Elt F) arg7.view (Rect.unit (s := S512x512) ![0, 0] S256x512.size inb_S512x512_S256x512_0_0).toLoadRect (harg7.unread x6))
      (View.readAt (Elt F) arg8.view (Rect.unit (s := S512x128) ![0, 0] S256x128.size inb_S512x128_S256x128_0_0).toLoadRect (harg8.unread x7))
      (View.readAt (Elt F) arg9.view (Rect.unit (s := S512x128) ![0, 0] S256x128.size inb_S512x128_S256x128_0_0).toLoadRect (harg9.unread x8))
      (View.readAt (Elt F) arg10.view (Rect.unit (s := S1x512) ![0, 0] S1x512.size inb_S1x512_S1x512_0_0).toLoadRect (harg10.unread x9))
      (View.readAt (Elt F) arg11.view (Rect.unit (s := S128x512) ![0, 0] S128x512.size inb_S128x512_S128x512_0_0).toLoadRect (harg11.unread x10))
      (View.readAt (Elt F) arg12.view (Rect.unit (s := S1x512) ![0, 0] S1x512.size inb_S1x512_S1x512_0_0).toLoadRect (harg12.unread x11))
      (View.readAt (Elt F) arg13.view (Rect.unit (s := S128x512) ![0, 0] S128x512.size inb_S128x512_S128x512_0_0).toLoadRect (harg13.unread x12))
      (View.readAt (Elt F) arg14.view (Rect.unit (s := S1x512) ![0, 0] S1x512.size inb_S1x512_S1x512_0_0).toLoadRect (harg14.unread x13))
      (View.readAt (Elt F) arg15.view (Rect.unit (s := S1x512) ![0, 0] S1x512.size inb_S1x512_S1x512_0_0).toLoadRect (harg15.unread x14))
      (View.readAt (Elt F) arg16.view (Rect.unit (s := S128x512) ![0, 0] S128x512.size inb_S128x512_S128x512_0_0).toLoadRect (harg16.unread x15))
      (View.readAt (Elt F) arg17.view (Rect.unit (s := S1x512) ![0, 0] S1x512.size inb_S1x512_S1x512_0_0).toLoadRect (harg17.unread x16))
      (View.readAt (Elt F) arg18.view (Rect.unit (s := S1x512) ![0, 0] S1x512.size inb_S1x512_S1x512_0_0).toLoadRect (harg18.unread x17))
      (View.readAt (Elt F) arg19.view (Rect.unit (s := S256x256) ![0, 0] S256x256.size inb_S256x256_S256x256_0_0).toLoadRect (harg19.unread x18))
      (View.readAt (Elt F) arg20.view (Rect.unit (s := S1024x1024) ![0, 0] S1024x1024.size inb_S1024x1024_S1024x1024_0_0).toLoadRect (harg20.unread x19))⟩]

set_option maxHeartbeats 4000000 in
/-- The body runs, leaves its inputs as they were and makes the two stores. -/
theorem kernelRun (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S128x512 .bf16) (harg11 : arg11.IsWhole) (arg12 : Memref sig .tc .vmem S1x512 .f32) (harg12 : arg12.IsWhole) (arg13 : Memref sig .tc .vmem S128x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S256x256 .bf16) (harg19 : arg19.IsWhole) (arg20 : Memref sig .tc .vmem S1024x1024 .bf16) (harg20 : arg20.IsWhole) (arg21 : Memref sig .tc .vmem S512x1024 .f32) (harg21 : arg21.IsWhole)
    (x0 : Vec F S512x1024 .f32) (x1 : Vec F S512x512 .bf16) (x2 : Vec F S512x512 .f32) (x3 : Vec F S512x512 .f32) (x4 : Vec F S512x512 .f32) (x5 : Vec F S512x512 .f32) (x6 : Vec F S512x512 .f32) (x7 : Vec F S512x128 .f32) (x8 : Vec F S512x128 .f32) (x9 : Vec F S1x512 .f32) (x10 : Vec F S128x512 .bf16) (x11 : Vec F S1x512 .f32) (x12 : Vec F S128x512 .bf16) (x13 : Vec F S1x512 .f32) (x14 : Vec F S1x512 .f32) (x15 : Vec F S128x512 .bf16) (x16 : Vec F S1x512 .f32) (x17 : Vec F S1x512 .f32) (x18 : Vec F S256x256 .bf16) (x19 : Vec F S1024x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f (kernelPieces arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19))) -∗ K ⟨⟩))
          ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _; isplitr; · ipureintro; exact harg19.read_unread _
    iexact H18
  isplitl [H19]
  · iexists _; isplitr; · ipureintro; exact harg20.read_unread _
    iexact H19
  iexists f20; iexact H20

end Cert.Kernel6Ideal.Gen

end
-- ==== Proof.OP.Half.lean ====
module

public import proofs.«01_k».proof.Proof.OP.Spec
public import proofs.«01_k».proof.Proof.OP.RunIdeal
public import Idealize.ShloMosaic.Lib.Pointwise
public import Idealize.ShloMosaic.Lib.Pipeline.ReadBack
public import Idealize.ShloMosaic.Lib.KernelVsHost

/-! # The output projection: half a block -/

@[expose] public section

set_option maxRecDepth 16384

namespace Cert.OP

open Idealize.ShloMosaic Cert.FF Cert.Kernel6Ideal Cert.Kernel6Ideal.Gen

/-- The sums over heads by products with the matrix that is one where two lanes share a head. -/
noncomputable def sums (hm : Vec Ideal S256x256 .bf16) (f : FVec Ideal S256x512 .f32) : FVec Ideal S256x512 .f32 :=
  concatenate S256x512 1
    [⟨S256x256, matmul dot_S256x256_S256x256_S256x256_1_0_0_1_n_n none
        (truncf .bf16 (extractStridedSlice S256x256 ![0, 0] f slices_S256x512_o0_0_S256x256) bitsLt_bf16_f32)
        (φ₂ := .bf16) (shapeCast S256x256 hm shapeCasts_S256x256_S256x256) (constant S256x256 .f32 0x00000000#32)⟩,
     ⟨S256x256, matmul dot_S256x256_S256x256_S256x256_1_0_0_1_n_n none
        (truncf .bf16 (extractStridedSlice S256x256 ![0, 256] f slices_S256x512_o0_256_S256x256) bitsLt_bf16_f32)
        (φ₂ := .bf16) (shapeCast S256x256 hm shapeCasts_S256x256_S256x256) (constant S256x256 .f32 0x00000000#32)⟩]
    concatenates_S256x256_S256x256_S256x512_d1

noncomputable def all (b : BitVec 32) : FVec Ideal S256x512 .f32 := broadcast S256x512 (Scalar.ofBits .f32 b)

noncomputable def rows (v : Vec Ideal S1x512 .f32) : FVec Ideal S256x512 .f32 :=
  broadcastTo S256x512 (shapeCast S1x512 v shapeCasts_S1x512_S1x512) broadcasts_S1x512_S256x512

noncomputable def centredV (hm : Vec Ideal S256x256 .bf16) (y : FVec Ideal S256x512 .f32) : FVec Ideal S256x512 .f32 :=
  subf y (mulf (sums hm y) (all 0x3C800000#32))

noncomputable def normedV (hm : Vec Ideal S256x256 .bf16) (z : FVec Ideal S256x512 .f32) (lw lb : Vec Ideal S1x512 .f32) : FVec Ideal S256x512 .f32 :=
  addf (mulf (mulf z (rsqrt (addf (mulf (sums hm (mulf z z)) (all 0x3C800000#32)) (all 0x3A27C5AC#32)))) (rows lw)) (rows lb)

noncomputable def rateV (a0 : Vec Ideal S1x512 .f32) (al : Vec Ideal S256x128 .f32) (aup : Vec Ideal S128x512 .bf16) : FVec Ideal S256x512 .f32 :=
  divf (all 0x3F800000#32) (addf (all 0x3F800000#32) (exp (subf (all 0x00000000#32) (addf (rows a0)
    (matmul dot_S256x128_S128x512_S256x512_1_0_0_1_n_n none (truncf .bf16 (shapeCast S256x128 al shapeCasts_S256x128_S256x128 : FVec Ideal S256x128 .f32) bitsLt_bf16_f32)
      (φ₂ := .bf16) (shapeCast S128x512 aup shapeCasts_S128x512_S128x512) (constant S256x512 .f32 0x00000000#32))))))

noncomputable def gateV (gl : Vec Ideal S256x128 .f32) (gup : Vec Ideal S128x512 .bf16) : FVec Ideal S256x512 .f32 :=
  matmul dot_S256x128_S128x512_S256x512_1_0_0_1_n_n none
    (truncf .bf16 (divf (broadcast S256x128 (Scalar.ofBits .f32 0x3F800000#32)) (addf (broadcast S256x128 (Scalar.ofBits .f32 0x3F800000#32))
      (exp (subf (broadcast S256x128 (Scalar.ofBits .f32 0x00000000#32)) (shapeCast S256x128 gl shapeCasts_S256x128_S256x128 : FVec Ideal S256x128 .f32))))) bitsLt_bf16_f32)
    (φ₂ := .bf16) (shapeCast S128x512 gup shapeCasts_S128x512_S128x512) (constant S256x512 .f32 0x00000000#32)

/-- The products whose sums over heads are the bonus. -/
noncomputable def productsV (r k : Vec Ideal S256x512 .f32) (a : FVec Ideal S256x512 .f32) (ka rk : Vec Ideal S1x512 .f32) : FVec Ideal S256x512 .f32 :=
  mulf (mulf (shapeCast S256x512 r shapeCasts_S256x512_S256x512 : FVec Ideal S256x512 .f32)
    (mulf (shapeCast S256x512 k shapeCasts_S256x512_S256x512 : FVec Ideal S256x512 .f32) (addf (all 0x40000000#32) (mulf (subf a (all 0x40000000#32)) (rows ka))))) (rows rk)

noncomputable def lastV (h : Vec Ideal S256x1024 .f32) (yna : Vec Ideal S256x512 .bf16) (o : FVec Ideal S256x512 .f32) (w : Vec Ideal S1024x1024 .bf16) : FVec Ideal S256x1024 .f32 :=
  addf (shapeCast S256x1024 h shapeCasts_S256x1024_S256x1024 : FVec Ideal S256x1024 .f32)
    (matmul dot_S256x1024_S1024x1024_S256x1024_1_0_0_1_n_n none
      (concatenate S256x1024 1 [⟨S256x512, (shapeCast S256x512 yna shapeCasts_S256x512_S256x512 : FVec Ideal S256x512 .bf16)⟩, ⟨S256x512, truncf .bf16 o bitsLt_bf16_f32⟩]
        concatenates_S256x512_S256x512_S256x1024_d1)
      (φ₂ := .bf16) (shapeCast S1024x1024 w shapeCasts_S1024x1024_S1024x1024) (constant S256x1024 .f32 0x00000000#32))

/-- Half a block. -/
noncomputable def halfV (h : Vec Ideal S256x1024 .f32) (yna : Vec Ideal S256x512 .bf16) (y0 y1 r k v : Vec Ideal S256x512 .f32) (al gl : Vec Ideal S256x128 .f32)
    (a00 : Vec Ideal S1x512 .f32) (aup0 : Vec Ideal S128x512 .bf16) (a01 : Vec Ideal S1x512 .f32) (aup1 : Vec Ideal S128x512 .bf16)
    (ka rk : Vec Ideal S1x512 .f32) (gup : Vec Ideal S128x512 .bf16) (lw lb : Vec Ideal S1x512 .f32) (hm : Vec Ideal S256x256 .bf16)
    (w : Vec Ideal S1024x1024 .bf16) : FVec Ideal S256x1024 .f32 :=
  lastV h yna (mulf (addf
      (normedV hm (centredV hm (addf (shapeCast S256x512 y0 shapeCasts_S256x512_S256x512 : FVec Ideal S256x512 .f32) (shapeCast S256x512 y1 shapeCasts_S256x512_S256x512))) lw lb)
      (mulf (sums hm (productsV r k (addf (rateV a00 al aup0) (rateV a01 al aup1)) ka rk)) (shapeCast S256x512 v shapeCasts_S256x512_S256x512)))
    (gateV gl gup)) w

section
variable (h : Vec Ideal S256x1024 .f32) (yna : Vec Ideal S256x512 .bf16) (y0 y1 r k v : Vec Ideal S256x512 .f32) (al gl : Vec Ideal S256x128 .f32)
    (a00 : Vec Ideal S1x512 .f32) (aup0 : Vec Ideal S128x512 .bf16) (a01 : Vec Ideal S1x512 .f32) (aup1 : Vec Ideal S128x512 .bf16)
    (ka rk : Vec Ideal S1x512 .f32) (gup : Vec Ideal S128x512 .bf16) (lw lb : Vec Ideal S1x512 .f32) (hm : Vec Ideal S256x256 .bf16)
    (w : Vec Ideal S1024x1024 .bf16)

theorem low_eq : k0_pay1 (F := Ideal) (k0_pay21 (k0_pay7 (k0_pay4 hm y0 y1) (k0_pay6 hm y0 y1) (Scalar.ofBits .f32 0x3C800000#32) lw lb)
      (k0_pay17 (k0_pay3 hm) (k0_pay15 (k0_pay11 (k0_pay9 a00) (k0_pay10 al) aup0 a01 al aup1) k ka) r rk v) gl gup yna) (k0_pay22 h) w
    = halfV h yna y0 y1 r k v al gl a00 aup0 a01 aup1 ka rk gup lw lb hm w := rfl

theorem high_eq : k0_pay2 (F := Ideal) (k0_pay8 (k0_pay3 hm) (k0_pay5 hm y0 y1) lw lb)
      (k0_pay19 (k0_pay18 (k0_pay3 hm) (k0_pay14 (k0_pay12 al aup0) (k0_pay13 a00) a01 al aup1) (k0_pay16 k) ka r rk) v) (k0_pay20 gl gup) yna h w
    = halfV h yna y0 y1 r k v al gl a00 aup0 a01 aup1 ka rk gup lw lb hm w := rfl

end

section
variable (hm : Vec Ideal S256x256 .bf16) (f : FVec Ideal S256x512 .f32) (r : Fin 256) (c : Fin 512)

/-- A sum with weights that are one in one group of 64 and zero elsewhere. -/
theorem grouped_sum (g : Fin 256 → EReal) (w : Fin 256 → EReal) (q : Fin 4) (hw : ∀ j, w j = if j.val / 64 = q.val then 1 else 0) :
    ∑ j : Fin 256, g j * w j = ∑ i : Fin 64, g ⟨q.val * 64 + i.val, by omega⟩ := by
  rw [← Equiv.sum_comp (finProdFinEquiv (m := 4) (n := 64)) (fun j : Fin 256 => g j * w j), Fintype.sum_prod_type]
  rw [Finset.sum_eq_single q]
  · refine Finset.sum_congr rfl fun i _ => ?_
    rw [hw, if_pos (by show (i.val + 64 * q.val) / 64 = q.val; omega), mul_one]
    exact congrArg g (Fin.ext (by show i.val + 64 * q.val = q.val * 64 + i.val; omega))
  · intro p _ hp
    refine Finset.sum_eq_zero fun i _ => ?_
    have : p.val ≠ q.val := fun e => hp (Fin.ext e)
    rw [hw, if_neg (by show ¬ (i.val + 64 * p.val) / 64 = q.val; omega), mul_zero]
  · intro e; exact absurd (Finset.mem_univ _) e

theorem sums_apply (hhm : ∀ i j : Fin 256, hm (ix2 i j) = if i.val / 64 = j.val / 64 then 1 else 0) :
    sums hm f (ix2 r c) = headSum (fun j => f (ix2 r j)) c := by
  have e : sums hm f (ix2 r c) = if h : c.val < 256 then ∑ j : Fin 256, f (ix2 r ⟨j.val, by omega⟩) * hm (ix2 j ⟨c.val, h⟩)
      else ∑ j : Fin 256, f (ix2 r ⟨256 + j.val, by omega⟩) * hm (ix2 j ⟨c.val - 256, by omega⟩) := by
    pointwise [sums]
  rw [e]
  unfold headSum
  by_cases h : c.val < 256
  · rw [dif_pos h, grouped_sum (fun j => f (ix2 r ⟨j.val, by omega⟩)) _ ⟨c.val / 64, by omega⟩ (fun j => by rw [hhm])]
    rfl
  · rw [dif_neg h, grouped_sum (fun j => f (ix2 r ⟨256 + j.val, by omega⟩)) _ ⟨(c.val - 256) / 64, by omega⟩ (fun j => by rw [hhm])]
    refine Finset.sum_congr rfl fun i _ => congrArg (fun q => f (ix2 r q)) (Fin.ext ?_)
    show 256 + ((c.val - 256) / 64 * 64 + i.val) = c.val / 64 * 64 + i.val
    omega

end

end Cert.OP
end
-- ==== Proof.OP.Whole.lean ====
module

public import proofs.«01_k».proof.Proof.OP.Half

/-! # The output projection: half a block, entry by entry -/

@[expose] public section

set_option maxRecDepth 16384

namespace Cert.OP

open Idealize.ShloMosaic Cert.FF Cert.Kernel6Ideal Cert.Kernel6Ideal.Gen

variable (h : Vec Ideal S256x1024 .f32) (yna : Vec Ideal S256x512 .bf16) (y0 y1 rr k v : Vec Ideal S256x512 .f32) (al gl : Vec Ideal S256x128 .f32)
    (a00 : Vec Ideal S1x512 .f32) (aup0 : Vec Ideal S128x512 .bf16) (a01 : Vec Ideal S1x512 .f32) (aup1 : Vec Ideal S128x512 .bf16)
    (ka rk : Vec Ideal S1x512 .f32) (gup : Vec Ideal S128x512 .bf16) (lw lb : Vec Ideal S1x512 .f32) (hm : Vec Ideal S256x256 .bf16)
    (w : Vec Ideal S1024x1024 .bf16) (r : Fin 256) (c : Fin 512)

theorem rows_apply (u : Vec Ideal S1x512 .f32) : rows u (ix2 r c) = u (ix2 0 c) := by
  pointwise [rows]

theorem rateV_apply : rateV a00 al aup0 (ix2 r c)
    = rate (fun j => a00 (ix2 0 j)) (fun j => al (ix2 r j)) (fun j c => aup0 (ix2 j c)) c := by
  unfold rate
  rw [logistic_sub]
  pointwise [rateV, rows, all, through]

theorem gateV_apply : gateV gl gup (ix2 r c) = gate (fun j => gl (ix2 r j)) (fun j c => gup (ix2 j c)) c := by
  unfold gate through
  simp only [logistic_sub]
  pointwise [gateV]

theorem productsV_apply (a : FVec Ideal S256x512 .f32) : productsV rr k a ka rk (ix2 r c)
    = rr (ix2 r c) * (k (ix2 r c) * (Ideal.ofBits .f32 0x40000000#32 + (a (ix2 r c) - Ideal.ofBits .f32 0x40000000#32) * ka (ix2 0 c))) * rk (ix2 0 c) := by
  pointwise [productsV, rows, all]

variable (hhm : ∀ i j : Fin 256, hm (ix2 i j) = if i.val / 64 = j.val / 64 then 1 else 0)

include hhm in
theorem centredV_apply (y : FVec Ideal S256x512 .f32) : centredV hm y (ix2 r c) = centred (fun j => y (ix2 r j)) c := by
  unfold centred
  rw [← sums_apply hm y r c hhm]
  unfold centredV
  generalize sums hm y = s
  pointwise [all]

include hhm in
theorem normedV_apply (y : FVec Ideal S256x512 .f32) : normedV hm (centredV hm y) lw lb (ix2 r c)
    = normedHeads (fun j => y (ix2 r j)) (fun j => lw (ix2 0 j)) (fun j => lb (ix2 0 j)) c := by
  unfold normedHeads
  simp only [← centredV_apply hm r _ hhm y]
  have e := sums_apply hm (mulf (centredV hm y) (centredV hm y)) r c hhm
  have e' : headSum (fun j => centredV hm y (ix2 r j) * centredV hm y (ix2 r j)) c = sums hm (mulf (centredV hm y) (centredV hm y)) (ix2 r c) := by
    rw [e]; rfl
  rw [e']
  unfold normedV
  generalize sums hm (mulf (centredV hm y) (centredV hm y)) = s
  generalize centredV hm y = z
  pointwise [all, rows]

theorem lastV_apply (o : FVec Ideal S256x512 .f32) (d : Fin 1024) : lastV h yna o w (ix2 r d)
    = h (ix2 r d) + through (beside (fun j => yna (ix2 r j)) (fun j => o (ix2 r j))) (fun k d => w (ix2 k d)) d := by
  pointwise [lastV, through, beside]

include hhm in
theorem halfV_apply (d : Fin 1024) : halfV h yna y0 y1 rr k v al gl a00 aup0 a01 aup1 ka rk gup lw lb hm w (ix2 r d)
    = projected (fun d => h (ix2 r d)) (fun j => yna (ix2 r j))
      (normedHeads (fun j => y0 (ix2 r j) + y1 (ix2 r j)) (fun j => lw (ix2 0 j)) (fun j => lb (ix2 0 j)))
      (bonusBoth (fun j => rr (ix2 r j)) (fun j => k (ix2 r j)) (fun j => v (ix2 r j))
        (fun j => rate (fun j => a00 (ix2 0 j)) (fun j => al (ix2 r j)) (fun j c => aup0 (ix2 j c)) j
          + rate (fun j => a01 (ix2 0 j)) (fun j => al (ix2 r j)) (fun j c => aup1 (ix2 j c)) j)
        (fun j => ka (ix2 0 j)) (fun j => rk (ix2 0 j)))
      (gate (fun j => gl (ix2 r j)) (fun j c => gup (ix2 j c))) (fun k d => w (ix2 k d)) d := by
  unfold halfV
  rw [lastV_apply]
  unfold projected
  refine congrArg (fun f => h (ix2 r d) + through (beside (fun j => yna (ix2 r j)) f) (fun k d => w (ix2 k d)) d) (funext fun c => ?_)
  have en := normedV_apply lw lb hm r c hhm (addf (shapeCast S256x512 y0 shapeCasts_S256x512_S256x512 : FVec Ideal S256x512 .f32) (shapeCast S256x512 y1 shapeCasts_S256x512_S256x512))
  have eb := sums_apply hm (productsV rr k (addf (rateV a00 al aup0) (rateV a01 al aup1)) ka rk) r c hhm
  have eg := gateV_apply gl gup r c
  have e0 : ∀ j, addf (shapeCast S256x512 y0 shapeCasts_S256x512_S256x512 : FVec Ideal S256x512 .f32) (shapeCast S256x512 y1 shapeCasts_S256x512_S256x512) (ix2 r j)
      = y0 (ix2 r j) + y1 (ix2 r j) := fun j => by pointwise
  have e1 : (shapeCast S256x512 v shapeCasts_S256x512_S256x512 : FVec Ideal S256x512 .f32) (ix2 r c) = v (ix2 r c) := by pointwise
  have e2 : ∀ j, addf (rateV a00 al aup0) (rateV a01 al aup1) (ix2 r j) = rateV a00 al aup0 (ix2 r j) + rateV a01 al aup1 (ix2 r j) := fun j => rfl
  simp only [e0] at en
  simp only [productsV_apply, e2, rateV_apply] at eb
  unfold bonusBoth
  rw [← en, ← eb, ← eg]
  show _ = (_ + _ * v (ix2 r c)) * _
  rw [← e1]
  rfl

end Cert.OP
end
-- ==== Proof.OP.FrameIdeal.lean ====
module

public import proofs.«01_k».proof.Proof.OP.RunIdeal
public import Idealize.ShloMosaic.Lib.Claim

/-! # The output projection: what every grid point leaves, and the run of all of them -/

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 20 tile its block, so they cover it. -/
theorem cover0_A_20 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S128x512 .bf16) (harg11 : arg11.IsWhole) (arg12 : Memref sig .tc .vmem S1x512 .f32) (harg12 : arg12.IsWhole) (arg13 : Memref sig .tc .vmem S128x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S256x256 .bf16) (harg19 : arg19.IsWhole) (arg20 : Memref sig .tc .vmem S1024x1024 .bf16) (harg20 : arg20.IsWhole) (arg21 : Memref sig .tc .vmem S512x1024 .f32) (harg21 : arg21.IsWhole)
    (x0 : Vec F S512x1024 .f32) (x1 : Vec F S512x512 .bf16) (x2 : Vec F S512x512 .f32) (x3 : Vec F S512x512 .f32) (x4 : Vec F S512x512 .f32) (x5 : Vec F S512x512 .f32) (x6 : Vec F S512x512 .f32) (x7 : Vec F S512x128 .f32) (x8 : Vec F S512x128 .f32) (x9 : Vec F S1x512 .f32) (x10 : Vec F S128x512 .bf16) (x11 : Vec F S1x512 .f32) (x12 : Vec F S128x512 .bf16) (x13 : Vec F S1x512 .f32) (x14 : Vec F S1x512 .f32) (x15 : Vec F S128x512 .bf16) (x16 : Vec F S1x512 .f32) (x17 : Vec F S1x512 .f32) (x18 : Vec F S256x256 .bf16) (x19 : Vec F S1024x1024 .bf16) (y : S512x1024.Idx) :
    ∃ pc ∈ (kernelPieces arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19), y ∈ pc.1.set :=
  View.cover_of_tiledL (kernelPieces arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19) S256x1024.size (by sl_kernel_rfl) y

/-- What the run leaves in output 20's staging buffer: its pieces read back. -/
def out0_A_20 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S128x512 .bf16) (harg11 : arg11.IsWhole) (arg12 : Memref sig .tc .vmem S1x512 .f32) (harg12 : arg12.IsWhole) (arg13 : Memref sig .tc .vmem S128x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S256x256 .bf16) (harg19 : arg19.IsWhole) (arg20 : Memref sig .tc .vmem S1024x1024 .bf16) (harg20 : arg20.IsWhole) (arg21 : Memref sig .tc .vmem S512x1024 .f32) (harg21 : arg21.IsWhole)
    (x0 : Vec F S512x1024 .f32) (x1 : Vec F S512x512 .bf16) (x2 : Vec F S512x512 .f32) (x3 : Vec F S512x512 .f32) (x4 : Vec F S512x512 .f32) (x5 : Vec F S512x512 .f32) (x6 : Vec F S512x512 .f32) (x7 : Vec F S512x128 .f32) (x8 : Vec F S512x128 .f32) (x9 : Vec F S1x512 .f32) (x10 : Vec F S128x512 .bf16) (x11 : Vec F S1x512 .f32) (x12 : Vec F S128x512 .bf16) (x13 : Vec F S1x512 .f32) (x14 : Vec F S1x512 .f32) (x15 : Vec F S128x512 .bf16) (x16 : Vec F S1x512 .f32) (x17 : Vec F S1x512 .f32) (x18 : Vec F S256x256 .bf16) (x19 : Vec F S1024x1024 .bf16) : Vec F S512x1024 .f32 :=
  VO0_20.read (Elt F) (VO0_20.writes (Elt F) VO0_20.junk (kernelPieces arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19))

/-! ## What the outputs hold after each point -/

/-- What the outputs' staging buffers hold after the body at point `t`: the run's contents at
    the point's memrefs and input blocks. -/
def outsAt0 (c : Dev nD) (t : Fin cfg0.N) : Vec F S512x1024 .f32 :=
  out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-! ## The pipeline's proof data -/

/-- The proof data of the one pipeline on core `c`: the arrays as the region finds them (`V`); after the body at
    point `t` each input's buffer at its block and the outputs' at `outsAt0`; nothing owed; each input's
    share of its array, where several windows read the same one. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t)
    | ⟨_ + 21, h⟩ => absurd h (Nat.not_lt.2 (Nat.le_add_left _ _))
  Φ _ := Pipeline.ΦA spec0 c
  q w := Pipeline.shareOf spec0 w
  owed _ := 0

/-- The proof data's arrays are the contents at the call. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2000000 in
/-- The body at any point: the inputs' buffers hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  unfold outsAt0
  unfold out0_A_20
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (kernelRun c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, ⟨%e20, H20⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold owns; iexists _; isplitr
  swap; · iexact H20
  ipureintro; exact View.read_writes_of_cover _ _ _ _ _ (cover0_A_20 c (grid0.coords t) _ _ _ _ _ _ _ _ _ _ _ _ _ _ _ _ _ _ _ _ _ _ _ _ _ _ _ _ _ _ _ _ _ _ _ _ _ _ _ _ (ms0_20 t) (hs0_20 t) _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run of the whole program, with every semaphore counter zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- From any memory with zero counters every weakly fair execution ends, with every array of the call at what the proof
    data say and every other buffer as the call found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- Every execution ends, with the arguments unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel6Ideal.Gen

end
-- ==== Proof.OP.ValueIdeal.lean ====
module

public import proofs.«01_k».proof.Proof.OP.FrameIdeal
public import Idealize.ShloMosaic.Lib.Pipeline.Value

/-! # The output projection: the result block by block -/

@[expose] public section

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to the result: what the body leaves in the buffer. -/
theorem flushed20 (c : Dev nD) (t : Fin cfg0.N) :
    (dats m 0 c).flushed 20 t = (cfg0.win 20).cut (grid0.coords t) (outsAt0 m c t) := by
  show (cfg0.win 20).cut (grid0.coords t) ((dats m 0 c).after 20 t) = _
  rw [after0_20]

/-- The same by the two stores. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  simp only [flushed20, outsAt0]

/-- The index map sends distinct grid points to distinct block indices (128 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index. -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- Block `t` of the result is what point `t` wrote back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S65536x1024.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v38) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the run the result is `(dats m 0 c).arrAt 20 N` and the arguments are unchanged. -/
theorem run_blocks : θ_run defs (onTc (τ := τ) (main (F := F))) ⟨m, fun _ => 0, ρ⟩ fun r => ∀ c : Dev nD,
      r.2.mem ((c : Thread nD τ).loc main_v38) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel6Ideal.Value

end
-- ==== Proof.OP.Block.lean ====
module

public import proofs.«01_k».proof.Proof.OP.Whole
public import proofs.«01_k».proof.Proof.OP.ValueIdeal
public import Idealize.ShloMosaic.Lib.Pipeline.ValueKit
public import Idealize.ShloMosaic.Lib.WholeRead

/-! # The output projection: what a grid point writes -/

@[expose] public section

set_option maxRecDepth 16384

namespace Cert.OP

open Idealize.ShloMosaic Cert.FF Cert.Kernel6Ideal Cert.Kernel6Ideal.Gen

theorem eta2 {n0 n1 : Nat} (x : (⟨2, ![n0, n1]⟩ : Shape).Idx) : x = ix2 (n0 := n0) (n1 := n1) (x 0) (x 1) := by
  funext a
  match a with
  | ⟨0, _⟩ => rfl
  | ⟨1, _⟩ => rfl

/-! ## The loads -/

section
variable {e : EltTy} {n : Nat}

theorem load_low (a : Memref sig .tc .vmem ⟨2, ![512, n]⟩ e) (ha : a.IsWhole) (x : Vec Ideal ⟨2, ![512, n]⟩ e) (hb) (r : Fin 256) (k : Fin n) :
    View.readAt (Elt Ideal) a.view (Rect.unit (s := ⟨2, ![512, n]⟩) ![0, 0] ![256, n] hb).toLoadRect (ha.unread x) (ix2 r k) = x (ix2 ⟨r.val, by omega⟩ k) := by
  rw [ha.readAt_unread]
  exact congrArg x (funext fun b => Fin.ext (match b with
    | ⟨0, _⟩ => (show 0 + 1 * r.val = r.val by omega)
    | ⟨1, _⟩ => (show 0 + 1 * k.val = k.val by omega)))

theorem load_high (a : Memref sig .tc .vmem ⟨2, ![512, n]⟩ e) (ha : a.IsWhole) (x : Vec Ideal ⟨2, ![512, n]⟩ e) (hb) (r : Fin 256) (k : Fin n) :
    View.readAt (Elt Ideal) a.view (Rect.unit (s := ⟨2, ![512, n]⟩) ![256, 0] ![256, n] hb).toLoadRect (ha.unread x) (ix2 r k) = x (ix2 ⟨256 + r.val, by omega⟩ k) := by
  rw [ha.readAt_unread]
  exact congrArg x (funext fun b => Fin.ext (match b with
    | ⟨0, _⟩ => (show 256 + 1 * r.val = 256 + r.val by omega)
    | ⟨1, _⟩ => (show 0 + 1 * k.val = k.val by omega)))

theorem load_all {n0 : Nat} (a : Memref sig .tc .vmem ⟨2, ![n0, n]⟩ e) (ha : a.IsWhole) (x : Vec Ideal ⟨2, ![n0, n]⟩ e) (hb) (r : Fin n0) (k : Fin n) :
    View.readAt (Elt Ideal) a.view (Rect.unit (s := ⟨2, ![n0, n]⟩) ![0, 0] ![n0, n] hb).toLoadRect (ha.unread x) (ix2 r k) = x (ix2 r k) := by
  rw [ha.readAt_unread]
  exact congrArg x (funext fun b => Fin.ext (match b with
    | ⟨0, _⟩ => (show 0 + 1 * r.val = r.val by omega)
    | ⟨1, _⟩ => (show 0 + 1 * k.val = k.val by omega)))

end

/-- What a grid point leaves at an index of its block. -/
noncomputable def block (x0 : Vec Ideal S512x1024 .f32) (x1 : Vec Ideal S512x512 .bf16) (x2 : Vec Ideal S512x512 .f32) (x3 : Vec Ideal S512x512 .f32) (x4 : Vec Ideal S512x512 .f32) (x5 : Vec Ideal S512x512 .f32) (x6 : Vec Ideal S512x512 .f32)
    (x7 : Vec Ideal S512x128 .f32) (x8 : Vec Ideal S512x128 .f32) (x9 : Vec Ideal S1x512 .f32) (x10 : Vec Ideal S128x512 .bf16) (x11 : Vec Ideal S1x512 .f32) (x12 : Vec Ideal S128x512 .bf16) (x13 : Vec Ideal S1x512 .f32)
    (x14 : Vec Ideal S1x512 .f32) (x15 : Vec Ideal S128x512 .bf16) (x16 : Vec Ideal S1x512 .f32) (x17 : Vec Ideal S1x512 .f32) (x18 : Vec Ideal S256x256 .bf16) (x19 : Vec Ideal S1024x1024 .bf16) (y : S512x1024.Idx) : EReal :=
  projected (fun d => x0 (ix2 (n0 := 512) (n1 := 1024) (y 0) d)) (fun j => x1 (ix2 (n0 := 512) (n1 := 512) (y 0) j))
    (normedHeads (fun j => x2 (ix2 (n0 := 512) (n1 := 512) (y 0) j) + x3 (ix2 (n0 := 512) (n1 := 512) (y 0) j)) (fun j => x16 (ix2 0 j)) (fun j => x17 (ix2 0 j)))
    (bonusBoth (fun j => x4 (ix2 (n0 := 512) (n1 := 512) (y 0) j)) (fun j => x5 (ix2 (n0 := 512) (n1 := 512) (y 0) j)) (fun j => x6 (ix2 (n0 := 512) (n1 := 512) (y 0) j))
      (fun j => rate (fun j => x9 (ix2 0 j)) (fun j => x7 (ix2 (n0 := 512) (n1 := 128) (y 0) j)) (fun j c => x10 (ix2 j c)) j
        + rate (fun j => x11 (ix2 0 j)) (fun j => x7 (ix2 (n0 := 512) (n1 := 128) (y 0) j)) (fun j c => x12 (ix2 j c)) j)
      (fun j => x13 (ix2 0 j)) (fun j => x14 (ix2 0 j)))
    (gate (fun j => x8 (ix2 (n0 := 512) (n1 := 128) (y 0) j)) (fun j c => x15 (ix2 j c))) (fun k d => x19 (ix2 k d)) (y 1)

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole)
    (arg7 : Memref sig .tc .vmem S512x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512 .f32) (harg10 : arg10.IsWhole) (arg11 : Memref sig .tc .vmem S128x512 .bf16) (harg11 : arg11.IsWhole) (arg12 : Memref sig .tc .vmem S1x512 .f32) (harg12 : arg12.IsWhole)
    (arg13 : Memref sig .tc .vmem S128x512 .bf16) (harg13 : arg13.IsWhole) (arg14 : Memref sig .tc .vmem S1x512 .f32) (harg14 : arg14.IsWhole) (arg15 : Memref sig .tc .vmem S1x512 .f32) (harg15 : arg15.IsWhole) (arg16 : Memref sig .tc .vmem S128x512 .bf16) (harg16 : arg16.IsWhole) (arg17 : Memref sig .tc .vmem S1x512 .f32) (harg17 : arg17.IsWhole) (arg18 : Memref sig .tc .vmem S1x512 .f32) (harg18 : arg18.IsWhole)
    (arg19 : Memref sig .tc .vmem S256x256 .bf16) (harg19 : arg19.IsWhole) (arg20 : Memref sig .tc .vmem S1024x1024 .bf16) (harg20 : arg20.IsWhole) (arg21 : Memref sig .tc .vmem S512x1024 .f32) (harg21 : arg21.IsWhole)
    (x0 : Vec Ideal S512x1024 .f32) (x1 : Vec Ideal S512x512 .bf16) (x2 : Vec Ideal S512x512 .f32) (x3 : Vec Ideal S512x512 .f32) (x4 : Vec Ideal S512x512 .f32) (x5 : Vec Ideal S512x512 .f32) (x6 : Vec Ideal S512x512 .f32)
    (x7 : Vec Ideal S512x128 .f32) (x8 : Vec Ideal S512x128 .f32) (x9 : Vec Ideal S1x512 .f32) (x10 : Vec Ideal S128x512 .bf16) (x11 : Vec Ideal S1x512 .f32) (x12 : Vec Ideal S128x512 .bf16) (x13 : Vec Ideal S1x512 .f32)
    (x14 : Vec Ideal S1x512 .f32) (x15 : Vec Ideal S128x512 .bf16) (x16 : Vec Ideal S1x512 .f32) (x17 : Vec Ideal S1x512 .f32) (x18 : Vec Ideal S256x256 .bf16) (x19 : Vec Ideal S1024x1024 .bf16)
    (hhm : ∀ i j : Fin 256, x18 (ix2 i j) = if i.val / 64 = j.val / 64 then 1 else 0)

include hhm in
theorem pieces_of : View.PiecesOf (block x0 x1 x2 x3 x4 x5 x6 x7 x8 x9 x10 x11 x12 x13 x14 x15 x16 x17 x18 x19)
    (kernelPieces (F := Ideal) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19) := by
  unfold kernelPieces
  refine ⟨fun x => ?_, fun x => ?_, trivial⟩
  · unfold highValue
    rw [high_eq]
    obtain ⟨r, d, rfl⟩ : ∃ (r : Fin 256) (d : Fin 1024), x = ix2 r d := ⟨x 0, x 1, eta2 (n0 := 256) (n1 := 1024) x⟩
    refine (halfV_apply _ _ _ _ _ _ _ _ _ _ _ _ _ _ _ _ _ _ _ _ r (fun i j => ?_) d).trans ?_
    · exact (load_all arg19 harg19 x18 _ i j).trans (hhm i j)
    · simp only [load_high, load_all]
      refine Eq.trans ?_ (congrArg (block x0 x1 x2 x3 x4 x5 x6 x7 x8 x9 x10 x11 x12 x13 x14 x15 x16 x17 x18 x19) (a₁ := ix2 (n0 := 512) (n1 := 1024) ⟨256 + r.val, by omega⟩ d) (funext fun a => Fin.ext ?_))
      · rfl
      match a with
      | ⟨0, _⟩ => show 256 + r.val = 256 + 1 * r.val; omega
      | ⟨1, _⟩ => show d.val = 0 + 1 * d.val; omega
  · unfold lowValue
    rw [low_eq]
    obtain ⟨r, d, rfl⟩ : ∃ (r : Fin 256) (d : Fin 1024), x = ix2 r d := ⟨x 0, x 1, eta2 (n0 := 256) (n1 := 1024) x⟩
    refine (halfV_apply _ _ _ _ _ _ _ _ _ _ _ _ _ _ _ _ _ _ _ _ r (fun i j => ?_) d).trans ?_
    · exact (load_all arg19 harg19 x18 _ i j).trans (hhm i j)
    · simp only [load_low, load_all]
      refine Eq.trans ?_ (congrArg (block x0 x1 x2 x3 x4 x5 x6 x7 x8 x9 x10 x11 x12 x13 x14 x15 x16 x17 x18 x19) (a₁ := ix2 (n0 := 512) (n1 := 1024) ⟨r.val, by omega⟩ d) (funext fun a => Fin.ext ?_))
      · rfl
      match a with
      | ⟨0, _⟩ => show r.val = 0 + 1 * r.val; omega
      | ⟨1, _⟩ => show d.val = 0 + 1 * d.val; omega

include hhm in
/-- A grid point's block. -/
theorem out_apply (y : S512x1024.Idx) :
    out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 y = block x0 x1 x2 x3 x4 x5 x6 x7 x8 x9 x10 x11 x12 x13 x14 x15 x16 x17 x18 x19 y := by
  unfold out0_A_20
  rw [View.read_writes_junk_eq_canon]
  have h := View.canon_append_of_piecesOf (block x0 x1 x2 x3 x4 x5 x6 x7 x8 x9 x10 x11 x12 x13 x14 x15 x16 x17 x18 x19) [] _
    (pieces_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 x19 hhm) y
    (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18 x19 y)
  rwa [List.append_nil] at h

end

end Cert.OP
end
-- ==== Proof.OP.Array.lean ====
module

public import proofs.«01_k».proof.Proof.OP.Block
public import Idealize.ShloMosaic.Lib.StableHlo.RunRead

/-! # The output projection: its arrays -/

@[expose] public section

set_option maxRecDepth 16384

namespace Cert.OP

open Idealize.ShloMosaic Cert.FF Cert.Kernel6Ideal Cert.Kernel6Ideal.Gen

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 1] := (by decide +kernel : ∀ t : Fin grid0.N, win0_5.index t = ![t.val, 1])
theorem index6 : ∀ t : Fin cfg0.N, win0_6.index t = ![t.val, 2] := (by decide +kernel : ∀ t : Fin grid0.N, win0_6.index t = ![t.val, 2])
theorem index7 : ∀ t : Fin cfg0.N, win0_7.index t = ![t.val, 13] := (by decide +kernel : ∀ t : Fin grid0.N, win0_7.index t = ![t.val, 13])
theorem index8 : ∀ t : Fin cfg0.N, win0_8.index t = ![t.val, 14] := (by decide +kernel : ∀ t : Fin grid0.N, win0_8.index t = ![t.val, 14])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![0, 0] := (by decide +kernel : ∀ t : Fin grid0.N, win0_11.index t = ![0, 0])
theorem index12 : ∀ t : Fin cfg0.N, win0_12.index t = ![0, 0] := (by decide +kernel : ∀ t : Fin grid0.N, win0_12.index t = ![0, 0])
theorem index13 : ∀ t : Fin cfg0.N, win0_13.index t = ![0, 0] := (by decide +kernel : ∀ t : Fin grid0.N, win0_13.index t = ![0, 0])
theorem index14 : ∀ t : Fin cfg0.N, win0_14.index t = ![0, 0] := (by decide +kernel : ∀ t : Fin grid0.N, win0_14.index t = ![0, 0])
theorem index15 : ∀ t : Fin cfg0.N, win0_15.index t = ![0, 0] := (by decide +kernel : ∀ t : Fin grid0.N, win0_15.index t = ![0, 0])
theorem index16 : ∀ t : Fin cfg0.N, win0_16.index t = ![0, 0] := (by decide +kernel : ∀ t : Fin grid0.N, win0_16.index t = ![0, 0])
theorem index17 : ∀ t : Fin cfg0.N, win0_17.index t = ![0, 0] := (by decide +kernel : ∀ t : Fin grid0.N, win0_17.index t = ![0, 0])
theorem index18 : ∀ t : Fin cfg0.N, win0_18.index t = ![0, 0] := (by decide +kernel : ∀ t : Fin grid0.N, win0_18.index t = ![0, 0])
theorem index19 : ∀ t : Fin cfg0.N, win0_19.index t = ![0, 0] := (by decide +kernel : ∀ t : Fin grid0.N, win0_19.index t = ![0, 0])
theorem index20 : ∀ t : Fin cfg0.N, win0_20.index t = ![t.val, 0] := (by decide +kernel : ∀ t : Fin grid0.N, win0_20.index t = ![t.val, 0])

/-! ## The matrix of the heads -/

section
variable {s : Shape} (bc : Shape.BroadcastsInDim S_ s ![]) (x : (⟨s, .i32⟩ : BufTy).Contents (Elt Ideal))

/-- The quotient by 64, rounded down. -/
def quotient : (⟨s, .i32⟩ : BufTy).Contents (Elt Ideal) :=
  select (andi (cmpi .ne (signi x) (broadcastInDim s ![] bc (signi (constantI S_ 32 64#32))))
      (cmpi .ne (Host.remsi x (broadcastInDim s ![] bc (constantI S_ 32 64#32))) (broadcastInDim s ![] bc (constantI S_ 32 0#32))))
    (subi (Host.divsi x (broadcastInDim s ![] bc (constantI S_ 32 64#32))) (broadcastInDim s ![] bc (constantI S_ 32 1#32)))
    (Host.divsi x (broadcastInDim s ![] bc (constantI S_ 32 64#32)))

end

/-- The head of every row. -/
def rowHeads : (⟨S256x1, .i32⟩ : BufTy).Contents (Elt Ideal) := quotient bcast_S_S256x1 (broadcastInDim S256x1 ![0] bcast_S256_S256x1_0 (iotaInDim S256 32 0))

/-- The head of every column. -/
def columnHeads : (⟨S1x256, .i32⟩ : BufTy).Contents (Elt Ideal) := quotient bcast_S_S1x256 (broadcastInDim S1x256 ![1] bcast_S256_S1x256_1 (iotaInDim S256 32 0))

theorem rowHeads_apply : ∀ i : Fin 256, rowHeads (ix2 i 0) = BitVec.ofNat 32 (i.val / 64) := by
  decide +kernel

theorem columnHeads_apply : ∀ i : Fin 256, columnHeads (ix2 0 i) = BitVec.ofNat 32 (i.val / 64) := by
  decide +kernel

/-- One where a row and a column lie in the same head. -/
noncomputable def headMatrix : FVec Ideal S256x256 .bf16 :=
  uitofp .bf16 (cmpi .eq (broadcastInDim S256x256 ![0, 1] bcast_S256x1_S256x256_0_1 rowHeads) (broadcastInDim S256x256 ![0, 1] bcast_S1x256_S256x256_0_1 columnHeads))

theorem word_eq : ∀ i j : Fin 256, (BitVec.ofNat 32 (i.val / 64) == BitVec.ofNat 32 (j.val / 64)) = decide (i.val / 64 = j.val / 64) := by
  decide +kernel

theorem headMatrix_apply (i j : Fin 256) : headMatrix (ix2 i j) = if i.val / 64 = j.val / 64 then 1 else 0 := by
  have e : headMatrix (ix2 i j) = FloatOps.uitofp (F := Ideal) .bf16 (IntOp.cmpi .eq (rowHeads (ix2 i 0)) (columnHeads (ix2 0 j))) := by
    unfold headMatrix
    generalize rowHeads = a
    generalize columnHeads = b
    pointwise
  rw [e, rowHeads_apply, columnHeads_apply]
  have f : IntOp.cmpi .eq (BitVec.ofNat 32 (i.val / 64)) (BitVec.ofNat 32 (j.val / 64)) = BitVec.ofBool (decide (i.val / 64 = j.val / 64)) :=
    congrArg BitVec.ofBool (word_eq i j)
  rw [f]
  by_cases h : i.val / 64 = j.val / 64
  · rw [if_pos h, decide_eq_true h]
    show (((1#1 : BitVec 1).toNat : ℝ) : EReal) = 1
    simp
  · rw [if_neg h, decide_eq_false h]
    show (((0#1 : BitVec 1).toNat : ℝ) : EReal) = 0
    simp

section
variable (m : (ℓ : Loc nD τ sig) → Buf (Elt Ideal) ℓ) (c : Dev nD) (t : Fin cfg0.N)

/-! ## The arrays at the call, of the arguments -/

theorem V_h : V m c main_v33 = shapeCast S65536x1024 (m ((c.tc : Thread nD τ).loc main_arg0)) shapeCasts_S16x4096x1024_S65536x1024 := by
  unfold_abbrev_sides
  after_reads_simp
  rfl

theorem V_yna : V m c main_v34 = shapeCast S65536x512 (m ((c.tc : Thread nD τ).loc main_arg1)) shapeCasts_S16x4096x512_S65536x512 := by
  unfold_abbrev_sides
  after_reads_simp
  rfl

theorem V_y0 : V m c main_v35 = shapeCast S65536x512 (m ((c.tc : Thread nD τ).loc main_arg2)) shapeCasts_S16x4096x512_S65536x512 := by
  unfold_abbrev_sides
  after_reads_simp
  rfl

theorem V_y1 : V m c main_v36 = shapeCast S65536x512 (m ((c.tc : Thread nD τ).loc main_arg3)) shapeCasts_S16x4096x512_S65536x512 := by
  unfold_abbrev_sides
  after_reads_simp
  rfl

theorem V_u : V m c main_v37 = shapeCast S65536x1920 (m ((c.tc : Thread nD τ).loc main_arg4)) shapeCasts_S16x4096x1920_S65536x1920 := by
  unfold_abbrev_sides
  after_reads_simp
  rfl

theorem V_a00 : V m c main_v23 = shapeCast S1x512 (shapeCast S512 (extractStridedSlice S1x512 ![0, 0] (m ((c.tc : Thread nD τ).loc main_arg5)) slices_S2x512_S1x512_0_0) shapeCasts_S1x512_S512) shapeCasts_S512_S1x512 := by
  unfold_abbrev_sides
  after_reads_simp
  rfl

theorem V_aup0 : V m c main_v6 = (truncf .bf16 (concatenate S128x512 0 [⟨S64x512, shapeCast S64x512 (extractStridedSlice S1x64x512 ![0, 0, 0] (m ((c.tc : Thread nD τ).loc main_arg6)) slices_S2x64x512_S1x64x512_0_0_0) shapeCasts_S1x64x512_S64x512⟩, ⟨S64x512, broadcastInDim S64x512 ![] bcast_S_S64x512 (constant S_ .f32 0x00000000#32)⟩] concatenates_S64x512_S64x512_S128x512_d0) bitsLt_bf16_f32 : FVec Ideal S128x512 .bf16) := by
  unfold_abbrev_sides
  after_reads_simp
  rfl

theorem V_a01 : V m c main_v27 = shapeCast S1x512 (shapeCast S512 (extractStridedSlice S1x512 ![1, 0] (m ((c.tc : Thread nD τ).loc main_arg5)) slices_S2x512_S1x512_1_0) shapeCasts_S1x512_S512) shapeCasts_S512_S1x512 := by
  unfold_abbrev_sides
  after_reads_simp
  rfl

theorem V_aup1 : V m c main_v10 = (truncf .bf16 (concatenate S128x512 0 [⟨S64x512, broadcastInDim S64x512 ![] bcast_S_S64x512 (constant S_ .f32 0x00000000#32)⟩, ⟨S64x512, shapeCast S64x512 (extractStridedSlice S1x64x512 ![1, 0, 0] (m ((c.tc : Thread nD τ).loc main_arg6)) slices_S2x64x512_S1x64x512_1_0_0) shapeCasts_S1x64x512_S64x512⟩] concatenates_S64x512_S64x512_S128x512_d0) bitsLt_bf16_f32 : FVec Ideal S128x512 .bf16) := by
  unfold_abbrev_sides
  after_reads_simp
  rfl

theorem V_ka : V m c main_v20 = shapeCast S1x512 (m ((c.tc : Thread nD τ).loc main_arg8)) shapeCasts_S512_S1x512 := by
  unfold_abbrev_sides
  after_reads_simp
  rfl

theorem V_rk : V m c main_v28 = shapeCast S1x512 (m ((c.tc : Thread nD τ).loc main_arg9)) shapeCasts_S8x64_S1x512 := by
  unfold_abbrev_sides
  after_reads_simp
  rfl

theorem V_gup : V m c main_v29 = (truncf .bf16 (show FVec Ideal S128x512 .f32 from (m ((c.tc : Thread nD τ).loc main_arg7))) bitsLt_bf16_f32 : FVec Ideal S128x512 .bf16) := by
  unfold_abbrev_sides
  after_reads_simp

theorem V_lw : V m c main_v30 = shapeCast S1x512 (m ((c.tc : Thread nD τ).loc main_arg10)) shapeCasts_S512_S1x512 := by
  unfold_abbrev_sides
  after_reads_simp
  rfl

theorem V_lb : V m c main_v31 = shapeCast S1x512 (m ((c.tc : Thread nD τ).loc main_arg11)) shapeCasts_S512_S1x512 := by
  unfold_abbrev_sides
  after_reads_simp
  rfl

theorem V_hm : V m c main_v19 = headMatrix := by
  unfold_abbrev_sides
  after_reads_simp
  rfl

theorem V_w : V m c main_v32 = (truncf .bf16 (show FVec Ideal S1024x1024 .f32 from (m ((c.tc : Thread nD τ).loc main_arg12))) bitsLt_bf16_f32 : FVec Ideal S1024x1024 .bf16) := by
  unfold_abbrev_sides
  after_reads_simp

/-! ## The blocks -/

theorem lanes_apply (x : FVec Ideal S8x64 .f32) (h : S8x64.ShapeCasts S1x512) (k : Fin 512) :
    shapeCast S1x512 x h (ix2 0 k) = x (ix2 (n0 := 8) (n1 := 64) ⟨k.val / 64, by omega⟩ ⟨k.val % 64, by omega⟩) := by
  unfold shapeCast
  refine congrArg x (Shape.reshapeEquiv_eq_of_vals h _ _ _ _ (rowMajor_val2 _ 64 rfl) (rowMajor_val2 _ 512 rfl) ?_)
  show k.val / 64 * 64 + k.val % 64 = 0 * 512 + k.val
  omega

theorem block0 (r : Fin 512) (k : Fin 1024) (b : Fin 16) (s : Fin 4096) (h : b.val * 4096 + s.val = t.val * 512 + r.val) :
    iblk m c 0 t (ix2 r k) = (m ((c.tc : Thread nD τ).loc main_arg0)) (ix3 (n0 := 16) (n1 := 4096) (n2 := 1024) b s k) := by
  have e : iblk m c 0 t (ix2 r k) = shapeCast S65536x1024 (m ((c.tc : Thread nD τ).loc main_arg0)) shapeCasts_S16x4096x1024_S65536x1024
      (ix2 ⟨b.val * 4096 + s.val, by omega⟩ k) := by
    show V m c main_v33 (((cfg0.win 0).blk t).view.emb (ix2 r k)) = _
    rw [V_h]
    blk_ext [index0 t]
  rw [e]
  exact tokens_apply _ _ _ _ b s rfl

theorem block1 (r : Fin 512) (k : Fin 512) (b : Fin 16) (s : Fin 4096) (h : b.val * 4096 + s.val = t.val * 512 + r.val) :
    iblk m c 1 t (ix2 r k) = (m ((c.tc : Thread nD τ).loc main_arg1)) (ix3 (n0 := 16) (n1 := 4096) (n2 := 512) b s k) := by
  have e : iblk m c 1 t (ix2 r k) = shapeCast S65536x512 (m ((c.tc : Thread nD τ).loc main_arg1)) shapeCasts_S16x4096x512_S65536x512
      (ix2 ⟨b.val * 4096 + s.val, by omega⟩ k) := by
    show V m c main_v34 (((cfg0.win 1).blk t).view.emb (ix2 r k)) = _
    rw [V_yna]
    blk_ext [index1 t]
  rw [e]
  exact tokens_apply _ _ _ _ b s rfl

theorem block2 (r : Fin 512) (k : Fin 512) (b : Fin 16) (s : Fin 4096) (h : b.val * 4096 + s.val = t.val * 512 + r.val) :
    iblk m c 2 t (ix2 r k) = (m ((c.tc : Thread nD τ).loc main_arg2)) (ix3 (n0 := 16) (n1 := 4096) (n2 := 512) b s k) := by
  have e : iblk m c 2 t (ix2 r k) = shapeCast S65536x512 (m ((c.tc : Thread nD τ).loc main_arg2)) shapeCasts_S16x4096x512_S65536x512
      (ix2 ⟨b.val * 4096 + s.val, by omega⟩ k) := by
    show V m c main_v35 (((cfg0.win 2).blk t).view.emb (ix2 r k)) = _
    rw [V_y0]
    blk_ext [index2 t]
  rw [e]
  exact tokens_apply _ _ _ _ b s rfl

theorem block3 (r : Fin 512) (k : Fin 512) (b : Fin 16) (s : Fin 4096) (h : b.val * 4096 + s.val = t.val * 512 + r.val) :
    iblk m c 3 t (ix2 r k) = (m ((c.tc : Thread nD τ).loc main_arg3)) (ix3 (n0 := 16) (n1 := 4096) (n2 := 512) b s k) := by
  have e : iblk m c 3 t (ix2 r k) = shapeCast S65536x512 (m ((c.tc : Thread nD τ).loc main_arg3)) shapeCasts_S16x4096x512_S65536x512
      (ix2 ⟨b.val * 4096 + s.val, by omega⟩ k) := by
    show V m c main_v36 (((cfg0.win 3).blk t).view.emb (ix2 r k)) = _
    rw [V_y1]
    blk_ext [index3 t]
  rw [e]
  exact tokens_apply _ _ _ _ b s rfl

theorem rows_entry (x : FVec Ideal S16x4096x1920 .f32) (y : S65536x1920.Idx) (R : Fin 65536) (C : Fin 1920) (h0 : (y 0).val = R.val)
    (h1 : (y 1).val = C.val) : shapeCast S65536x1920 x shapeCasts_S16x4096x1920_S65536x1920 y = shapeCast S65536x1920 x shapeCasts_S16x4096x1920_S65536x1920 (ix2 R C) := by
  refine congrArg _ (funext fun a => Fin.ext ?_)
  match a with
  | ⟨0, _⟩ => exact h0
  | ⟨1, _⟩ => exact h1

theorem block4 (r : Fin 512) (k : Fin 512) (b : Fin 16) (s : Fin 4096) (h : b.val * 4096 + s.val = t.val * 512 + r.val) :
    X0_4 m c t (ix2 r k) = (m ((c.tc : Thread nD τ).loc main_arg4)) (ix3 (n0 := 16) (n1 := 4096) (n2 := 1920) b s ⟨k.val, by omega⟩) := by
  have e : X0_4 m c t (ix2 r k) = shapeCast S65536x1920 (m ((c.tc : Thread nD τ).loc main_arg4)) shapeCasts_S16x4096x1920_S65536x1920
      (ix2 ⟨b.val * 4096 + s.val, by omega⟩ ⟨k.val, by omega⟩) := by
    unfold X0_4 Pipeline.Window.fill
    rw [dif_pos (moved0_4 t (ix2 r k))]
    refine (congrFun (V_u m c) _).trans (rows_entry _ _ _ _ ?_ ?_)
    · have i0 : win0_4.index t 0 = t.val := by rw [index4]; rfl
      show win0_4.index t 0 * 512 + 1 * r.val = b.val * 4096 + s.val
      rw [i0, Nat.one_mul]; exact h.symm
    · have i1 : win0_4.index t 1 = 0 := by rw [index4]; rfl
      show win0_4.index t 1 * 512 + 1 * k.val = k.val
      rw [i1, Nat.one_mul]; exact Nat.zero_add _
  rw [e]
  exact tokens_apply _ _ _ _ b s rfl

theorem block5 (r : Fin 512) (k : Fin 512) (b : Fin 16) (s : Fin 4096) (h : b.val * 4096 + s.val = t.val * 512 + r.val) :
    X0_5 m c t (ix2 r k) = (m ((c.tc : Thread nD τ).loc main_arg4)) (ix3 (n0 := 16) (n1 := 4096) (n2 := 1920) b s ⟨512 + k.val, by omega⟩) := by
  have e : X0_5 m c t (ix2 r k) = shapeCast S65536x1920 (m ((c.tc : Thread nD τ).loc main_arg4)) shapeCasts_S16x4096x1920_S65536x1920
      (ix2 ⟨b.val * 4096 + s.val, by omega⟩ ⟨512 + k.val, by omega⟩) := by
    unfold X0_5 Pipeline.Window.fill
    rw [dif_pos (moved0_5 t (ix2 r k))]
    refine (congrFun (V_u m c) _).trans (rows_entry _ _ _ _ ?_ ?_)
    · have i0 : win0_5.index t 0 = t.val := by rw [index5]; rfl
      show win0_5.index t 0 * 512 + 1 * r.val = b.val * 4096 + s.val
      rw [i0, Nat.one_mul]; exact h.symm
    · have i1 : win0_5.index t 1 = 1 := by rw [index5]; rfl
      show win0_5.index t 1 * 512 + 1 * k.val = 512 + k.val
      rw [i1]; omega
  rw [e]
  exact tokens_apply _ _ _ _ b s rfl

theorem block6 (r : Fin 512) (k : Fin 512) (b : Fin 16) (s : Fin 4096) (h : b.val * 4096 + s.val = t.val * 512 + r.val) :
    X0_6 m c t (ix2 r k) = (m ((c.tc : Thread nD τ).loc main_arg4)) (ix3 (n0 := 16) (n1 := 4096) (n2 := 1920) b s ⟨1024 + k.val, by omega⟩) := by
  have e : X0_6 m c t (ix2 r k) = shapeCast S65536x1920 (m ((c.tc : Thread nD τ).loc main_arg4)) shapeCasts_S16x4096x1920_S65536x1920
      (ix2 ⟨b.val * 4096 + s.val, by omega⟩ ⟨1024 + k.val, by omega⟩) := by
    unfold X0_6 Pipeline.Window.fill
    rw [dif_pos (moved0_6 t (ix2 r k))]
    refine (congrFun (V_u m c) _).trans (rows_entry _ _ _ _ ?_ ?_)
    · have i0 : win0_6.index t 0 = t.val := by rw [index6]; rfl
      show win0_6.index t 0 * 512 + 1 * r.val = b.val * 4096 + s.val
      rw [i0, Nat.one_mul]; exact h.symm
    · have i1 : win0_6.index t 1 = 2 := by rw [index6]; rfl
      show win0_6.index t 1 * 512 + 1 * k.val = 1024 + k.val
      rw [i1]; omega
  rw [e]
  exact tokens_apply _ _ _ _ b s rfl

theorem block7 (r : Fin 512) (k : Fin 128) (b : Fin 16) (s : Fin 4096) (h : b.val * 4096 + s.val = t.val * 512 + r.val) :
    iblk m c 7 t (ix2 r k) = (m ((c.tc : Thread nD τ).loc main_arg4)) (ix3 (n0 := 16) (n1 := 4096) (n2 := 1920) b s ⟨1664 + k.val, by omega⟩) := by
  have e : iblk m c 7 t (ix2 r k) = shapeCast S65536x1920 (m ((c.tc : Thread nD τ).loc main_arg4)) shapeCasts_S16x4096x1920_S65536x1920
      (ix2 ⟨b.val * 4096 + s.val, by omega⟩ ⟨1664 + k.val, by omega⟩) := by
    show V m c main_v37 (((cfg0.win 7).blk t).view.emb (ix2 r k)) = _
    rw [V_u]
    blk_ext [index7 t]
  rw [e]
  exact tokens_apply _ _ _ _ b s rfl

theorem block8 (r : Fin 512) (k : Fin 128) (b : Fin 16) (s : Fin 4096) (h : b.val * 4096 + s.val = t.val * 512 + r.val) :
    iblk m c 8 t (ix2 r k) = (m ((c.tc : Thread nD τ).loc main_arg4)) (ix3 (n0 := 16) (n1 := 4096) (n2 := 1920) b s ⟨1792 + k.val, by omega⟩) := by
  have e : iblk m c 8 t (ix2 r k) = shapeCast S65536x1920 (m ((c.tc : Thread nD τ).loc main_arg4)) shapeCasts_S16x4096x1920_S65536x1920
      (ix2 ⟨b.val * 4096 + s.val, by omega⟩ ⟨1792 + k.val, by omega⟩) := by
    show V m c main_v37 (((cfg0.win 8).blk t).view.emb (ix2 r k)) = _
    rw [V_u]
    blk_ext [index8 t]
  rw [e]
  exact tokens_apply _ _ _ _ b s rfl

theorem block9 (k : Fin 512) : iblk m c 9 t (ix2 0 k) = (m ((c.tc : Thread nD τ).loc main_arg5)) (ix2 (n0 := 2) (n1 := 512) 0 k) := by
  have e : iblk m c 9 t (ix2 0 k) = shapeCast S1x512 (shapeCast S512 (extractStridedSlice S1x512 ![0, 0] (m ((c.tc : Thread nD τ).loc main_arg5)) slices_S2x512_S1x512_0_0) shapeCasts_S1x512_S512) shapeCasts_S512_S1x512 (ix2 0 k) := by
    show V m c main_v23 (((cfg0.win 9).blk t).view.emb (ix2 0 k)) = _
    rw [V_a00]
    blk_ext [index9 t]
  rw [e]
  pointwise

theorem block10 (j : Fin 128) (k : Fin 512) : iblk m c 10 t (ix2 j k) = if h : j.val < 64 then (m ((c.tc : Thread nD τ).loc main_arg6)) (ix3 (n0 := 2) (n1 := 64) (n2 := 512) 0 ⟨j.val, h⟩ k) else (0 : EReal) := by
  have e : iblk m c 10 t (ix2 j k) = (truncf .bf16 (concatenate S128x512 0 [⟨S64x512, shapeCast S64x512 (extractStridedSlice S1x64x512 ![0, 0, 0] (m ((c.tc : Thread nD τ).loc main_arg6)) slices_S2x64x512_S1x64x512_0_0_0) shapeCasts_S1x64x512_S64x512⟩, ⟨S64x512, broadcastInDim S64x512 ![] bcast_S_S64x512 (constant S_ .f32 0x00000000#32)⟩] concatenates_S64x512_S64x512_S128x512_d0) bitsLt_bf16_f32 : FVec Ideal S128x512 .bf16) (ix2 j k) := by
    show V m c main_v6 (((cfg0.win 10).blk t).view.emb (ix2 j k)) = _
    rw [V_aup0]
    blk_ext [index10 t]
  rw [e]
  pointwise

theorem block11 (k : Fin 512) : iblk m c 11 t (ix2 0 k) = (m ((c.tc : Thread nD τ).loc main_arg5)) (ix2 (n0 := 2) (n1 := 512) 1 k) := by
  have e : iblk m c 11 t (ix2 0 k) = shapeCast S1x512 (shapeCast S512 (extractStridedSlice S1x512 ![1, 0] (m ((c.tc : Thread nD τ).loc main_arg5)) slices_S2x512_S1x512_1_0) shapeCasts_S1x512_S512) shapeCasts_S512_S1x512 (ix2 0 k) := by
    show V m c main_v27 (((cfg0.win 11).blk t).view.emb (ix2 0 k)) = _
    rw [V_a01]
    blk_ext [index11 t]
  rw [e]
  pointwise

theorem block12 (j : Fin 128) (k : Fin 512) : iblk m c 12 t (ix2 j k) = if h : j.val < 64 then (0 : EReal) else (m ((c.tc : Thread nD τ).loc main_arg6)) (ix3 (n0 := 2) (n1 := 64) (n2 := 512) 1 ⟨j.val - 64, by omega⟩ k) := by
  have e : iblk m c 12 t (ix2 j k) = (truncf .bf16 (concatenate S128x512 0 [⟨S64x512, broadcastInDim S64x512 ![] bcast_S_S64x512 (constant S_ .f32 0x00000000#32)⟩, ⟨S64x512, shapeCast S64x512 (extractStridedSlice S1x64x512 ![1, 0, 0] (m ((c.tc : Thread nD τ).loc main_arg6)) slices_S2x64x512_S1x64x512_1_0_0) shapeCasts_S1x64x512_S64x512⟩] concatenates_S64x512_S64x512_S128x512_d0) bitsLt_bf16_f32 : FVec Ideal S128x512 .bf16) (ix2 j k) := by
    show V m c main_v10 (((cfg0.win 12).blk t).view.emb (ix2 j k)) = _
    rw [V_aup1]
    blk_ext [index12 t]
  rw [e]
  pointwise

theorem block13 (k : Fin 512) : iblk m c 13 t (ix2 0 k) = (m ((c.tc : Thread nD τ).loc main_arg8)) (ix1 (n0 := 512) k) := by
  have e : iblk m c 13 t (ix2 0 k) = shapeCast S1x512 (m ((c.tc : Thread nD τ).loc main_arg8)) shapeCasts_S512_S1x512 (ix2 0 k) := by
    show V m c main_v20 (((cfg0.win 13).blk t).view.emb (ix2 0 k)) = _
    rw [V_ka]
    blk_ext [index13 t]
  rw [e]
  pointwise

theorem block14 (k : Fin 512) : iblk m c 14 t (ix2 0 k) = (m ((c.tc : Thread nD τ).loc main_arg9)) (ix2 (n0 := 8) (n1 := 64) ⟨k.val / 64, by omega⟩ ⟨k.val % 64, by omega⟩) := by
  have e : iblk m c 14 t (ix2 0 k) = shapeCast S1x512 (m ((c.tc : Thread nD τ).loc main_arg9)) shapeCasts_S8x64_S1x512 (ix2 0 k) := by
    show V m c main_v28 (((cfg0.win 14).blk t).view.emb (ix2 0 k)) = _
    rw [V_rk]
    blk_ext [index14 t]
  rw [e]
  exact lanes_apply _ _ k

theorem block15 (j : Fin 128) (k : Fin 512) : iblk m c 15 t (ix2 j k) = (m ((c.tc : Thread nD τ).loc main_arg7)) (ix2 (n0 := 128) (n1 := 512) j k) := by
  have e : iblk m c 15 t (ix2 j k) = (truncf .bf16 (show FVec Ideal S128x512 .f32 from (m ((c.tc : Thread nD τ).loc main_arg7))) bitsLt_bf16_f32 : FVec Ideal S128x512 .bf16) (ix2 j k) := by
    show V m c main_v29 (((cfg0.win 15).blk t).view.emb (ix2 j k)) = _
    rw [V_gup]
    blk_ext [index15 t]
  rw [e]
  pointwise

theorem block16 (k : Fin 512) : iblk m c 16 t (ix2 0 k) = (m ((c.tc : Thread nD τ).loc main_arg10)) (ix1 (n0 := 512) k) := by
  have e : iblk m c 16 t (ix2 0 k) = shapeCast S1x512 (m ((c.tc : Thread nD τ).loc main_arg10)) shapeCasts_S512_S1x512 (ix2 0 k) := by
    show V m c main_v30 (((cfg0.win 16).blk t).view.emb (ix2 0 k)) = _
    rw [V_lw]
    blk_ext [index16 t]
  rw [e]
  pointwise

theorem block17 (k : Fin 512) : iblk m c 17 t (ix2 0 k) = (m ((c.tc : Thread nD τ).loc main_arg11)) (ix1 (n0 := 512) k) := by
  have e : iblk m c 17 t (ix2 0 k) = shapeCast S1x512 (m ((c.tc : Thread nD τ).loc main_arg11)) shapeCasts_S512_S1x512 (ix2 0 k) := by
    show V m c main_v31 (((cfg0.win 17).blk t).view.emb (ix2 0 k)) = _
    rw [V_lb]
    blk_ext [index17 t]
  rw [e]
  pointwise

theorem block18 (j : Fin 256) (k : Fin 256) : iblk m c 18 t (ix2 j k) = if j.val / 64 = k.val / 64 then (1 : EReal) else 0 := by
  have e : iblk m c 18 t (ix2 j k) = headMatrix (ix2 j k) := by
    show V m c main_v19 (((cfg0.win 18).blk t).view.emb (ix2 j k)) = _
    rw [V_hm]
    blk_ext [index18 t]
  rw [e]
  exact headMatrix_apply j k

theorem block19 (j : Fin 1024) (k : Fin 1024) : iblk m c 19 t (ix2 j k) = (m ((c.tc : Thread nD τ).loc main_arg12)) (ix2 (n0 := 1024) (n1 := 1024) j k) := by
  have e : iblk m c 19 t (ix2 j k) = (truncf .bf16 (show FVec Ideal S1024x1024 .f32 from (m ((c.tc : Thread nD τ).loc main_arg12))) bitsLt_bf16_f32 : FVec Ideal S1024x1024 .bf16) (ix2 j k) := by
    show V m c main_v32 (((cfg0.win 19).blk t).view.emb (ix2 j k)) = _
    rw [V_w]
    blk_ext [index19 t]
  rw [e]
  pointwise

end

end Cert.OP
end
-- ==== Proof.OP.Algebra.lean ====
module

public import proofs.«01_k».proof.Proof.OP.Spec

/-! # Where the output projection's kernel and reference differ

The kernel multiplies by a sixty-fourth where the reference divides by 64, pads the low-rank matrices with zero rows, and takes the
bonus of both directions from the sum of their rates. -/

@[expose] public section

namespace Cert.OP

open Idealize.ShloMosaic Cert.FF

theorem one_bits : Ideal.ofBits .f32 0x3F800000#32 = ((1 : ℝ) : EReal) := by
  simp [Ideal.ofBits, Ideal.ieee, -EReal.coe_one]
  rw [← EReal.coe_mul]
  norm_num

theorem two_bits : Ideal.ofBits .f32 0x40000000#32 = ((2 : ℝ) : EReal) := by
  simp [Ideal.ofBits, Ideal.ieee]
  rw [← EReal.coe_mul]
  norm_num

theorem sixtyFour_bits : Ideal.ofBits .f32 0x42800000#32 = ((64 : ℝ) : EReal) := by
  simp [Ideal.ofBits, Ideal.ieee]
  rw [← EReal.coe_mul]
  norm_num

theorem sixtyFourth_bits : Ideal.ofBits .f32 0x3C800000#32 = ((1 / 64 : ℝ) : EReal) := by
  simp [Ideal.ofBits, Ideal.ieee]
  rw [← EReal.coe_mul]
  norm_num

/-- To divide by 64 is to multiply by a sixty-fourth. -/
theorem div_sixtyFour (x : EReal) : Ideal.div x (Ideal.ofBits .f32 0x42800000#32) = x * Ideal.ofBits .f32 0x3C800000#32 := by
  rw [sixtyFour_bits, sixtyFourth_bits]
  unfold Ideal.div
  rw [if_neg (by exact_mod_cast (by norm_num : (64 : ℝ) ≠ 0)), ← EReal.coe_inv]
  norm_num

/-- The reference's sigmoid. -/
theorem sigmoid_eq (z : EReal) :
    Ideal.div (Ideal.ofBits .f32 0x3F800000#32) (Ideal.ofBits .f32 0x3F800000#32 + Ideal.exp (-z)) = Ideal.logistic z := by
  rw [one_bits, EReal.coe_one]
  rfl

/-- A sigmoid is real. -/
theorem logistic_real (z : EReal) : ∃ q : ℝ, Ideal.logistic z = q := by
  induction z with
  | bot => exact ⟨0, by simp⟩
  | top => exact ⟨1, by simp⟩
  | coe r => exact ⟨_, Ideal.logistic_coe r⟩

/-- A sum of reals is real. -/
theorem headSum_coe (f : Fin 512 → ℝ) (c : Fin 512) : headSum (fun j => (f j : EReal)) c = ((∑ i : Fin 64, f (sameHead c i) : ℝ) : EReal) :=
  (map_sum (⟨⟨fun q : ℝ => (q : EReal), EReal.coe_zero⟩, EReal.coe_add⟩ : ℝ →+ EReal) (fun i => f (sameHead c i)) Finset.univ).symm

/-- The bonus by the sum of the rates is the sum of the bonuses, as long as what it multiplies is real. -/
theorem bonus_eq (r k v a b ka rk : Fin 512 → EReal) (c : Fin 512) (hr : ∀ j, ∃ q : ℝ, r j = q) (hk : ∀ j, ∃ q : ℝ, k j = q)
    (hv : ∀ j, ∃ q : ℝ, v j = q) (ha : ∀ j, ∃ q : ℝ, a j = q) (hb : ∀ j, ∃ q : ℝ, b j = q) (hka : ∀ j, ∃ q : ℝ, ka j = q)
    (hrk : ∀ j, ∃ q : ℝ, rk j = q) :
    bonusBoth r k v (fun j => a j + b j) ka rk c = bonusOne r k v a ka rk c + bonusOne r k v b ka rk c := by
  choose r' hr using hr
  choose k' hk using hk
  choose v' hv using hv
  choose a' ha using ha
  choose b' hb using hb
  choose ka' hka using hka
  choose rk' hrk using hrk
  unfold bonusBoth bonusOne
  simp only [hr, hk, hv, ha, hb, hka, hrk, two_bits]
  rw [← EReal.coe_one]
  simp only [← EReal.coe_add, ← EReal.coe_sub, ← EReal.coe_mul, headSum_coe]
  congr 1
  rw [← add_mul, ← Finset.sum_add_distrib]
  congr 1
  refine Finset.sum_congr rfl fun i _ => ?_
  ring

/-- A sum over 128 is that over the first 64 and that over the last 64. -/
theorem sum_halves (f : Fin 128 → EReal) :
    ∑ j : Fin 128, f j = ∑ i : Fin 64, f ⟨i.val, by omega⟩ + ∑ i : Fin 64, f ⟨64 + i.val, by omega⟩ :=
  Fin.sum_univ_add (a := 64) (b := 64) f

/-- Zero rows below add nothing. -/
theorem through_below {n : Nat} (x : Fin 128 → EReal) (w : Fin 64 → Fin n → EReal) (k : Fin n) :
    through x (fun j k => if h : j.val < 64 then w ⟨j.val, h⟩ k else 0) k = through (fun i : Fin 64 => x ⟨i.val, by omega⟩) w k := by
  unfold through
  rw [sum_halves]
  refine (congrArg₂ (· + ·) (Finset.sum_congr rfl fun i _ => ?_) (Finset.sum_eq_zero fun i _ => ?_)).trans (add_zero _)
  · beta_reduce
    rw [dif_pos i.isLt]
  · beta_reduce
    rw [dif_neg (by show ¬ 64 + i.val < 64; omega), mul_zero]

/-- Zero rows above add nothing. -/
theorem through_above {n : Nat} (x : Fin 128 → EReal) (w : Fin 64 → Fin n → EReal) (k : Fin n) :
    through x (fun j k => if h : j.val < 64 then 0 else w ⟨j.val - 64, by omega⟩ k) k
      = through (fun i : Fin 64 => x ⟨64 + i.val, by omega⟩) w k := by
  unfold through
  rw [sum_halves]
  refine (congrArg₂ (· + ·) (Finset.sum_eq_zero fun i _ => ?_) (Finset.sum_congr rfl fun i _ => ?_)).trans (zero_add _)
  · beta_reduce
    rw [dif_pos i.isLt, mul_zero]
  · beta_reduce
    rw [dif_neg (by show ¬ 64 + i.val < 64; omega)]
    exact congrArg (fun q => x ⟨64 + i.val, by omega⟩ * w q k) (Fin.ext (by show 64 + i.val - 64 = i.val; omega))

end Cert.OP
end
-- ==== Proof.OP.Ref.lean ====
module

public import proofs.«01_k».proof.Proof.OP.Algebra
public import proofs.«01_k».proof.Proof.Gen.Reference6Ideal.Read
public import Idealize.ShloMosaic.Lib.KernelVsHost

/-! # The output projection's reference at an index -/

@[expose] public section

set_option maxRecDepth 16384

namespace Cert.OP.Ref

open Idealize.ShloMosaic Cert.FF Cert.OP Cert.Reference6Ideal Cert.Reference6Ideal.Read

/-- The columns of one token, by head and lane. -/
theorem heads_apply {α : Type} (x : S16x4096x512.Idx → α) (h : S16x4096x512.ShapeCasts S16x4096x8x64) (b : Fin 16) (s : Fin 4096) (p : Fin 8)
    (i : Fin 64) : shapeCast S16x4096x8x64 x h (ix4 b s p i) = x (ix3 (n0 := 16) (n1 := 4096) (n2 := 512) b s ⟨p.val * 64 + i.val, by omega⟩) := by
  unfold shapeCast
  refine congrArg x (Shape.reshapeEquiv_eq_of_vals h _ _ _ _ (rowMajor_val3 _ (4096 * 512) 512 rfl rfl) (rowMajor_val4 _ (4096 * (8 * 64)) (8 * 64) 64 rfl rfl rfl) ?_)
  show b.val * (4096 * 512) + s.val * 512 + (p.val * 64 + i.val) = b.val * (4096 * (8 * 64)) + s.val * (8 * 64) + p.val * 64 + i.val
  omega

/-- Heads and lanes as the columns of one token. -/
theorem columns_apply {α : Type} (x : S16x4096x8x64.Idx → α) (h : S16x4096x8x64.ShapeCasts S16x4096x512) (b : Fin 16) (s : Fin 4096) (c : Fin 512) :
    shapeCast S16x4096x512 x h (ix3 b s c)
      = x (ix4 (n0 := 16) (n1 := 4096) (n2 := 8) (n3 := 64) b s ⟨c.val / 64, by omega⟩ ⟨c.val % 64, by omega⟩) := by
  unfold shapeCast
  refine congrArg x (Shape.reshapeEquiv_eq_of_vals h _ _ _ _ (rowMajor_val4 _ (4096 * (8 * 64)) (8 * 64) 64 rfl rfl rfl) (rowMajor_val3 _ (4096 * 512) 512 rfl rfl) ?_)
  show b.val * (4096 * (8 * 64)) + s.val * (8 * 64) + c.val / 64 * 64 + c.val % 64 = b.val * (4096 * 512) + s.val * 512 + c.val
  omega

/-- Column `c` is lane `c % 64` of head `c / 64`. -/
theorem column_lane (c : Fin 512) : (⟨c.val / 64 * 64 + c.val % 64, by omega⟩ : Fin 512) = c := Fin.ext (by show c.val / 64 * 64 + c.val % 64 = c.val; omega)

/-- Lane `i` of head `p`. -/
def lane (p : Fin 8) (i : Fin 64) : Fin 512 := ⟨p.val * 64 + i.val, by omega⟩

theorem headSum_lane (f : Fin 512 → EReal) (p : Fin 8) (i : Fin 64) : headSum f (lane p i) = ∑ q : Fin 64, f (lane p q) := by
  unfold headSum
  refine Finset.sum_congr rfl fun q _ => congrArg f (Fin.ext ?_)
  show (p.val * 64 + i.val) / 64 * 64 + q.val = p.val * 64 + q.val
  omega

section
variable (h : FVec Ideal S16x4096x1024 .f32) (yna : FVec Ideal S16x4096x512 .bf16) (y0 y1 : FVec Ideal S16x4096x512 .f32)
  (u : FVec Ideal S16x4096x1920 .f32) (a0 : FVec Ideal S2x512 .f32) (aup : FVec Ideal S2x64x512 .f32) (gup : FVec Ideal S128x512 .f32)
  (ka : FVec Ideal S512 .f32) (rk : FVec Ideal S8x64 .f32) (lw lb : FVec Ideal S512 .f32) (w : FVec Ideal S1024x1024 .f32)
  (b : Fin 16) (s : Fin 4096)

/-- The rate of direction 0. -/
noncomputable def rate0 (c : Fin 512) : EReal :=
  rate (fun j => a0 (ix2 (n0 := 2) (n1 := 512) 0 j)) (fun i : Fin 64 => u (ix3 (n0 := 16) (n1 := 4096) (n2 := 1920) b s ⟨1664 + i.val, by omega⟩))
    (fun i j => aup (ix3 (n0 := 2) (n1 := 64) (n2 := 512) 0 i j)) c

/-- The rate of direction 1. -/
noncomputable def rate1 (c : Fin 512) : EReal :=
  rate (fun j => a0 (ix2 (n0 := 2) (n1 := 512) 1 j)) (fun i : Fin 64 => u (ix3 (n0 := 16) (n1 := 4096) (n2 := 1920) b s ⟨1728 + i.val, by omega⟩))
    (fun i j => aup (ix3 (n0 := 2) (n1 := 64) (n2 := 512) 1 i j)) c

/-- The receptance, key and value of a token. -/
noncomputable def receptance (c : Fin 512) : EReal := u (ix3 (n0 := 16) (n1 := 4096) (n2 := 1920) b s ⟨c.val, by omega⟩)
noncomputable def key (c : Fin 512) : EReal := u (ix3 (n0 := 16) (n1 := 4096) (n2 := 1920) b s ⟨512 + c.val, by omega⟩)
noncomputable def value (c : Fin 512) : EReal := u (ix3 (n0 := 16) (n1 := 4096) (n2 := 1920) b s ⟨1024 + c.val, by omega⟩)

theorem low0_apply (c : Fin 512) : val_main_v17 (F := Ideal) u aup (ix3 b s c)
    = through (fun i : Fin 64 => u (ix3 (n0 := 16) (n1 := 4096) (n2 := 1920) b s ⟨1664 + i.val, by omega⟩)) (fun i j => aup (ix3 (n0 := 2) (n1 := 64) (n2 := 512) 0 i j)) c := by
  unfold through
  pointwise [val_main_v17, val_main_v3, val_main_v16, val_main_v15]

theorem low1_apply (c : Fin 512) : val_main_v50 (F := Ideal) u aup (ix3 b s c)
    = through (fun i : Fin 64 => u (ix3 (n0 := 16) (n1 := 4096) (n2 := 1920) b s ⟨1728 + i.val, by omega⟩)) (fun i j => aup (ix3 (n0 := 2) (n1 := 64) (n2 := 512) 1 i j)) c := by
  unfold through
  pointwise [val_main_v50, val_main_v4, val_main_v49, val_main_v48]

theorem rate0_apply (c : Fin 512) : val_main_v26 (F := Ideal) u a0 aup (ix3 b s c) = rate0 u a0 aup b s c := by
  unfold rate0 rate
  rw [← low0_apply, ← sigmoid_eq]
  generalize e : val_main_v17 (F := Ideal) u aup = q
  pointwise [val_main_v26, val_main_v25, val_main_cst_2, val_main_v24, val_main_v23, val_main_cst_1, val_main_v22, val_main_v21, val_main_v20, e, val_main_v19, val_main_v18, val_main_v14, val_main_v13]

theorem rate1_apply (c : Fin 512) : val_main_v59 (F := Ideal) u a0 aup (ix3 b s c) = rate1 u a0 aup b s c := by
  unfold rate1 rate
  rw [← low1_apply, ← sigmoid_eq]
  generalize e : val_main_v50 (F := Ideal) u aup = q
  pointwise [val_main_v59, val_main_v58, val_main_cst_7, val_main_v57, val_main_v56, val_main_cst_6, val_main_v55, val_main_v54, val_main_v53, e, val_main_v52, val_main_v51, val_main_v47, val_main_v46]

theorem gate_apply (c : Fin 512) : val_main_v12 (F := Ideal) u gup (ix3 b s c)
    = gate (fun i : Fin 128 => u (ix3 (n0 := 16) (n1 := 4096) (n2 := 1920) b s ⟨1792 + i.val, by omega⟩)) (fun i j => gup (ix2 (n0 := 128) (n1 := 512) i j)) c := by
  unfold gate through
  simp only [← sigmoid_eq]
  pointwise [val_main_v12, val_main_v11, val_main_v10, val_main_cst_0, val_main_v9, val_main_v8, val_main_cst, val_main_v7, val_main_v6, val_main_v5]

theorem key0_apply (c : Fin 512) : val_main_v34 (F := Ideal) u a0 aup ka (ix3 b s c)
    = key u b s c * (1 + (rate0 u a0 aup b s c - 1) * ka (ix1 (n0 := 512) c)) := by
  rw [← rate0_apply]
  unfold key
  have o := one_bits
  rw [EReal.coe_one] at o
  rw [← o]
  generalize e : val_main_v26 (F := Ideal) u a0 aup = q
  pointwise [val_main_v34, val_main_v33, val_main_v32, val_main_cst_4, val_main_v31, val_main_v30, val_main_v29, val_main_v28, val_main_v27, val_main_cst_3, e, val_main_v1]

theorem key1_apply (c : Fin 512) : val_main_v67 (F := Ideal) u a0 aup ka (ix3 b s c)
    = key u b s c * (1 + (rate1 u a0 aup b s c - 1) * ka (ix1 (n0 := 512) c)) := by
  rw [← rate1_apply]
  unfold key
  have o := one_bits
  rw [EReal.coe_one] at o
  rw [← o]
  generalize e : val_main_v59 (F := Ideal) u a0 aup = q
  pointwise [val_main_v67, val_main_v66, val_main_v65, val_main_cst_9, val_main_v64, val_main_v63, val_main_v62, val_main_v61, val_main_v60, val_main_cst_8, e, val_main_v1]

/-- The weights of the bonus. -/
noncomputable def bonusWeight (c : Fin 512) : EReal := rk (ix2 (n0 := 8) (n1 := 64) ⟨c.val / 64, by omega⟩ ⟨c.val % 64, by omega⟩)

theorem bonusWeight_lane (p : Fin 8) (i : Fin 64) : bonusWeight rk (lane p i) = rk (ix2 p i) := by
  unfold bonusWeight
  refine congrArg rk (congrArg₂ (ix2 (n0 := 8) (n1 := 64)) (Fin.ext ?_) (Fin.ext ?_))
  · show (p.val * 64 + i.val) / 64 = p.val; omega
  · show (p.val * 64 + i.val) % 64 = i.val; omega

theorem receptance_apply (p : Fin 8) (i : Fin 64) : val_main_v36 (F := Ideal) u (ix4 b s p i) = receptance u b s (lane p i) := by
  refine (heads_apply _ _ b s p i).trans ?_
  unfold receptance lane
  pointwise [val_main_v0]

theorem receptance_apply' (p : Fin 8) (i : Fin 64) : val_main_v69 (F := Ideal) u (ix4 b s p i) = receptance u b s (lane p i) := by
  refine (heads_apply _ _ b s p i).trans ?_
  unfold receptance lane
  pointwise [val_main_v0]

theorem value_apply (p : Fin 8) (i : Fin 64) : val_main_v43 (F := Ideal) u (ix4 b s p i) = value u b s (lane p i) := by
  refine (heads_apply _ _ b s p i).trans ?_
  unfold value lane
  pointwise [val_main_v2]

theorem value_apply' (p : Fin 8) (i : Fin 64) : val_main_v76 (F := Ideal) u (ix4 b s p i) = value u b s (lane p i) := by
  refine (heads_apply _ _ b s p i).trans ?_
  unfold value lane
  pointwise [val_main_v2]

theorem product0_apply (p : Fin 8) (i : Fin 64) : val_main_v40 (F := Ideal) u a0 aup ka rk (ix4 b s p i)
    = receptance u b s (lane p i) * (key u b s (lane p i) * (1 + (rate0 u a0 aup b s (lane p i) - 1) * ka (ix1 (n0 := 512) (lane p i)))) * bonusWeight rk (lane p i) := by
  rw [bonusWeight_lane, ← receptance_apply, ← key0_apply]
  refine (?_ : _ = val_main_v36 (F := Ideal) u (ix4 b s p i) * val_main_v35 (F := Ideal) u a0 aup ka (ix4 b s p i) * rk (ix2 p i)).trans ?_
  · generalize e : val_main_v36 (F := Ideal) u = q
    generalize e' : val_main_v35 (F := Ideal) u a0 aup ka = q'
    pointwise [val_main_v40, val_main_v39, val_main_v38, val_main_v37, e, e']
  · exact congrArg (fun z => val_main_v36 (F := Ideal) u (ix4 b s p i) * z * rk (ix2 p i)) (heads_apply _ _ b s p i)

theorem product1_apply (p : Fin 8) (i : Fin 64) : val_main_v73 (F := Ideal) u a0 aup ka rk (ix4 b s p i)
    = receptance u b s (lane p i) * (key u b s (lane p i) * (1 + (rate1 u a0 aup b s (lane p i) - 1) * ka (ix1 (n0 := 512) (lane p i)))) * bonusWeight rk (lane p i) := by
  rw [bonusWeight_lane, ← receptance_apply', ← key1_apply]
  refine (?_ : _ = val_main_v69 (F := Ideal) u (ix4 b s p i) * val_main_v68 (F := Ideal) u a0 aup ka (ix4 b s p i) * rk (ix2 p i)).trans ?_
  · generalize e : val_main_v69 (F := Ideal) u = q
    generalize e' : val_main_v68 (F := Ideal) u a0 aup ka = q'
    pointwise [val_main_v73, val_main_v72, val_main_v71, val_main_v70, e, e']
  · exact congrArg (fun z => val_main_v69 (F := Ideal) u (ix4 b s p i) * z * rk (ix2 p i)) (heads_apply _ _ b s p i)

theorem bonus0_apply (p : Fin 8) (i : Fin 64) : val_main_v45 (F := Ideal) u a0 aup ka rk (ix4 b s p i)
    = bonusOne (receptance u b s) (key u b s) (value u b s) (rate0 u a0 aup b s) (fun c => ka (ix1 c)) (bonusWeight rk) (lane p i) := by
  unfold bonusOne
  rw [headSum_lane]
  rw [← value_apply]
  generalize e : val_main_v40 (F := Ideal) u a0 aup ka rk = q
  generalize e' : val_main_v43 (F := Ideal) u = q'
  pointwise [val_main_v45, val_main_v44, val_main_v42, val_main_v41, val_main_cst_5, e, e']
  refine congrArg (· * _) (Finset.sum_congr rfl fun x _ => ?_)
  rw [← e]
  exact product0_apply u a0 aup ka rk b s p x

theorem bonus1_apply (p : Fin 8) (i : Fin 64) : val_main_v78 (F := Ideal) u a0 aup ka rk (ix4 b s p i)
    = bonusOne (receptance u b s) (key u b s) (value u b s) (rate1 u a0 aup b s) (fun c => ka (ix1 c)) (bonusWeight rk) (lane p i) := by
  unfold bonusOne
  rw [headSum_lane]
  rw [← value_apply']
  generalize e : val_main_v73 (F := Ideal) u a0 aup ka rk = q
  generalize e' : val_main_v76 (F := Ideal) u = q'
  pointwise [val_main_v78, val_main_v77, val_main_v75, val_main_v74, val_main_cst_10, e, e']
  refine congrArg (· * _) (Finset.sum_congr rfl fun x _ => ?_)
  rw [← e]
  exact product1_apply u a0 aup ka rk b s p x

/-- The recurrence's two directions together. -/
noncomputable def both (c : Fin 512) : EReal := y0 (ix3 (n0 := 16) (n1 := 4096) (n2 := 512) b s c) + y1 (ix3 (n0 := 16) (n1 := 4096) (n2 := 512) b s c)

theorem both_apply (p : Fin 8) (i : Fin 64) : val_main_v82 (F := Ideal) y0 y1 (ix4 b s p i) = both y0 y1 b s (lane p i) :=
  (congrArg₂ (· + ·) (heads_apply y0 _ b s p i) (heads_apply y1 _ b s p i) : _)

theorem mean_apply (p : Fin 8) (i : Fin 64) :
    val_main_v86 (F := Ideal) y0 y1 (ix4 (n0 := 16) (n1 := 4096) (n2 := 8) (n3 := 1) b s p 0) = headSum (both y0 y1 b s) (lane p i) * Ideal.ofBits .f32 0x3C800000#32 := by
  rw [headSum_lane, ← div_sixtyFour]
  simp only [← both_apply]
  generalize e : val_main_v82 (F := Ideal) y0 y1 = q
  pointwise [val_main_v86, val_main_v85, val_main_cst_12, val_main_v84, val_main_v83, val_main_cst_11, e]

theorem centred_apply (p : Fin 8) (i : Fin 64) : val_main_v88 (F := Ideal) y0 y1 (ix4 b s p i) = centred (both y0 y1 b s) (lane p i) := by
  unfold centred
  rw [← mean_apply, ← both_apply]
  generalize e : val_main_v82 (F := Ideal) y0 y1 = q
  generalize e' : val_main_v86 (F := Ideal) y0 y1 = q'
  pointwise [val_main_v88, val_main_v87, e, e']

theorem centred_apply' (p : Fin 8) (i : Fin 64) : val_main_v95 (F := Ideal) y0 y1 (ix4 b s p i) = centred (both y0 y1 b s) (lane p i) := by
  unfold centred
  rw [← mean_apply, ← both_apply]
  generalize e : val_main_v82 (F := Ideal) y0 y1 = q
  generalize e' : val_main_v86 (F := Ideal) y0 y1 = q'
  pointwise [val_main_v95, val_main_v94, e, e']

theorem spread_apply (p : Fin 8) (i : Fin 64) :
    val_main_v98 (F := Ideal) y0 y1 (ix4 (n0 := 16) (n1 := 4096) (n2 := 8) (n3 := 1) b s p 0)
      = Ideal.rsqrt (headSum (fun j => centred (both y0 y1 b s) j * centred (both y0 y1 b s) j) (lane p i) * Ideal.ofBits .f32 0x3C800000#32 + Ideal.ofBits .f32 0x3A27C5AC#32) := by
  rw [headSum_lane, ← div_sixtyFour]
  simp only [← centred_apply]
  generalize e : val_main_v88 (F := Ideal) y0 y1 = q
  pointwise [val_main_v98, val_main_v97, val_main_v96, val_main_cst_15, val_main_v93, val_main_v92, val_main_cst_14, val_main_v91, val_main_v90, val_main_cst_13, val_main_v89, e]

theorem scaled_apply (p : Fin 8) (i : Fin 64) : val_main_v100 (F := Ideal) y0 y1 (ix4 b s p i)
    = centred (both y0 y1 b s) (lane p i)
      * Ideal.rsqrt (headSum (fun j => centred (both y0 y1 b s) j * centred (both y0 y1 b s) j) (lane p i) * Ideal.ofBits .f32 0x3C800000#32 + Ideal.ofBits .f32 0x3A27C5AC#32) := by
  rw [← spread_apply, ← centred_apply']
  generalize e : val_main_v95 (F := Ideal) y0 y1 = q
  generalize e' : val_main_v98 (F := Ideal) y0 y1 = q'
  pointwise [val_main_v100, val_main_v99, e, e']

theorem normed_apply (c : Fin 512) : val_main_v107 (F := Ideal) y0 y1 lw lb (ix3 b s c)
    = normedHeads (both y0 y1 b s) (fun c => lw (ix1 c)) (fun c => lb (ix1 c)) c := by
  have f : val_main_v101 (F := Ideal) y0 y1 (ix3 b s c) = _ := (columns_apply (val_main_v100 (F := Ideal) y0 y1) _ b s c).trans (scaled_apply y0 y1 b s _ _)
  rw [show lane ⟨c.val / 64, by omega⟩ ⟨c.val % 64, by omega⟩ = c from column_lane c] at f
  unfold normedHeads
  rw [← f]
  show val_main_v107 (F := Ideal) y0 y1 lw lb (ix3 b s c) = val_main_v101 (F := Ideal) y0 y1 (ix3 b s c) * _ + _
  generalize e : val_main_v101 (F := Ideal) y0 y1 = q
  pointwise [val_main_v107, val_main_v106, val_main_v105, val_main_v104, val_main_v103, val_main_v102, e]

/-- The reference's bonus. -/
noncomputable def bonusAt (c : Fin 512) : EReal :=
  bonusOne (receptance u b s) (key u b s) (value u b s) (rate0 u a0 aup b s) (fun c => ka (ix1 c)) (bonusWeight rk) c
    + bonusOne (receptance u b s) (key u b s) (value u b s) (rate1 u a0 aup b s) (fun c => ka (ix1 c)) (bonusWeight rk) c

theorem bonus_apply (c : Fin 512) : val_main_v108 (F := Ideal) u a0 aup ka rk (ix3 b s c) = bonusAt u a0 aup ka rk b s c := by
  refine (columns_apply (val_main_v79 (F := Ideal) u a0 aup ka rk) _ b s c).trans ?_
  refine (congrArg₂ (· + ·) (bonus0_apply u a0 aup ka rk b s ⟨c.val / 64, by omega⟩ ⟨c.val % 64, by omega⟩)
    (bonus1_apply u a0 aup ka rk b s ⟨c.val / 64, by omega⟩ ⟨c.val % 64, by omega⟩) : _).trans ?_
  rw [show lane ⟨c.val / 64, by omega⟩ ⟨c.val % 64, by omega⟩ = c from column_lane c]
  rfl

/-- The gate of a token. -/
noncomputable def gateAt (c : Fin 512) : EReal :=
  gate (fun i : Fin 128 => u (ix3 (n0 := 16) (n1 := 4096) (n2 := 1920) b s ⟨1792 + i.val, by omega⟩)) (fun i j => gup (ix2 (n0 := 128) (n1 := 512) i j)) c

/-- One entry of the result, by the bonus. -/
noncomputable def outAt (bonus : Fin 512 → EReal) (d : Fin 1024) : EReal :=
  projected (fun k => h (ix3 b s k)) (fun k => yna (ix3 b s k)) (normedHeads (both y0 y1 b s) (fun c => lw (ix1 c)) (fun c => lb (ix1 c)))
    bonus (gateAt u gup b s) (fun k d => w (ix2 k d)) d

theorem mixed_apply (c : Fin 512) : val_main_v110 (F := Ideal) y0 y1 u a0 aup gup ka rk lw lb (ix3 b s c)
    = (normedHeads (both y0 y1 b s) (fun c => lw (ix1 c)) (fun c => lb (ix1 c)) c + bonusAt u a0 aup ka rk b s c) * gateAt u gup b s c := by
  unfold gateAt
  rw [← normed_apply, ← bonus_apply, ← gate_apply]
  rfl

theorem beside_apply (k : Fin 1024) : val_main_v112 (F := Ideal) yna y0 y1 u a0 aup gup ka rk lw lb (ix3 b s k)
    = beside (fun k => yna (ix3 b s k))
      (fun c => (normedHeads (both y0 y1 b s) (fun c => lw (ix1 c)) (fun c => lb (ix1 c)) c + bonusAt u a0 aup ka rk b s c) * gateAt u gup b s c) k := by
  unfold beside val_main_v112
  by_cases q : k.val < 512
  · rw [dif_pos q]
    refine (concatenate_apply_piece (t := S16x4096x1024) (2 : Fin 3)
      [⟨S16x4096x512, val_main_v111 (F := Ideal) yna⟩, ⟨S16x4096x512, val_main_v110 (F := Ideal) y0 y1 u a0 aup gup ka rk lw lb⟩] _
      (ix3 b s k) 0 (by exact (by decide : 0 < 2)) S16x4096x512 (val_main_v111 (F := Ideal) yna) rfl rfl 0 rfl
      (ix3 b s ⟨k.val, q⟩) ?_ ?_).trans rfl
    · intro a ha
      match a with
      | ⟨0, _⟩ => rfl
      | ⟨1, _⟩ => rfl
      | ⟨2, _⟩ => exact absurd rfl ha
    · show 0 + k.val = k.val
      omega
  · rw [dif_neg q]
    refine (concatenate_apply_piece (t := S16x4096x1024) (2 : Fin 3)
      [⟨S16x4096x512, val_main_v111 (F := Ideal) yna⟩, ⟨S16x4096x512, val_main_v110 (F := Ideal) y0 y1 u a0 aup gup ka rk lw lb⟩] _
      (ix3 b s k) 1 (by exact (by decide : 1 < 2)) S16x4096x512 (val_main_v110 (F := Ideal) y0 y1 u a0 aup gup ka rk lw lb) rfl rfl 512 rfl
      (ix3 b s ⟨k.val - 512, by omega⟩) ?_ ?_).trans (mixed_apply y0 y1 u a0 aup gup ka rk lw lb b s _)
    · intro a ha
      match a with
      | ⟨0, _⟩ => rfl
      | ⟨1, _⟩ => rfl
      | ⟨2, _⟩ => exact absurd rfl ha
    · show 512 + (k.val - 512) = k.val
      omega

theorem projected_apply (d : Fin 1024) : val_main_v114 (F := Ideal) h yna y0 y1 u a0 aup gup ka rk lw lb w (ix3 b s d)
    = outAt h yna y0 y1 u gup lw lb w b s (bonusAt u a0 aup ka rk b s) d := by
  unfold outAt projected through
  simp only [← beside_apply]
  generalize e : val_main_v112 (F := Ideal) yna y0 y1 u a0 aup gup ka rk lw lb = q
  pointwise [val_main_v114, val_main_v113, e]

/-- The result. -/
theorem result_apply (R : Fin 65536) (e : R.val = b.val * 4096 + s.val) (d : Fin 1024) :
    val_main_v115 (F := Ideal) h yna y0 y1 u a0 aup gup ka rk lw lb w (ix2 R d)
      = outAt h yna y0 y1 u gup lw lb w b s (bonusAt u a0 aup ka rk b s) d :=
  (tokens_apply _ _ R d b s e).trans (projected_apply h yna y0 y1 u a0 aup gup ka rk lw lb w b s d)

end

end Cert.OP.Ref
end
-- ==== Proof.OP.Point.lean ====
module

public import proofs.«01_k».proof.Proof.OP.Array
public import proofs.«01_k».proof.Proof.OP.Ref

/-! # The output projection: the kernel's array -/

@[expose] public section

set_option maxRecDepth 16384

namespace Cert.OP

open Idealize.ShloMosaic Cert.FF Cert.Kernel6Ideal Cert.Kernel6Ideal.Gen

/-- The kernel's bonus, from the sum of the two rates. -/
noncomputable def bonusAt (u : FVec Ideal S16x4096x1920 .f32) (a0 : FVec Ideal S2x512 .f32) (aup : FVec Ideal S2x64x512 .f32)
    (ka : FVec Ideal S512 .f32) (rk : FVec Ideal S8x64 .f32) (b : Fin 16) (s : Fin 4096) (c : Fin 512) : EReal :=
  bonusBoth (Ref.receptance u b s) (Ref.key u b s) (Ref.value u b s) (fun j => Ref.rate0 u a0 aup b s j + Ref.rate1 u a0 aup b s j)
    (fun c => ka (ix1 c)) (Ref.bonusWeight rk) c

/-- The kernel's entry. -/
noncomputable def kernelAt (h : FVec Ideal S16x4096x1024 .f32) (yna : FVec Ideal S16x4096x512 .bf16) (y0 y1 : FVec Ideal S16x4096x512 .f32)
    (u : FVec Ideal S16x4096x1920 .f32) (a0 : FVec Ideal S2x512 .f32) (aup : FVec Ideal S2x64x512 .f32) (gup : FVec Ideal S128x512 .f32)
    (ka : FVec Ideal S512 .f32) (rk : FVec Ideal S8x64 .f32) (lw lb : FVec Ideal S512 .f32) (w : FVec Ideal S1024x1024 .f32)
    (b : Fin 16) (s : Fin 4096) (d : Fin 1024) : EReal :=
  Ref.outAt h yna y0 y1 u gup lw lb w b s (bonusAt u a0 aup ka rk b s) d

/-- The block's entry by what its arguments hold. -/
theorem block_eq (x0 : Vec Ideal S512x1024 .f32) (x1 : Vec Ideal S512x512 .bf16) (x2 x3 x4 x5 x6 : Vec Ideal S512x512 .f32)
    (x7 x8 : Vec Ideal S512x128 .f32) (x9 : Vec Ideal S1x512 .f32) (x10 : Vec Ideal S128x512 .bf16) (x11 : Vec Ideal S1x512 .f32)
    (x12 : Vec Ideal S128x512 .bf16) (x13 x14 : Vec Ideal S1x512 .f32) (x15 : Vec Ideal S128x512 .bf16) (x16 x17 : Vec Ideal S1x512 .f32)
    (x18 : Vec Ideal S256x256 .bf16) (x19 : Vec Ideal S1024x1024 .bf16) (r : Fin 512) (d : Fin 1024)
    (h : Fin 1024 → EReal) (yna y lw lb R K V A ka rk : Fin 512 → EReal) (gl : Fin 128 → EReal) (gup : Fin 128 → Fin 512 → EReal)
    (w : Fin 1024 → Fin 1024 → EReal)
    (e0 : ∀ k, x0 (ix2 r k) = h k) (e1 : ∀ k, x1 (ix2 r k) = yna k)
    (e2 : ∀ k, @HAdd.hAdd EReal EReal EReal _ (x2 (ix2 r k)) (x3 (ix2 r k)) = y k)
    (e4 : ∀ k, x4 (ix2 r k) = R k) (e5 : ∀ k, x5 (ix2 r k) = K k) (e6 : ∀ k, x6 (ix2 r k) = V k)
    (e7 : ∀ j, rate (fun j => x9 (ix2 0 j)) (fun j => x7 (ix2 r j)) (fun j c => x10 (ix2 j c)) j
        + rate (fun j => x11 (ix2 0 j)) (fun j => x7 (ix2 r j)) (fun j c => x12 (ix2 j c)) j = A j)
    (e8 : ∀ k, x8 (ix2 r k) = gl k) (e13 : ∀ k, x13 (ix2 0 k) = ka k) (e14 : ∀ k, x14 (ix2 0 k) = rk k)
    (e15 : ∀ j k, x15 (ix2 j k) = gup j k) (e16 : ∀ k, x16 (ix2 0 k) = lw k) (e17 : ∀ k, x17 (ix2 0 k) = lb k)
    (e19 : ∀ j k, x19 (ix2 j k) = w j k) :
    block x0 x1 x2 x3 x4 x5 x6 x7 x8 x9 x10 x11 x12 x13 x14 x15 x16 x17 x18 x19 (ix2 (n0 := 512) (n1 := 1024) r d)
      = projected h yna (normedHeads y lw lb) (bonusBoth R K V A ka rk) (gate gl gup) w d := by
  obtain rfl := funext e0
  obtain rfl := funext e1
  obtain rfl := funext e2
  obtain rfl := funext e4
  obtain rfl := funext e5
  obtain rfl := funext e6
  obtain rfl := funext e7
  obtain rfl := funext e8
  obtain rfl := funext e13
  obtain rfl := funext e14
  obtain rfl := funext fun j => funext (e15 j)
  obtain rfl := funext e16
  obtain rfl := funext e17
  obtain rfl := funext fun j => funext (e19 j)
  rfl

section
variable (m : (ℓ : Loc nD τ sig) → Buf (Elt Ideal) ℓ) (c : Dev nD) (t : Fin cfg0.N)

theorem rate0_point (r : Fin 512) (b : Fin 16) (s : Fin 4096) (h : b.val * 4096 + s.val = t.val * 512 + r.val) (j : Fin 512) :
    rate (fun j => iblk m c 9 t (ix2 0 j)) (fun j => iblk m c 7 t (ix2 (n0 := 512) (n1 := 128) r j)) (fun j k => iblk m c 10 t (ix2 j k)) j
      = Ref.rate0 (m ((c.tc : Thread nD τ).loc main_arg4)) (m ((c.tc : Thread nD τ).loc main_arg5)) (m ((c.tc : Thread nD τ).loc main_arg6)) b s j := by
  unfold rate Ref.rate0 rate
  refine congrArg Ideal.logistic (congrArg₂ (· + ·) (block9 m c t j) ?_)
  refine (Finset.sum_congr rfl fun k _ => congrArg₂ (fun p q : EReal => p * q) (block7 m c t r k b s h) (block10 m c t k j)).trans ?_
  exact through_below (fun i : Fin 128 => (m ((c.tc : Thread nD τ).loc main_arg4)) (ix3 (n0 := 16) (n1 := 4096) (n2 := 1920) b s ⟨1664 + i.val, by omega⟩))
    (fun i j => (m ((c.tc : Thread nD τ).loc main_arg6)) (ix3 (n0 := 2) (n1 := 64) (n2 := 512) 0 i j)) j

theorem rate1_point (r : Fin 512) (b : Fin 16) (s : Fin 4096) (h : b.val * 4096 + s.val = t.val * 512 + r.val) (j : Fin 512) :
    rate (fun j => iblk m c 11 t (ix2 0 j)) (fun j => iblk m c 7 t (ix2 (n0 := 512) (n1 := 128) r j)) (fun j k => iblk m c 12 t (ix2 j k)) j
      = Ref.rate1 (m ((c.tc : Thread nD τ).loc main_arg4)) (m ((c.tc : Thread nD τ).loc main_arg5)) (m ((c.tc : Thread nD τ).loc main_arg6)) b s j := by
  unfold rate Ref.rate1 rate
  refine congrArg Ideal.logistic (congrArg₂ (· + ·) (block11 m c t j) ?_)
  refine (Finset.sum_congr rfl fun k _ => congrArg₂ (fun p q : EReal => p * q) (block7 m c t r k b s h) (block12 m c t k j)).trans ?_
  refine (through_above (fun i : Fin 128 => (m ((c.tc : Thread nD τ).loc main_arg4)) (ix3 (n0 := 16) (n1 := 4096) (n2 := 1920) b s ⟨1664 + i.val, by omega⟩))
    (fun i j => (m ((c.tc : Thread nD τ).loc main_arg6)) (ix3 (n0 := 2) (n1 := 64) (n2 := 512) 1 i j)) j).trans ?_
  refine Finset.sum_congr rfl fun i _ => congrArg (fun q => @HMul.hMul EReal EReal EReal _ ((m ((c.tc : Thread nD τ).loc main_arg4)) (ix3 (n0 := 16) (n1 := 4096) (n2 := 1920) b s q)) _) (Fin.ext ?_)
  show 1664 + (64 + i.val) = 1728 + i.val
  omega

theorem point (r : Fin 512) (d : Fin 1024) (b : Fin 16) (s : Fin 4096) (h : b.val * 4096 + s.val = t.val * 512 + r.val) :
    block (iblk m c 0 t) (iblk m c 1 t) (iblk m c 2 t) (iblk m c 3 t) (X0_4 m c t) (X0_5 m c t) (X0_6 m c t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 (n0 := 512) (n1 := 1024) r d)
      = kernelAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b s d := by
  unfold kernelAt Ref.outAt bonusAt Ref.gateAt
  exact block_eq _ _ _ _ _ _ _ _ _ _ _ _ _ _ _ _ _ _ _ _ r d _ _ _ _ _ _ _ _ _ _ _ _ _ _
    (fun k => block0 m c t r k b s h) (fun k => block1 m c t r k b s h)
    (fun k => congrArg₂ (fun p q : EReal => p + q) (block2 m c t r k b s h) (block3 m c t r k b s h))
    (fun k => block4 m c t r k b s h) (fun k => block5 m c t r k b s h) (fun k => block6 m c t r k b s h)
    (fun j => congrArg₂ (fun p q : EReal => p + q) (rate0_point m c t r b s h j) (rate1_point m c t r b s h j))
    (fun k => block8 m c t r k b s h) (fun k => block13 m c t k) (fun k => block14 m c t k) (fun j k => block15 m c t j k)
    (fun k => block16 m c t k) (fun k => block17 m c t k) (fun j k => block19 m c t j k)

end

/-- The result. -/
theorem array_eq (m : (ℓ : Loc nD τ sig) → Buf (Elt Ideal) ℓ) (c : Dev nD) :
    (dats m 0 c).arrAt 20 cfg0.N = fun y : S65536x1024.Idx =>
      kernelAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ⟨(y 0).val / 4096, by have : (y 0).val < 65536 := (y 0).isLt; omega⟩ ⟨(y 0).val % 4096, by omega⟩ (y 1) := by
  refine (dats m 0 c).arrAt_eq_of_covers 20 _ (by decide +kernel) fun t hf y => ?_
  blk_simp
  rw [after0_20]
  unfold outsAt0
  rw [out_apply (hhm := fun i j => block18 m c t i j)]
  have y0 : (y 0).val < 512 := (y 0).isLt
  have y1 : (y 1).val < 1024 := (y 1).isLt
  have e1 : (((cfg0.win 20).blk t).view.emb y) 1 = (y 1 : Fin 1024) := by
    refine Fin.ext ?_
    blk_simp [index20 t]
  rw [e1]
  refine (congrArg _ (eta2 (n0 := 512) (n1 := 1024) y)).trans (point m c t (y 0) (y 1) _ _ ?_)
  have i0 : win0_20.index t 0 = t.val := by rw [index20]; rfl
  show (win0_20.index t 0 * 512 + (y 0).val) / 4096 * 4096 + (win0_20.index t 0 * 512 + (y 0).val) % 4096 = t.val * 512 + (y 0).val
  rw [i0]
  omega

end Cert.OP
end
-- ==== Proof.OP.Finish.lean ====
module

public import proofs.«01_k».proof.Defs
public import proofs.«01_k».proof.Proof.OP.Point
public import proofs.«01_k».proof.Proof.NA.Finish
public import proofs.«01_k».proof.Proof.Gen.Reference6Ideal.Run
public import Idealize.ShloMosaic.Lib.Claim

/-! # The output projection: the kernel's array is the reference's -/

@[expose] public section

set_option maxRecDepth 16384

namespace Cert.OP

open Idealize.ShloMosaic Idealize.SL.Sem Cert.FF

/-- The side conditions of the precondition's operations. -/
theorem pre_facts : Cert.Pre_finite_mix.Facts where
  slices_S16x4096x1920_S16x4096x1536_0_0_0 := by decide
  bcast_S_S16x4096x1536 := by decide
  bcast_S_S512 := by decide
  bcast_S_S8x64 := by decide

section
variable [hPre : Cert.Pre_finite_mix.Facts] (x0 : FVec Ideal Cert.Pre_finite_mix.S16x4096x1024 .f32) (x1 : FVec Ideal Cert.Pre_finite_mix.S16x4096x512 .bf16)
  (x2 x3 : FVec Ideal Cert.Pre_finite_mix.S16x4096x512 .f32) (x4 : FVec Ideal Cert.Pre_finite_mix.S16x4096x1920 .f32)
  (x5 : FVec Ideal Cert.Pre_finite_mix.S2x512 .f32) (x6 : FVec Ideal Cert.Pre_finite_mix.S2x64x512 .f32)
  (x7 : FVec Ideal Cert.Pre_finite_mix.S128x512 .f32) (x8 : FVec Ideal Cert.Pre_finite_mix.S512 .f32) (x9 : FVec Ideal Cert.Pre_finite_mix.S8x64 .f32)
  (x10 x11 : FVec Ideal Cert.Pre_finite_mix.S512 .f32) (x12 : FVec Ideal Cert.Pre_finite_mix.S1024x1024 .f32)

theorem columns_real (h : (Cert.Pre_finite_mix.fn (F := Ideal) x0 x1 x2 x3 x4 x5 x6 x7 x8 x9 x10 x11 x12).1 = fun _ => 1#1)
    (b : Fin 16) (s : Fin 4096) (c : Fin 1920) (hc : c.val < 1536) : ∃ q : ℝ, x4 (ix3 b s c) = q := by
  have e := congrFun h (ix3 b s ⟨c.val, hc⟩)
  revert e
  pointwise [Cert.Pre_finite_mix.fn]
  intro e
  rw [Cert.NA.negInf_bits, Cert.NA.posInf_bits] at e
  exact Cert.NA.real_of_between _ e

theorem scales_real (h : (Cert.Pre_finite_mix.fn (F := Ideal) x0 x1 x2 x3 x4 x5 x6 x7 x8 x9 x10 x11 x12).2.1 = fun _ => 1#1)
    (c : Fin 512) : ∃ q : ℝ, x8 (ix1 c) = q := by
  have e := congrFun h (ix1 c)
  revert e
  pointwise [Cert.Pre_finite_mix.fn]
  intro e
  rw [Cert.NA.negInf_bits, Cert.NA.posInf_bits] at e
  exact Cert.NA.real_of_between _ e

theorem weights_real (h : (Cert.Pre_finite_mix.fn (F := Ideal) x0 x1 x2 x3 x4 x5 x6 x7 x8 x9 x10 x11 x12).2.2 = fun _ => 1#1)
    (p : Fin 8) (i : Fin 64) : ∃ q : ℝ, x9 (ix2 p i) = q := by
  have e := congrFun h (ix2 p i)
  revert e
  pointwise [Cert.Pre_finite_mix.fn]
  intro e
  rw [Cert.NA.negInf_bits, Cert.NA.posInf_bits] at e
  exact Cert.NA.real_of_between _ e

/-- The two bonuses agree. -/
theorem bonuses_eq (h : (Cert.Pre_finite_mix.fn (F := Ideal) x0 x1 x2 x3 x4 x5 x6 x7 x8 x9 x10 x11 x12).1 = fun _ => 1#1)
    (h' : (Cert.Pre_finite_mix.fn (F := Ideal) x0 x1 x2 x3 x4 x5 x6 x7 x8 x9 x10 x11 x12).2.1 = fun _ => 1#1)
    (h'' : (Cert.Pre_finite_mix.fn (F := Ideal) x0 x1 x2 x3 x4 x5 x6 x7 x8 x9 x10 x11 x12).2.2 = fun _ => 1#1) (b : Fin 16) (s : Fin 4096) :
    bonusAt x4 x5 x6 x8 x9 b s = Ref.bonusAt x4 x5 x6 x8 x9 b s := by
  funext c
  exact bonus_eq (Ref.receptance x4 b s) (Ref.key x4 b s) (Ref.value x4 b s) (Ref.rate0 x4 x5 x6 b s) (Ref.rate1 x4 x5 x6 b s)
    (fun c => x8 (ix1 c)) (Ref.bonusWeight x9) c
    (fun j => columns_real x0 x1 x2 x3 x4 x5 x6 x7 x8 x9 x10 x11 x12 h b s _ (by show j.val < 1536; omega))
    (fun j => columns_real x0 x1 x2 x3 x4 x5 x6 x7 x8 x9 x10 x11 x12 h b s _ (by show 512 + j.val < 1536; omega))
    (fun j => columns_real x0 x1 x2 x3 x4 x5 x6 x7 x8 x9 x10 x11 x12 h b s _ (by show 1024 + j.val < 1536; omega))
    (fun j => logistic_real _) (fun j => logistic_real _)
    (fun j => scales_real x0 x1 x2 x3 x4 x5 x6 x7 x8 x9 x10 x11 x12 h' j)
    (fun j => weights_real x0 x1 x2 x3 x4 x5 x6 x7 x8 x9 x10 x11 x12 h'' _ _)

/-- The two results agree. -/
theorem results_eq (h : (Cert.Pre_finite_mix.fn (F := Ideal) x0 x1 x2 x3 x4 x5 x6 x7 x8 x9 x10 x11 x12).1 = fun _ => 1#1)
    (h' : (Cert.Pre_finite_mix.fn (F := Ideal) x0 x1 x2 x3 x4 x5 x6 x7 x8 x9 x10 x11 x12).2.1 = fun _ => 1#1)
    (h'' : (Cert.Pre_finite_mix.fn (F := Ideal) x0 x1 x2 x3 x4 x5 x6 x7 x8 x9 x10 x11 x12).2.2 = fun _ => 1#1) :
    Cert.Reference6Ideal.Read.val_main_v115 (F := Ideal) x0 x1 x2 x3 x4 x5 x6 x7 x8 x9 x10 x11 x12
      = fun y : Cert.Kernel6Ideal.S65536x1024.Idx => kernelAt x0 x1 x2 x3 x4 x5 x6 x7 x8 x9 x10 x11 x12
        ⟨(y 0).val / 4096, by have : (y 0).val < 65536 := (y 0).isLt; omega⟩ ⟨(y 0).val % 4096, by omega⟩ (y 1) := by
  funext y
  refine (congrArg _ (eta2 (n0 := 65536) (n1 := 1024) y)).trans
    ((Ref.result_apply x0 x1 x2 x3 x4 x5 x6 x7 x8 x9 x10 x11 x12 ⟨(y 0).val / 4096, by have : (y 0).val < 65536 := (y 0).isLt; omega⟩
      ⟨(y 0).val % 4096, by omega⟩ (y 0) ?_ (y 1)).trans ?_)
  · show (y 0).val = (y 0).val / 4096 * 4096 + (y 0).val % 4096
    omega
  · unfold kernelAt
    rw [bonuses_eq x0 x1 x2 x3 x4 x5 x6 x7 x8 x9 x10 x11 x12 h h' h'']

end

theorem algebraic : Cert.algebraic_Kernel6Ideal_Reference6Ideal_pre_finite_mix (hKernel6Ideal := Cert.Kernel6Ideal.Gen.facts)
    (hReference6Ideal := Cert.Reference6Ideal.Gen.facts) (hPre_finite_mix := pre_facts) := by
  intro m g m' g' hpre hagree
  have := pre_facts
  refine ⟨fun c => (Cert.Kernel6Ideal.Gen.dats m 0 c).arrAt 20 Cert.Kernel6Ideal.cfg0.N, Cert.Kernel6Ideal.Value.run_blocks m g, ?_⟩
  refine (θ_run _ _ _).mono (fun r h c => ?_) (Cert.Reference6Ideal.Value.run m' g')
  refine ⟨(h c).1.trans ?_, (h c).2⟩
  rw [Cert.Reference6Ideal.Read.val_main_v115_eq]
  refine Eq.trans ?_ (array_eq m c).symm
  obtain ⟨e0, e1, e2, e3, e4, e5, e6, e7, e8, e9, e10, e11, e12⟩ := hagree c
  have p := hpre c
  refine Eq.trans ?_ (results_eq _ _ _ _ _ _ _ _ _ _ _ _ _ p.1 p.2.1 p.2.2)
  rw [e0, e1, e2, e3, e4, e5, e6, e7, e8, e9, e10, e11, e12]

theorem reference_quiescent : Cert.quiescent_Reference6Ideal (hReference6Ideal := Cert.Reference6Ideal.Gen.facts) := by
  intro m g _
  exact (θ_run Cert.Reference6Ideal.defs _ _).mono
    (fun r h => ⟨fun c => (h c).2, sem_eq_zero_of_no_sems (by decide) r.2⟩) (Cert.Reference6Ideal.Value.run m g)

end Cert.OP
end
-- ==== Proof.lean ====
/- The certificate's conclusion: the frames, and the value claims from `Proof/NA`, `Proof/FF`, `Proof/IP` and `Proof/OP`. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.NA.Finish
public import proofs.«01_k».proof.Proof.FF.FirstFinish
public import proofs.«01_k».proof.Proof.FF.LastPrompt
public import proofs.«01_k».proof.Proof.FF.LastSample
public import proofs.«01_k».proof.Proof.IP.Finish
public import proofs.«01_k».proof.Proof.OP.Frame
public import proofs.«01_k».proof.Proof.OP.Finish
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.NA.pre_facts, Cert.OP.pre_facts,
    fun m g _ => Cert.Kernel.Gen.frame m g, fun m g _ => Cert.KernelIdeal.Gen.frame m g, fun m g _ => Cert.KernelIdeal.Gen.frame m g,
    Cert.NA.reference_quiescent, fun m g _ => Cert.NA.reference_quiescent m g trivial,
    fun m g _ => Cert.Kernel2.Gen.frame m g, fun m g _ => Cert.Kernel2Ideal.Gen.frame m g, Cert.FF.Prompt.reference_quiescent,
    fun m g _ => Cert.Kernel3.Gen.frame m g, fun m g _ => Cert.Kernel3Ideal.Gen.frame m g, Cert.FF.Sample.reference_quiescent,
    fun m g _ => Cert.Kernel4.Gen.frame m g, fun m g _ => Cert.Kernel4Ideal.Gen.frame m g, Cert.FF.First.reference_quiescent,
    fun m g _ => Cert.Kernel5.Gen.frame m g, fun m g _ => Cert.Kernel5Ideal.Gen.frame m g, Cert.IP.reference_quiescent,
    fun m g _ => Cert.Kernel6.Gen.frame m g, fun m g _ => Cert.Kernel6Ideal.Gen.frame m g, fun m g _ => Cert.Kernel6Ideal.Gen.frame m g,
    Cert.OP.reference_quiescent, fun m g _ => Cert.OP.reference_quiescent m g trivial,
    trivial, Cert.NA.algebraic, trivial, Cert.FF.Prompt.algebraic, trivial, Cert.FF.Sample.algebraic, trivial, Cert.FF.First.algebraic,
    trivial, Cert.IP.algebraic, trivial, Cert.OP.algebraic⟩

end Cert.Proof

end
